-- ==== Defs.lean ====
def Pre_Kernel [hPre_neighbors_in_batch : Cert.Pre_neighbors_in_batch.Facts] (m : (ℓ : Loc Cert.Kernel.nD Cert.Kernel.τ Cert.Kernel.sig) → Buf (Elt Bits) ℓ) : Prop :=
  ∀ c : Dev Cert.Kernel.nD,
    (Cert.Pre_neighbors_in_batch.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_neighbors_in_batch : Cert.Pre_neighbors_in_batch.Facts] (m : (ℓ : Loc Cert.KernelIdeal.nD Cert.KernelIdeal.τ Cert.KernelIdeal.sig) → Buf (Elt Ideal) ℓ) : Prop :=
  ∀ c : Dev Cert.KernelIdeal.nD,
    (Cert.Pre_neighbors_in_batch.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_regular_inputs [hPre_regular_inputs : Cert.Pre_regular_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_regular_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular_inputs [hPre_regular_inputs : Cert.Pre_regular_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_neighbors_in_batch : Cert.Pre_neighbors_in_batch.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_neighbors_in_batch : Cert.Pre_neighbors_in_batch.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_regular_inputs [hKernelIdeal : Cert.KernelIdeal.Facts] [hPre_regular_inputs : Cert.Pre_regular_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_regular_inputs [hReferenceIdeal : Cert.ReferenceIdeal.Facts] [hPre_regular_inputs : Cert.Pre_regular_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_temp" .f32 0x41A00000#32 ((268435456 / 13421773 : ℝ) : EReal)
  ∧ IdealRules.named_const.Statement Cert.KernelIdeal.κ "one_neighbor" .f32 0x3D4CCCCD#32 ((1 / 20 : ℝ) : EReal)

def algebraic_KernelIdeal_ReferenceIdeal_pre_regular_inputs [hKernelIdeal : Cert.KernelIdeal.Facts] [hReferenceIdeal : Cert.ReferenceIdeal.Facts] [hPre_regular_inputs : Cert.Pre_regular_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_v106) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_neighbors_in_batch : Cert.Pre_neighbors_in_batch.Facts) (hPre_regular_inputs : Cert.Pre_regular_inputs.Facts),
    quiescent_Kernel (hKernel := hKernel) (hPre_neighbors_in_batch := hPre_neighbors_in_batch)
    ∧ quiescent_KernelIdeal (hKernelIdeal := hKernelIdeal) (hPre_neighbors_in_batch := hPre_neighbors_in_batch)
    ∧ quiescent_KernelIdeal_pre_regular_inputs (hKernelIdeal := hKernelIdeal) (hPre_regular_inputs := hPre_regular_inputs)
    ∧ quiescent_ReferenceIdeal (hReferenceIdeal := hReferenceIdeal)
    ∧ quiescent_ReferenceIdeal_pre_regular_inputs (hReferenceIdeal := hReferenceIdeal) (hPre_regular_inputs := hPre_regular_inputs)
    ∧ preserves_Kernel_KernelIdeal
    ∧ algebraic_KernelIdeal_ReferenceIdeal_pre_regular_inputs (hKernelIdeal := hKernelIdeal) (hReferenceIdeal := hReferenceIdeal) (hPre_regular_inputs := hPre_regular_inputs)
-- ==== Pre_neighbors_in_batch.lean ====
abbrev S512x2048 : Shape := ⟨2, ![512, 2048]⟩
abbrev S512x8192 : Shape := ⟨2, ![512, 8192]⟩
abbrev S512 : Shape := ⟨1, ![512]⟩
abbrev S512x20 : Shape := ⟨2, ![512, 20]⟩
abbrev S_ : Shape := ⟨0, ![]⟩
abbrev S8192x2048 : Shape := ⟨2, ![8192, 2048]⟩

class Facts : Prop where
  bcast_S_S512x20 : S_.BroadcastsInDim S512x20 (![] : Fin 0 → Fin S512x20.rank)

variable [Facts]

def fn {F : FTy → Type} [FloatOps F] (main_arg0 : FVec F S512x2048 .f32) (main_arg1 : FVec F S512x8192 .f32) (main_arg2 : FVec F S512x8192 .f32) (main_arg3 : IVec S512 32) (main_arg4 : IVec S512 32) (main_arg5 : IVec S512x20 32) (main_arg6 : FVec F S512x20 .f32) (main_arg7 : FVec F S_ .f32) (main_arg8 : FVec F S8192x2048 .f32) : IVec S512x20 1 :=
  let main_c : IVec S_ 32 := constantI S_ 32 0#32
  let main_v0 : IVec S512x20 32 := broadcastInDim S512x20 ![] bcast_S_S512x20 main_c
  let main_v1 : IVec S512x20 1 := cmpi .sge main_arg5 main_v0
  let main_c_0 : IVec S_ 32 := constantI S_ 32 512#32
  let main_v2 : IVec S512x20 32 := broadcastInDim S512x20 ![] bcast_S_S512x20 main_c_0
  let main_v3 : IVec S512x20 1 := cmpi .slt main_arg5 main_v2
  let main_v4 : IVec S512x20 1 := andi main_v1 main_v3
  main_v4
-- ==== Pre_regular_inputs.lean ====
abbrev S512x2048 : Shape := ⟨2, ![512, 2048]⟩
abbrev S512x8192 : Shape := ⟨2, ![512, 8192]⟩
abbrev S512 : Shape := ⟨1, ![512]⟩
abbrev S512x20 : Shape := ⟨2, ![512, 20]⟩
abbrev S_ : Shape := ⟨0, ![]⟩
abbrev S8192x2048 : Shape := ⟨2, ![8192, 2048]⟩

class Facts : Prop where
  bcast_S_S512x20 : S_.BroadcastsInDim S512x20 (![] : Fin 0 → Fin S512x20.rank)
  reducesTo_S512x20_S_d0_1 : S512x20.ReducesTo [0, 1] S_
  h_S_ : 0 < S_.numel
  bcast_S_S512 : S_.BroadcastsInDim S512 (![] : Fin 0 → Fin S512.rank)
  reducesTo_S512_S_d0 : S512.ReducesTo [0] S_
  bcast_S_S512x8192 : S_.BroadcastsInDim S512x8192 (![] : Fin 0 → Fin S512x8192.rank)
  reducesTo_S512x8192_S_d0_1 : S512x8192.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S512x2048 : S_.BroadcastsInDim S512x2048 (![] : Fin 0 → Fin S512x2048.rank)
  reducesTo_S512x2048_S512_d1 : S512x2048.ReducesTo [1] S512

variable [Facts]

def fn_part2 {F : FTy → Type} [FloatOps F] (main_arg0 : FVec F S512x2048 .f32) (main_v32 : IVec S_ 1) (main_cst_12 : FVec F S_ .f32) : IVec S_ 1 :=
  let main_v33 : FVec F S512x2048 .f32 := broadcastInDim S512x2048 ![] bcast_S_S512x2048 main_cst_12
  let main_v34 : IVec S512x2048 1 := cmpf .une main_arg0 main_v33
  let main_c_13 : IVec S_ 1 := constantI S_ 1 0#1
  let main_v35 : IVec S512 1 := (fun x v => Host.reduce IntOp.ori x v reducesTo_S512x2048_S512_d1 h_S_) main_v34 main_c_13
  let main_c_14 : IVec S_ 1 := constantI S_ 1 1#1
  let main_v36 : IVec S_ 1 := (fun x v => Host.reduce IntOp.andi x v reducesTo_S512_S_d0 h_S_) main_v35 main_c_14
  let main_v37 : IVec S_ 1 := andi main_v32 main_v36
  main_v37

def fn_part1 {F : FTy → Type} [FloatOps F] (main_arg0 : FVec F S512x2048 .f32) (main_arg2 : FVec F S512x8192 .f32) (main_arg6 : FVec F S512x20 .f32) (main_arg8 : FVec F S8192x2048 .f32) (main_v12 : IVec S_ 1) (main_v15 : IVec S512x8192 1) (main_c_5 : IVec S_ 1) : IVec S_ 1 :=
  let main_v16 : IVec S_ 1 := (fun x v => Host.reduce IntOp.andi x v reducesTo_S512x8192_S_d0_1 h_S_) main_v15 main_c_5
  let main_v17 : IVec S_ 1 := andi main_v12 main_v16
  let main_v18 : FVec F S512x8192 .f32 := Host.absf main_arg2
  let main_cst_6 : FVec F S_ .f32 := constant S_ .f32 0x7F800000#32
  let main_v19 : FVec F S512x8192 .f32 := broadcastInDim S512x8192 ![] bcast_S_S512x8192 main_cst_6
  let main_v20 : IVec S512x8192 1 := cmpf .olt main_v18 main_v19
  let main_c_7 : IVec S_ 1 := constantI S_ 1 1#1
  let main_v21 : IVec S_ 1 := (fun x v => Host.reduce IntOp.andi x v reducesTo_S512x8192_S_d0_1 h_S_) main_v20 main_c_7
  let main_v22 : IVec S_ 1 := andi main_v17 main_v21
  let main_v23 : FVec F S512x20 .f32 := Host.absf main_arg6
  let main_cst_8 : FVec F S_ .f32 := constant S_ .f32 0x7F800000#32
  let main_v24 : FVec F S512x20 .f32 := broadcastInDim S512x20 ![] bcast_S_S512x20 main_cst_8
  let main_v25 : IVec S512x20 1 := cmpf .olt main_v23 main_v24
  let main_c_9 : IVec S_ 1 := constantI S_ 1 1#1
  let main_v26 : IVec S_ 1 := (fun x v => Host.reduce IntOp.andi x v reducesTo_S512x20_S_d0_1 h_S_) main_v25 main_c_9
  let main_v27 : IVec S_ 1 := andi main_v22 main_v26
  let main_v28 : FVec F S8192x2048 .f32 := Host.absf main_arg8
  let main_cst_10 : FVec F S_ .f32 := constant S_ .f32 0x7F800000#32
  let main_v29 : FVec F S8192x2048 .f32 := broadcastInDim S8192x2048 ![] bcast_S_S8192x2048 main_cst_10
  let main_v30 : IVec S8192x2048 1 := cmpf .olt main_v28 main_v29
  let main_c_11 : IVec S_ 1 := constantI S_ 1 1#1
  let main_v31 : IVec S_ 1 := (fun x v => Host.reduce IntOp.andi x v reducesTo_S8192x2048_S_d0_1 h_S_) main_v30 main_c_11
  let main_v32 : IVec S_ 1 := andi main_v27 main_v31
  let main_cst_12 : FVec F S_ .f32 := constant S_ .f32 0x00000000#32
  fn_part2 (F := F) main_arg0 main_v32 main_cst_12

def fn {F : FTy → Type} [FloatOps F] (main_arg0 : FVec F S512x2048 .f32) (main_arg1 : FVec F S512x8192 .f32) (main_arg2 : FVec F S512x8192 .f32) (main_arg3 : IVec S512 32) (main_arg4 : IVec S512 32) (main_arg5 : IVec S512x20 32) (main_arg6 : FVec F S512x20 .f32) (main_arg7 : FVec F S_ .f32) (main_arg8 : FVec F S8192x2048 .f32) : IVec S_ 1 :=
  let main_c : IVec S_ 32 := constantI S_ 32 0#32
  let main_v0 : IVec S512x20 32 := broadcastInDim S512x20 ![] bcast_S_S512x20 main_c
  let main_v1 : IVec S512x20 1 := cmpi .sge main_arg5 main_v0
  let main_c_0 : IVec S_ 32 := constantI S_ 32 512#32
  let main_v2 : IVec S512x20 32 := broadcastInDim S512x20 ![] bcast_S_S512x20 main_c_0
  let main_v3 : IVec S512x20 1 := cmpi .slt main_arg5 main_v2
  let main_v4 : IVec S512x20 1 := andi main_v1 main_v3
  let main_c_1 : IVec S_ 1 := constantI S_ 1 1#1
  let main_v5 : IVec S_ 1 := (fun x v => Host.reduce IntOp.andi x v reducesTo_S512x20_S_d0_1 h_S_) main_v4 main_c_1
  let main_c_2 : IVec S_ 32 := constantI S_ 32 0#32
  let main_v6 : IVec S512 32 := broadcastInDim S512 ![] bcast_S_S512 main_c_2
  let main_v7 : IVec S512 1 := cmpi .sge main_arg3 main_v6
  let main_c_3 : IVec S_ 32 := constantI S_ 32 8192#32
  let main_v8 : IVec S512 32 := broadcastInDim S512 ![] bcast_S_S512 main_c_3
  let main_v9 : IVec S512 1 := cmpi .slt main_arg3 main_v8
  let main_v10 : IVec S512 1 := andi main_v7 main_v9
  let main_c_4 : IVec S_ 1 := constantI S_ 1 1#1
  let main_v11 : IVec S_ 1 := (fun x v => Host.reduce IntOp.andi x v reducesTo_S512_S_d0 h_S_) main_v10 main_c_4
  let main_v12 : IVec S_ 1 := andi main_v5 main_v11
  let main_v13 : FVec F S512x8192 .f32 := Host.absf main_arg1
  let main_cst : FVec F S_ .f32 := constant S_ .f32 0x7F800000#32
  let main_v14 : FVec F S512x8192 .f32 := broadcastInDim S512x8192 ![] bcast_S_S512x8192 main_cst
  let main_v15 : IVec S512x8192 1 := cmpf .olt main_v13 main_v14
  let main_c_5 : IVec S_ 1 := constantI S_ 1 1#1
  fn_part1 (F := F) main_arg0 main_arg2 main_arg6 main_arg8 main_v12 main_v15 main_c_5
-- ==== Kernel.lean ====
abbrev S512x2048 : Shape := ⟨2, ![512, 2048]⟩
abbrev S512x8192 : Shape := ⟨2, ![512, 8192]⟩
abbrev S512 : Shape := ⟨1, ![512]⟩
abbrev S512x20 : Shape := ⟨2, ![512, 20]⟩
abbrev S_ : Shape := ⟨0, ![]⟩
abbrev S8192x2048 : Shape := ⟨2, ![8192, 2048]⟩
abbrev S512x1 : Shape := ⟨2, ![512, 1]⟩
abbrev S20x512 : Shape := ⟨2, ![20, 512]⟩
abbrev S20x32x16 : Shape := ⟨3, ![20, 32, 16]⟩
abbrev S32x20x16 : Shape := ⟨3, ![32, 20, 16]⟩
abbrev S262144 : Shape := ⟨1, ![262144]⟩
abbrev S20x16 : Shape := ⟨2, ![20, 16]⟩
abbrev S8192 : Shape := ⟨1, ![8192]⟩
abbrev S1x20x16 : Shape := ⟨3, ![1, 20, 16]⟩
abbrev S16 : Shape := ⟨1, ![16]⟩
abbrev S1x16 : Shape := ⟨2, ![1, 16]⟩
abbrev S512x512 : Shape := ⟨2, ![512, 512]⟩
abbrev S1x1 : Shape := ⟨2, ![1, 1]⟩
abbrev S1x512x1 : Shape := ⟨3, ![1, 512, 1]⟩
abbrev S1 : Shape := ⟨1, ![1]⟩
abbrev S1x1x1 : Shape := ⟨3, ![1, 1, 1]⟩
abbrev S1x512x512 : Shape := ⟨3, ![1, 512, 512]⟩

abbrev nBuf : Table → Nat
  | .hbm => 30
  | .local .tc .vmem => 33
  | .local .scVector .vmem => 4
  | _ => 0

abbrev bufTy : (tb : Table) → Fin (nBuf tb) → BufTy
  | .hbm, ⟨0, _⟩ => ⟨S512x2048, .f32⟩
  | .hbm, ⟨1, _⟩ => ⟨S512x8192, .f32⟩
  | .hbm, ⟨2, _⟩ => ⟨S512x8192, .f32⟩
  | .hbm, ⟨3, _⟩ => ⟨S512, .i32⟩
  | .hbm, ⟨4, _⟩ => ⟨S512, .i32⟩
  | .hbm, ⟨5, _⟩ => ⟨S512x20, .i32⟩
  | .hbm, ⟨6, _⟩ => ⟨S512x20, .f32⟩
  | .hbm, ⟨7, _⟩ => ⟨S_, .f32⟩
  | .hbm, ⟨8, _⟩ => ⟨S8192x2048, .f32⟩
  | .hbm, ⟨9, _⟩ => ⟨S512x1, .i32⟩
  | .hbm, ⟨10, _⟩ => ⟨S20x512, .i32⟩
  | .hbm, ⟨11, _⟩ => ⟨S20x32x16, .i32⟩
  | .hbm, ⟨12, _⟩ => ⟨S32x20x16, .i32⟩
  | .hbm, ⟨13, _⟩ => ⟨S20x512, .f32⟩
  | .hbm, ⟨14, _⟩ => ⟨S20x32x16, .f32⟩
  | .hbm, ⟨15, _⟩ => ⟨S32x20x16, .f32⟩
  | .hbm, ⟨16, _⟩ => ⟨S262144, .f32⟩
  | .hbm, ⟨17, _⟩ => ⟨S262144, .f32⟩
  | .hbm, ⟨18, _⟩ => ⟨S512x512, .f32⟩
  | .hbm, ⟨19, _⟩ => ⟨S512x512, .f32⟩
  | .hbm, ⟨20, _⟩ => ⟨S1x1, .f32⟩
  | .hbm, ⟨21, _⟩ => ⟨S512x1, .f32⟩
  | .hbm, ⟨22, _⟩ => ⟨S512x1, .f32⟩
  | .hbm, ⟨23, _⟩ => ⟨S1x1, .f32⟩
  | .hbm, ⟨24, _⟩ => ⟨S1x1, .f32⟩
  | .hbm, ⟨25, _⟩ => ⟨S1x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local .tc .vmem, ⟨0, _⟩ => ⟨S512x2048, .f32⟩
  | .local .tc .vmem, ⟨1, _⟩ => ⟨S512x1, .i32⟩
  | .local .tc .vmem, ⟨2, _⟩ => ⟨S512x2048, .f32⟩
  | .local .tc .vmem, ⟨3, _⟩ => ⟨S512x2048, .f32⟩
  | .local .tc .vmem, ⟨4, _⟩ => ⟨S512x512, .f32⟩
  | .local .tc .vmem, ⟨5, _⟩ => ⟨S512x512, .f32⟩
  | .local .tc .vmem, ⟨6, _⟩ => ⟨S512x512, .f32⟩
  | .local .tc .vmem, ⟨7, _⟩ => ⟨S512x512, .f32⟩
  | .local .tc .vmem, ⟨8, _⟩ => ⟨S1x1, .f32⟩
  | .local .tc .vmem, ⟨9, _⟩ => ⟨S512x1, .f32⟩
  | .local .tc .vmem, ⟨10, _⟩ => ⟨S512x1, .f32⟩
  | .local .tc .vmem, ⟨11, _⟩ => ⟨S1x1, .f32⟩
  | .local .tc .vmem, ⟨12, _⟩ => ⟨S512x2048, .bf16⟩
  | .local .tc .vmem, ⟨13, _⟩ => ⟨S512x1, .f32⟩
  | .local .tc .vmem, ⟨14, _⟩ => ⟨S512x1, .f32⟩
  | .local .tc .vmem, ⟨15, _⟩ => ⟨S512x1, .f32⟩
  | .local .tc .vmem, ⟨16, _⟩ => ⟨S512x1, .f32⟩
  | .local .tc .vmem, ⟨17, _⟩ => ⟨S512x1, .f32⟩
  | .local .tc .vmem, ⟨18, _⟩ => ⟨S512x1, .f32⟩
  | .local .tc .vmem, ⟨19, _⟩ => ⟨S512x1, .f32⟩
  | .local .tc .vmem, ⟨20, _⟩ => ⟨S512x1, .f32⟩
  | .local .tc .vmem, ⟨21, _⟩ => ⟨S512x512, .f32⟩
  | .local .tc .vmem, ⟨22, _⟩ => ⟨S512x512, .f32⟩
  | .local .tc .vmem, ⟨23, _⟩ => ⟨S512x512, .f32⟩
  | .local .tc .vmem, ⟨24, _⟩ => ⟨S512x512, .f32⟩
  | .local .tc .vmem, ⟨25, _⟩ => ⟨S512x512, .f32⟩
  | .local .tc .vmem, ⟨26, _⟩ => ⟨S512x512, .f32⟩
  | .local .tc .vmem, ⟨27, _⟩ => ⟨S512x1, .f32⟩
  | .local .tc .vmem, ⟨28, _⟩ => ⟨S512x1, .f32⟩
  | .local .tc .vmem, ⟨29, _⟩ => ⟨S1x1, .f32⟩
  | .local .tc .vmem, ⟨30, _⟩ => ⟨S1x1, .f32⟩
  | .local .tc .vmem, ⟨31, _⟩ => ⟨S1x1, .f32⟩
  | .local .tc .vmem, ⟨32, _⟩ => ⟨S1x1, .f32⟩
  | .local .scVector .vmem, ⟨0, _⟩ => ⟨S20x16, .i32⟩
  | .local .scVector .vmem, ⟨1, _⟩ => ⟨S20x16, .f32⟩
  | .local .scVector .vmem, ⟨2, _⟩ => ⟨S8192, .f32⟩
  | .local .scVector .vmem, ⟨3, _⟩ => ⟨S8192, .f32⟩
  | _, _ => ⟨S512x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v11_0 : Ref sig .tc := ⟨.hbm, 24, rfl⟩
abbrev main_v11_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v3_scv : Ref sig .scVector := ⟨.hbm, 12, rfl⟩
abbrev main_v6_scv : Ref sig .scVector := ⟨.hbm, 15, rfl⟩
abbrev main_v7_0_scv : Ref sig .scVector := ⟨.hbm, 16, rfl⟩
abbrev main_v7_1_scv : Ref sig .scVector := ⟨.hbm, 17, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg4_0 : Ref sig .tc := ⟨.vmem, 6, rfl⟩
abbrev cc1_stg4_1 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_scratch0 : Ref sig .tc := ⟨.vmem, 12, rfl⟩
abbrev cc1_scratch1 : Ref sig .tc := ⟨.vmem, 13, rfl⟩
abbrev cc1_scratch2 : Ref sig .tc := ⟨.vmem, 14, rfl⟩
abbrev cc1_scratch3 : Ref sig .tc := ⟨.vmem, 15, rfl⟩
abbrev cc1_scratch4 : Ref sig .tc := ⟨.vmem, 16, rfl⟩
abbrev cc1_scratch5 : Ref sig .tc := ⟨.vmem, 17, rfl⟩
abbrev cc1_scratch6 : Ref sig .tc := ⟨.vmem, 18, rfl⟩
abbrev cc1_scratch7 : Ref sig .tc := ⟨.vmem, 19, rfl⟩
abbrev cc1_scratch8 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_scratch0 : Ref sig .tc := ⟨.vmem, 32, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem6_0 : DmaSem sig := 13
abbrev cc1_sem7_0 : DmaSem sig := 14
abbrev cc1_sem8_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_697_r0 : BitVec 32 := 0#32
  let c0_i32_698_r0 : BitVec 32 := 0#32
  ![v1.toNat, 0, 0]

def k0_chk1 (v1156 : IVec S16 32) : Prop :=
  (∀ a x, ((![v1156] : Fin 1 → IVec S16 32) a x).toNat < S8192.size a) ∧
  (∀ a x, ((![v1156] : Fin 1 → IVec S16 32) a x).toNat < S8192.size a)
theorem k0_idx1_inb : ∀ (v1156 : IVec S16 32) (k0_hw1 : k0_chk1 v1156), ∀ a x, ((![v1156] : Fin 1 → IVec S16 32) a x).toNat < S8192.size a := fun v1156 k0_hw1 => k0_hw1.1
theorem k0_idx2_inb : ∀ (v1156 : IVec S16 32) (k0_hw1 : k0_chk1 v1156), ∀ a x, ((![v1156] : Fin 1 → IVec S16 32) a x).toNat < S8192.size a := fun v1156 k0_hw1 => k0_hw1.2

def k0_chk2 (v1168 : IVec S16 32) : Prop :=
  (∀ a x, ((![v1168] : Fin 1 → IVec S16 32) a x).toNat < S8192.size a) ∧
  (∀ a x, ((![v1168] : Fin 1 → IVec S16 32) a x).toNat < S8192.size a)
theorem k0_idx3_inb : ∀ (v1168 : IVec S16 32) (k0_hw2 : k0_chk2 v1168), ∀ a x, ((![v1168] : Fin 1 → IVec S16 32) a x).toNat < S8192.size a := fun v1168 k0_hw2 => k0_hw2.1
theorem k0_idx4_inb : ∀ (v1168 : IVec S16 32) (k0_hw2 : k0_chk2 v1168), ∀ a x, ((![v1168] : Fin 1 → IVec S16 32) a x).toNat < S8192.size a := fun v1168 k0_hw2 => k0_hw2.2

def k0_chk3 (v1180 : IVec S16 32) : Prop :=
  (∀ a x, ((![v1180] : Fin 1 → IVec S16 32) a x).toNat < S8192.size a) ∧
  (∀ a x, ((![v1180] : Fin 1 → IVec S16 32) a x).toNat < S8192.size a)
theorem k0_idx5_inb : ∀ (v1180 : IVec S16 32) (k0_hw3 : k0_chk3 v1180), ∀ a x, ((![v1180] : Fin 1 → IVec S16 32) a x).toNat < S8192.size a := fun v1180 k0_hw3 => k0_hw3.1
theorem k0_idx6_inb : ∀ (v1180 : IVec S16 32) (k0_hw3 : k0_chk3 v1180), ∀ a x, ((![v1180] : Fin 1 → IVec S16 32) a x).toNat < S8192.size a := fun v1180 k0_hw3 => k0_hw3.2

def k0_chk4 (v1192 : IVec S16 32) : Prop :=
  (∀ a x, ((![v1192] : Fin 1 → IVec S16 32) a x).toNat < S8192.size a) ∧
  (∀ a x, ((![v1192] : Fin 1 → IVec S16 32) a x).toNat < S8192.size a)
theorem k0_idx7_inb : ∀ (v1192 : IVec S16 32) (k0_hw4 : k0_chk4 v1192), ∀ a x, ((![v1192] : Fin 1 → IVec S16 32) a x).toNat < S8192.size a := fun v1192 k0_hw4 => k0_hw4.1
theorem k0_idx8_inb : ∀ (v1192 : IVec S16 32) (k0_hw4 : k0_chk4 v1192), ∀ a x, ((![v1192] : Fin 1 → IVec S16 32) a x).toNat < S8192.size a := fun v1192 k0_hw4 => k0_hw4.2

def k0_chk5 (v1204 : IVec S16 32) : Prop :=
  (∀ a x, ((![v1204] : Fin 1 → IVec S16 32) a x).toNat < S8192.size a) ∧
  (∀ a x, ((![v1204] : Fin 1 → IVec S16 32) a x).toNat < S8192.size a)
theorem k0_idx9_inb : ∀ (v1204 : IVec S16 32) (k0_hw5 : k0_chk5 v1204), ∀ a x, ((![v1204] : Fin 1 → IVec S16 32) a x).toNat < S8192.size a := fun v1204 k0_hw5 => k0_hw5.1
theorem k0_idx10_inb : ∀ (v1204 : IVec S16 32) (k0_hw5 : k0_chk5 v1204), ∀ a x, ((![v1204] : Fin 1 → IVec S16 32) a x).toNat < S8192.size a := fun v1204 k0_hw5 => k0_hw5.2

def k0_chk6 (v1216 : IVec S16 32) : Prop :=
  (∀ a x, ((![v1216] : Fin 1 → IVec S16 32) a x).toNat < S8192.size a) ∧
  (∀ a x, ((![v1216] : Fin 1 → IVec S16 32) a x).toNat < S8192.size a)
theorem k0_idx11_inb : ∀ (v1216 : IVec S16 32) (k0_hw6 : k0_chk6 v1216), ∀ a x, ((![v1216] : Fin 1 → IVec S16 32) a x).toNat < S8192.size a := fun v1216 k0_hw6 => k0_hw6.1
theorem k0_idx12_inb : ∀ (v1216 : IVec S16 32) (k0_hw6 : k0_chk6 v1216), ∀ a x, ((![v1216] : Fin 1 → IVec S16 32) a x).toNat < S8192.size a := fun v1216 k0_hw6 => k0_hw6.2

def k0_chk7 (v1228 : IVec S16 32) : Prop :=
  (∀ a x, ((![v1228] : Fin 1 → IVec S16 32) a x).toNat < S8192.size a) ∧
  (∀ a x, ((![v1228] : Fin 1 → IVec S16 32) a x).toNat < S8192.size a)
theorem k0_idx13_inb : ∀ (v1228 : IVec S16 32) (k0_hw7 : k0_chk7 v1228), ∀ a x, ((![v1228] : Fin 1 → IVec S16 32) a x).toNat < S8192.size a := fun v1228 k0_hw7 => k0_hw7.1
theorem k0_idx14_inb : ∀ (v1228 : IVec S16 32) (k0_hw7 : k0_chk7 v1228), ∀ a x, ((![v1228] : Fin 1 → IVec S16 32) a x).toNat < S8192.size a := fun v1228 k0_hw7 => k0_hw7.2

def k0_chk8 (v1240 : IVec S16 32) : Prop :=
  (∀ a x, ((![v1240] : Fin 1 → IVec S16 32) a x).toNat < S8192.size a) ∧
  (∀ a x, ((![v1240] : Fin 1 → IVec S16 32) a x).toNat < S8192.size a)
theorem k0_idx15_inb : ∀ (v1240 : IVec S16 32) (k0_hw8 : k0_chk8 v1240), ∀ a x, ((![v1240] : Fin 1 → IVec S16 32) a x).toNat < S8192.size a := fun v1240 k0_hw8 => k0_hw8.1
theorem k0_idx16_inb : ∀ (v1240 : IVec S16 32) (k0_hw8 : k0_chk8 v1240), ∀ a x, ((![v1240] : Fin 1 → IVec S16 32) a x).toNat < S8192.size a := fun v1240 k0_hw8 => k0_hw8.2

def k0_chk9 (v1252 : IVec S16 32) : Prop :=
  (∀ a x, ((![v1252] : Fin 1 → IVec S16 32) a x).toNat < S8192.size a) ∧
  (∀ a x, ((![v1252] : Fin 1 → IVec S16 32) a x).toNat < S8192.size a)
theorem k0_idx17_inb : ∀ (v1252 : IVec S16 32) (k0_hw9 : k0_chk9 v1252), ∀ a x, ((![v1252] : Fin 1 → IVec S16 32) a x).toNat < S8192.size a := fun v1252 k0_hw9 => k0_hw9.1
theorem k0_idx18_inb : ∀ (v1252 : IVec S16 32) (k0_hw9 : k0_chk9 v1252), ∀ a x, ((![v1252] : Fin 1 → IVec S16 32) a x).toNat < S8192.size a := fun v1252 k0_hw9 => k0_hw9.2

def k0_chk10 (v1264 : IVec S16 32) : Prop :=
  (∀ a x, ((![v1264] : Fin 1 → IVec S16 32) a x).toNat < S8192.size a) ∧
  (∀ a x, ((![v1264] : Fin 1 → IVec S16 32) a x).toNat < S8192.size a)
theorem k0_idx19_inb : ∀ (v1264 : IVec S16 32) (k0_hw10 : k0_chk10 v1264), ∀ a x, ((![v1264] : Fin 1 → IVec S16 32) a x).toNat < S8192.size a := fun v1264 k0_hw10 => k0_hw10.1
theorem k0_idx20_inb : ∀ (v1264 : IVec S16 32) (k0_hw10 : k0_chk10 v1264), ∀ a x, ((![v1264] : Fin 1 → IVec S16 32) a x).toNat < S8192.size a := fun v1264 k0_hw10 => k0_hw10.2

def k0_chk11 (v1276 : IVec S16 32) : Prop :=
  (∀ a x, ((![v1276] : Fin 1 → IVec S16 32) a x).toNat < S8192.size a) ∧
  (∀ a x, ((![v1276] : Fin 1 → IVec S16 32) a x).toNat < S8192.size a)
theorem k0_idx21_inb : ∀ (v1276 : IVec S16 32) (k0_hw11 : k0_chk11 v1276), ∀ a x, ((![v1276] : Fin 1 → IVec S16 32) a x).toNat < S8192.size a := fun v1276 k0_hw11 => k0_hw11.1
theorem k0_idx22_inb : ∀ (v1276 : IVec S16 32) (k0_hw11 : k0_chk11 v1276), ∀ a x, ((![v1276] : Fin 1 → IVec S16 32) a x).toNat < S8192.size a := fun v1276 k0_hw11 => k0_hw11.2

def k0_chk12 (v1288 : IVec S16 32) : Prop :=
  (∀ a x, ((![v1288] : Fin 1 → IVec S16 32) a x).toNat < S8192.size a) ∧
  (∀ a x, ((![v1288] : Fin 1 → IVec S16 32) a x).toNat < S8192.size a)
theorem k0_idx23_inb : ∀ (v1288 : IVec S16 32) (k0_hw12 : k0_chk12 v1288), ∀ a x, ((![v1288] : Fin 1 → IVec S16 32) a x).toNat < S8192.size a := fun v1288 k0_hw12 => k0_hw12.1
theorem k0_idx24_inb : ∀ (v1288 : IVec S16 32) (k0_hw12 : k0_chk12 v1288), ∀ a x, ((![v1288] : Fin 1 → IVec S16 32) a x).toNat < S8192.size a := fun v1288 k0_hw12 => k0_hw12.2

def k0_chk13 (v1300 : IVec S16 32) : Prop :=
  (∀ a x, ((![v1300] : Fin 1 → IVec S16 32) a x).toNat < S8192.size a) ∧
  (∀ a x, ((![v1300] : Fin 1 → IVec S16 32) a x).toNat < S8192.size a)
theorem k0_idx25_inb : ∀ (v1300 : IVec S16 32) (k0_hw13 : k0_chk13 v1300), ∀ a x, ((![v1300] : Fin 1 → IVec S16 32) a x).toNat < S8192.size a := fun v1300 k0_hw13 => k0_hw13.1
theorem k0_idx26_inb : ∀ (v1300 : IVec S16 32) (k0_hw13 : k0_chk13 v1300), ∀ a x, ((![v1300] : Fin 1 → IVec S16 32) a x).toNat < S8192.size a := fun v1300 k0_hw13 => k0_hw13.2

def k0_chk14 (v1312 : IVec S16 32) : Prop :=
  (∀ a x, ((![v1312] : Fin 1 → IVec S16 32) a x).toNat < S8192.size a) ∧
  (∀ a x, ((![v1312] : Fin 1 → IVec S16 32) a x).toNat < S8192.size a)
theorem k0_idx27_inb : ∀ (v1312 : IVec S16 32) (k0_hw14 : k0_chk14 v1312), ∀ a x, ((![v1312] : Fin 1 → IVec S16 32) a x).toNat < S8192.size a := fun v1312 k0_hw14 => k0_hw14.1
theorem k0_idx28_inb : ∀ (v1312 : IVec S16 32) (k0_hw14 : k0_chk14 v1312), ∀ a x, ((![v1312] : Fin 1 → IVec S16 32) a x).toNat < S8192.size a := fun v1312 k0_hw14 => k0_hw14.2

def k0_chk15 (v1324 : IVec S16 32) : Prop :=
  (∀ a x, ((![v1324] : Fin 1 → IVec S16 32) a x).toNat < S8192.size a) ∧
  (∀ a x, ((![v1324] : Fin 1 → IVec S16 32) a x).toNat < S8192.size a)
theorem k0_idx29_inb : ∀ (v1324 : IVec S16 32) (k0_hw15 : k0_chk15 v1324), ∀ a x, ((![v1324] : Fin 1 → IVec S16 32) a x).toNat < S8192.size a := fun v1324 k0_hw15 => k0_hw15.1
theorem k0_idx30_inb : ∀ (v1324 : IVec S16 32) (k0_hw15 : k0_chk15 v1324), ∀ a x, ((![v1324] : Fin 1 → IVec S16 32) a x).toNat < S8192.size a := fun v1324 k0_hw15 => k0_hw15.2

def k0_chk16 (v1336 : IVec S16 32) : Prop :=
  (∀ a x, ((![v1336] : Fin 1 → IVec S16 32) a x).toNat < S8192.size a) ∧
  (∀ a x, ((![v1336] : Fin 1 → IVec S16 32) a x).toNat < S8192.size a)
theorem k0_idx31_inb : ∀ (v1336 : IVec S16 32) (k0_hw16 : k0_chk16 v1336), ∀ a x, ((![v1336] : Fin 1 → IVec S16 32) a x).toNat < S8192.size a := fun v1336 k0_hw16 => k0_hw16.1
theorem k0_idx32_inb : ∀ (v1336 : IVec S16 32) (k0_hw16 : k0_chk16 v1336), ∀ a x, ((![v1336] : Fin 1 → IVec S16 32) a x).toNat < S8192.size a := fun v1336 k0_hw16 => k0_hw16.2

def k0_chk17 (v1348 : IVec S16 32) : Prop :=
  (∀ a x, ((![v1348] : Fin 1 → IVec S16 32) a x).toNat < S8192.size a) ∧
  (∀ a x, ((![v1348] : Fin 1 → IVec S16 32) a x).toNat < S8192.size a)
theorem k0_idx33_inb : ∀ (v1348 : IVec S16 32) (k0_hw17 : k0_chk17 v1348), ∀ a x, ((![v1348] : Fin 1 → IVec S16 32) a x).toNat < S8192.size a := fun v1348 k0_hw17 => k0_hw17.1
theorem k0_idx34_inb : ∀ (v1348 : IVec S16 32) (k0_hw17 : k0_chk17 v1348), ∀ a x, ((![v1348] : Fin 1 → IVec S16 32) a x).toNat < S8192.size a := fun v1348 k0_hw17 => k0_hw17.2

def k0_chk18 (v1360 : IVec S16 32) : Prop :=
  (∀ a x, ((![v1360] : Fin 1 → IVec S16 32) a x).toNat < S8192.size a) ∧
  (∀ a x, ((![v1360] : Fin 1 → IVec S16 32) a x).toNat < S8192.size a)
theorem k0_idx35_inb : ∀ (v1360 : IVec S16 32) (k0_hw18 : k0_chk18 v1360), ∀ a x, ((![v1360] : Fin 1 → IVec S16 32) a x).toNat < S8192.size a := fun v1360 k0_hw18 => k0_hw18.1
theorem k0_idx36_inb : ∀ (v1360 : IVec S16 32) (k0_hw18 : k0_chk18 v1360), ∀ a x, ((![v1360] : Fin 1 → IVec S16 32) a x).toNat < S8192.size a := fun v1360 k0_hw18 => k0_hw18.2

def k0_chk19 (v1372 : IVec S16 32) : Prop :=
  (∀ a x, ((![v1372] : Fin 1 → IVec S16 32) a x).toNat < S8192.size a) ∧
  (∀ a x, ((![v1372] : Fin 1 → IVec S16 32) a x).toNat < S8192.size a)
theorem k0_idx37_inb : ∀ (v1372 : IVec S16 32) (k0_hw19 : k0_chk19 v1372), ∀ a x, ((![v1372] : Fin 1 → IVec S16 32) a x).toNat < S8192.size a := fun v1372 k0_hw19 => k0_hw19.1
theorem k0_idx38_inb : ∀ (v1372 : IVec S16 32) (k0_hw19 : k0_chk19 v1372), ∀ a x, ((![v1372] : Fin 1 → IVec S16 32) a x).toNat < S8192.size a := fun v1372 k0_hw19 => k0_hw19.2

def k0_chk20 (v1384 : IVec S16 32) : Prop :=
  (∀ a x, ((![v1384] : Fin 1 → IVec S16 32) a x).toNat < S8192.size a) ∧
  (∀ a x, ((![v1384] : Fin 1 → IVec S16 32) a x).toNat < S8192.size a)
theorem k0_idx39_inb : ∀ (v1384 : IVec S16 32) (k0_hw20 : k0_chk20 v1384), ∀ a x, ((![v1384] : Fin 1 → IVec S16 32) a x).toNat < S8192.size a := fun v1384 k0_hw20 => k0_hw20.1
theorem k0_idx40_inb : ∀ (v1384 : IVec S16 32) (k0_hw20 : k0_chk20 v1384), ∀ a x, ((![v1384] : Fin 1 → IVec S16 32) a x).toNat < S8192.size a := fun v1384 k0_hw20 => k0_hw20.2
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c512_i32_695 : BitVec 32 := 512#32
  let v1392 : BitVec 32 := Scalar.muli v2 c512_i32_695
  ![v1392.toNat]
abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v97 : BitVec 1 := Scalar.cmpi .eq arg0 c15_i32
  let v98 : BitVec 32 := Scalar.extui v97
  let c0_i32_53 : BitVec 32 := 0#32
  let v99 : BitVec 1 := Scalar.cmpi .ne v98 c0_i32_53
  v99

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![16], ![false]⟩

def k2_cond2 (i : grid2.Coords) : BitVec 1 :=
  let arg0 : BitVec 32 := BitVec.ofNat 32 (i 0).val
  let c15_i32 : BitVec 32 := 15#32
  let v55 : BitVec 1 := Scalar.cmpi .eq arg0 c15_i32
  let v56 : BitVec 32 := Scalar.extui v55
  let c0_i32_27 : BitVec 32 := 0#32
  let v57 : BitVec 1 := Scalar.cmpi .ne v56 c0_i32_27
  v57

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_temp" => some ((268435456 / 13421773 : ℝ) : EReal)
  | "one_neighbor" => some ((1 / 20 : ℝ) : EReal)
  | _ => none
-- ==== ReferenceIdeal.lean ====
abbrev S512x2048 : Shape := ⟨2, ![512, 2048]⟩
abbrev S512x8192 : Shape := ⟨2, ![512, 8192]⟩
abbrev S512 : Shape := ⟨1, ![512]⟩
abbrev S512x20 : Shape := ⟨2, ![512, 20]⟩
abbrev S_ : Shape := ⟨0, ![]⟩
abbrev S8192x2048 : Shape := ⟨2, ![8192, 2048]⟩
abbrev S512x1 : Shape := ⟨2, ![512, 1]⟩
abbrev S2048x8192 : Shape := ⟨2, ![2048, 8192]⟩
abbrev S512x1x1 : Shape := ⟨3, ![512, 1, 1]⟩
abbrev S1 : Shape := ⟨1, ![1]⟩
abbrev S1x1x1 : Shape := ⟨3, ![1, 1, 1]⟩
abbrev S512x2 : Shape := ⟨2, ![512, 2]⟩
abbrev S512x20x1 : Shape := ⟨3, ![512, 20, 1]⟩
abbrev S512x20x8192 : Shape := ⟨3, ![512, 20, 8192]⟩
abbrev S512x20x1x8192 : Shape := ⟨4, ![512, 20, 1, 8192]⟩
abbrev S512x20x2x8192 : Shape := ⟨4, ![512, 20, 2, 8192]⟩
abbrev S512x40x8192 : Shape := ⟨3, ![512, 40, 8192]⟩
abbrev S512x20x2 : Shape := ⟨3, ![512, 20, 2]⟩
abbrev S512x40 : Shape := ⟨2, ![512, 40]⟩
abbrev S512x40x1 : Shape := ⟨3, ![512, 40, 1]⟩

abbrev nBuf : Space → Nat
  | .hbm => 266
  | .vmem => 0
  | .smem => 0
  | _ => 0

abbrev hbmTy0_0 (i : Nat) : BufTy := match i % 128 with
  | 0 => ⟨S512x2048, .f32⟩
  | 1 => ⟨S512x8192, .f32⟩
  | 2 => ⟨S512x8192, .f32⟩
  | 3 => ⟨S512, .i32⟩
  | 4 => ⟨S512, .i32⟩
  | 5 => ⟨S512x20, .i32⟩
  | 6 => ⟨S512x20, .f32⟩
  | 7 => ⟨S_, .f32⟩
  | 8 => ⟨S8192x2048, .f32⟩
  | 9 => ⟨S512x2048, .f32⟩
  | 10 => ⟨S_, .f32⟩
  | 11 => ⟨S512, .f32⟩
  | 12 => ⟨S512x1, .f32⟩
  | 13 => ⟨S512x1, .f32⟩
  | 14 => ⟨S512x2048, .f32⟩
  | 15 => ⟨S512x2048, .f32⟩
  | 16 => ⟨S2048x8192, .f32⟩
  | 17 => ⟨S512x8192, .f32⟩
  | 18 => ⟨S_, .f32⟩
  | 19 => ⟨S512x8192, .f32⟩
  | 20 => ⟨S512x8192, .f32⟩
  | 21 => ⟨S_, .f32⟩
  | 22 => ⟨S512, .f32⟩
  | 23 => ⟨S_, .f32⟩
  | 24 => ⟨S512, .f32⟩
  | 25 => ⟨S512, .f32⟩
  | 26 => ⟨S512x1, .f32⟩
  | 27 => ⟨S512x8192, .f32⟩
  | 28 => ⟨S512x8192, .f32⟩
  | 29 => ⟨S512x8192, .f32⟩
  | 30 => ⟨S_, .f32⟩
  | 31 => ⟨S512, .f32⟩
  | 32 => ⟨S512x1, .f32⟩
  | 33 => ⟨S512x1, .f32⟩
  | 34 => ⟨S512x8192, .f32⟩
  | 35 => ⟨S512x8192, .f32⟩
  | 36 => ⟨S512x1, .i32⟩
  | 37 => ⟨S_, .i32⟩
  | 38 => ⟨S512x1, .i32⟩
  | 39 => ⟨S512x1, .i1⟩
  | 40 => ⟨S_, .i32⟩
  | 41 => ⟨S512x1, .i32⟩
  | 42 => ⟨S512x1, .i32⟩
  | 43 => ⟨S512x1, .i32⟩
  | 44 => ⟨S512x1x1, .i32⟩
  | 45 => ⟨S1, .i32⟩
  | 46 => ⟨S_, .i32⟩
  | 47 => ⟨S512x1x1, .i32⟩
  | 48 => ⟨S512x1x1, .i1⟩
  | 49 => ⟨S1x1x1, .i32⟩
  | 50 => ⟨S512x1x1, .i32⟩
  | 51 => ⟨S512x1x1, .i1⟩
  | 52 => ⟨S512x1x1, .i1⟩
  | 53 => ⟨S_, .i1⟩
  | 54 => ⟨S512x1, .i1⟩
  | 55 => ⟨S512x1, .f32⟩
  | 56 => ⟨S_, .f32⟩
  | 57 => ⟨S512x1, .f32⟩
  | 58 => ⟨S512x1, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S512x8192, .f32⟩
  | 66 => ⟨S512, .i32⟩
  | 67 => ⟨S_, .i32⟩
  | 68 => ⟨S512, .i32⟩
  | 69 => ⟨S512, .i1⟩
  | 70 => ⟨S_, .i32⟩
  | 71 => ⟨S512, .i32⟩
  | 72 => ⟨S512, .i32⟩
  | 73 => ⟨S512, .i32⟩
  | 74 => ⟨S_, .i32⟩
  | 75 => ⟨S512, .i32⟩
  | 76 => ⟨S512, .i1⟩
  | 77 => ⟨S_, .i32⟩
  | 78 => ⟨S512, .i32⟩
  | 79 => ⟨S512, .i32⟩
  | 80 => ⟨S512, .i32⟩
  | 81 => ⟨S512x1, .i32⟩
  | 82 => ⟨S512x1, .i32⟩
  | 83 => ⟨S512x2, .i32⟩
  | 84 => ⟨S_, .f32⟩
  | 85 => ⟨S512, .f32⟩
  | 86 => ⟨S512x8192, .f32⟩
  | 87 => ⟨S_, .i32⟩
  | 88 => ⟨S512x20, .i32⟩
  | 89 => ⟨S512x20, .i1⟩
  | 90 => ⟨S_, .i32⟩
  | 91 => ⟨S512x20, .i32⟩
  | 92 => ⟨S512x20, .i32⟩
  | 93 => ⟨S512x20, .i32⟩
  | 94 => ⟨S512x20x1, .i32⟩
  | 95 => ⟨S1, .i32⟩
  | 96 => ⟨S_, .i32⟩
  | 97 => ⟨S512x20x1, .i32⟩
  | 98 => ⟨S512x20x1, .i1⟩
  | 99 => ⟨S1x1x1, .i32⟩
  | 100 => ⟨S512x20x1, .i32⟩
  | 101 => ⟨S512x20x1, .i1⟩
  | 102 => ⟨S512x20x1, .i1⟩
  | 103 => ⟨S_, .i1⟩
  | 104 => ⟨S512x20, .i1⟩
  | 105 => ⟨S512x20x8192, .f32⟩
  | 106 => ⟨S512x20x8192, .i1⟩
  | 107 => ⟨S_, .f32⟩
  | 108 => ⟨S512x20x8192, .f32⟩
  | 109 => ⟨S512x20x8192, .f32⟩
  | 110 => ⟨S_, .i32⟩
  | 111 => ⟨S512x20, .i32⟩
  | 112 => ⟨S512x20, .i1⟩
  | 113 => ⟨S_, .i32⟩
  | 114 => ⟨S512x20, .i32⟩
  | 115 => ⟨S512x20, .i32⟩
  | 116 => ⟨S512x20, .i32⟩
  | 117 => ⟨S512x20x1, .i32⟩
  | 118 => ⟨S1, .i32⟩
  | 119 => ⟨S_, .i32⟩
  | 120 => ⟨S512x20x1, .i32⟩
  | 121 => ⟨S512x20x1, .i1⟩
  | 122 => ⟨S1x1x1, .i32⟩
  | 123 => ⟨S512x20x1, .i32⟩
  | 124 => ⟨S512x20x1, .i1⟩
  | 125 => ⟨S512x20x1, .i1⟩
  | 126 => ⟨S_, .i1⟩
  | 127 => ⟨S512x20, .i1⟩
  | _ => ⟨S512x2048, .f32⟩

abbrev hbmTy0_1 (i : Nat) : BufTy := match i % 128 with
  | 0 => ⟨S512x20x8192, .f32⟩
  | 1 => ⟨S512x20x8192, .i1⟩
  | 2 => ⟨S_, .f32⟩
  | 3 => ⟨S512x20x8192, .f32⟩
  | 4 => ⟨S512x20x8192, .f32⟩
  | 5 => ⟨S512x20x1x8192, .f32⟩
  | 6 => ⟨S512x20x1x8192, .f32⟩
  | 7 => ⟨S512x20x2x8192, .f32⟩
  | 8 => ⟨S512x40x8192, .f32⟩
  | 9 => ⟨S512x20x2, .f32⟩
  | 10 => ⟨S512x40, .f32⟩
  | 11 => ⟨S_, .f32⟩
  | 12 => ⟨S512x40, .f32⟩
  | 13 => ⟨S512x40, .f32⟩
  | 14 => ⟨S_, .f32⟩
  | 15 => ⟨S512, .f32⟩
  | 16 => ⟨S_, .f32⟩
  | 17 => ⟨S512, .f32⟩
  | 18 => ⟨S512, .f32⟩
  | 19 => ⟨S512x1, .f32⟩
  | 20 => ⟨S512x40, .f32⟩
  | 21 => ⟨S512x40, .f32⟩
  | 22 => ⟨S512x40, .f32⟩
  | 23 => ⟨S_, .f32⟩
  | 24 => ⟨S512, .f32⟩
  | 25 => ⟨S512x1, .f32⟩
  | 26 => ⟨S512x40, .f32⟩
  | 27 => ⟨S512x40, .f32⟩
  | 28 => ⟨S_, .f32⟩
  | 29 => ⟨S512x40, .f32⟩
  | 30 => ⟨S_, .f32⟩
  | 31 => ⟨S512x40, .f32⟩
  | 32 => ⟨S512x40, .f32⟩
  | 33 => ⟨S512x40x1, .f32⟩
  | 34 => ⟨S512x40x8192, .f32⟩
  | 35 => ⟨S512x40x8192, .f32⟩
  | 36 => ⟨S512x40x8192, .f32⟩
  | 37 => ⟨S_, .f32⟩
  | 38 => ⟨S512x40, .f32⟩
  | 39 => ⟨S512x40x1, .f32⟩
  | 40 => ⟨S512x40x8192, .f32⟩
  | 41 => ⟨S512x40x8192, .f32⟩
  | 42 => ⟨S512x40x1, .f32⟩
  | 43 => ⟨S512x40x8192, .f32⟩
  | 44 => ⟨S512x40x8192, .f32⟩
  | 45 => ⟨S_, .f32⟩
  | 46 => ⟨S512x8192, .f32⟩
  | 47 => ⟨S_, .f32⟩
  | 48 => ⟨S512x20, .f32⟩
  | 49 => ⟨S_, .f32⟩
  | 50 => ⟨S512x20, .f32⟩
  | 51 => ⟨S512x20, .f32⟩
  | 52 => ⟨S512x20x1, .f32⟩
  | 53 => ⟨S512x20x8192, .f32⟩
  | 54 => ⟨S512x20x8192, .f32⟩
  | 55 => ⟨S512x20x8192, .f32⟩
  | 56 => ⟨S_, .f32⟩
  | 57 => ⟨S512x20, .f32⟩
  | 58 => ⟨S512x20x1, .f32⟩
  | 59 => ⟨S512x20x8192, .f32⟩
  | 60 => ⟨S512x20x8192, .f32⟩
  | 61 => ⟨S_, .f32⟩
  | 62 => ⟨S512x8192, .f32⟩
  | 63 => ⟨S_, .f32⟩
  | 64 => ⟨S512x8192, .f32⟩
  | 65 => ⟨S512x8192, .f32⟩
  | 66 => ⟨S_, .f32⟩
  | 67 => ⟨S512x8192, .f32⟩
  | 68 => ⟨S512x8192, .f32⟩
  | 69 => ⟨S_, .f32⟩
  | 70 => ⟨S512x8192, .f32⟩
  | 71 => ⟨S512x8192, .f32⟩
  | 72 => ⟨S512x8192, .f32⟩
  | 73 => ⟨S512x8192, .f32⟩
  | 74 => ⟨S_, .f32⟩
  | 75 => ⟨S512, .f32⟩
  | 76 => ⟨S_, .f32⟩
  | 77 => ⟨S512, .f32⟩
  | 78 => ⟨S512, .f32⟩
  | 79 => ⟨S512x1, .f32⟩
  | 80 => ⟨S512x8192, .f32⟩
  | 81 => ⟨S512x8192, .f32⟩
  | 82 => ⟨S512x8192, .f32⟩
  | 83 => ⟨S_, .f32⟩
  | 84 => ⟨S512, .f32⟩
  | 85 => ⟨S512x1, .f32⟩
  | 86 => ⟨S512x1, .f32⟩
  | 87 => ⟨S512x8192, .f32⟩
  | 88 => ⟨S512x8192, .f32⟩
  | 89 => ⟨S512x8192, .f32⟩
  | 90 => ⟨S_, .f32⟩
  | 91 => ⟨S512, .f32⟩
  | 92 => ⟨S_, .f32⟩
  | 93 => ⟨S_, .f32⟩
  | 94 => ⟨S_, .f32⟩
  | 95 => ⟨S_, .f32⟩
  | 96 => ⟨S_, .f32⟩
  | 97 => ⟨S512, .f32⟩
  | 98 => ⟨S_, .f32⟩
  | 99 => ⟨S512, .f32⟩
  | 100 => ⟨S512, .f32⟩
  | 101 => ⟨S512x1, .f32⟩
  | 102 => ⟨S512x8192, .f32⟩
  | 103 => ⟨S512x8192, .f32⟩
  | 104 => ⟨S512x8192, .f32⟩
  | 105 => ⟨S_, .f32⟩
  | 106 => ⟨S512, .f32⟩
  | 107 => ⟨S512x1, .f32⟩
  | 108 => ⟨S512x1, .f32⟩
  | 109 => ⟨S512x8192, .f32⟩
  | 110 => ⟨S512x8192, .f32⟩
  | 111 => ⟨S_, .f32⟩
  | 112 => ⟨S512x8192, .f32⟩
  | 113 => ⟨S512x8192, .i1⟩
  | 114 => ⟨S_, .f32⟩
  | 115 => ⟨S512x8192, .f32⟩
  | 116 => ⟨S512x8192, .i1⟩
  | 117 => ⟨S_, .f32⟩
  | 118 => ⟨S_, .f32⟩
  | 119 => ⟨S512x8192, .f32⟩
  | 120 => ⟨S512x8192, .f32⟩
  | 121 => ⟨S512x8192, .f32⟩
  | 122 => ⟨S512x8192, .f32⟩
  | 123 => ⟨S_, .f32⟩
  | 124 => ⟨S_, .f32⟩
  | 125 => ⟨S512x8192, .f32⟩
  | 126 => ⟨S512x8192, .f32⟩
  | 127 => ⟨S512x8192, .f32⟩
  | _ => ⟨S512x2048, .f32⟩

abbrev hbmTy0_2 (i : Nat) : BufTy := match i % 128 with
  | 0 => ⟨S512x8192, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | _ => ⟨S512x2048, .f32⟩

abbrev hbmTy (i : Nat) : BufTy := match i / 128 with
  | 0 => hbmTy0_0 i
  | 1 => hbmTy0_1 i
  | 2 => hbmTy0_2 i
  | _ => ⟨S512x2048, .f32⟩

abbrev bufTy : (tb : Table) → Fin (tcTables nBuf tb) → BufTy
  | .hbm, ⟨i, _⟩ => hbmTy i
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_call1_cst : Ref sig .tc := ⟨.hbm, 21, rfl⟩
abbrev main_call1_v0 : Ref sig .tc := ⟨.hbm, 22, rfl⟩
abbrev main_call1_cst_0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_cst_1 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_v7 : Ref sig .tc := ⟨.hbm, 35, rfl⟩
abbrev main_v8 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_cst : Ref sig .tc := ⟨.hbm, 56, rfl⟩
abbrev main_call2_v14 : Ref sig .tc := ⟨.hbm, 57, rfl⟩
abbrev main_v9 : Ref sig .tc := ⟨.hbm, 58, rfl⟩
abbrev main_cst_0 : Ref sig .tc := ⟨.hbm, 59, rfl⟩
abbrev main_v10 : Ref sig .tc := ⟨.hbm, 60, rfl⟩
abbrev main_cst_1 : Ref sig .tc := ⟨.hbm, 61, rfl⟩
abbrev main_v11 : Ref sig .tc := ⟨.hbm, 62, rfl⟩
abbrev main_v12 : Ref sig .tc := ⟨.hbm, 63, rfl⟩
abbrev main_cst_2 : Ref sig .tc := ⟨.hbm, 64, rfl⟩
abbrev main_v13 : Ref sig .tc := ⟨.hbm, 65, rfl⟩
abbrev main_v14 : Ref sig .tc := ⟨.hbm, 66, rfl⟩
abbrev main_c : Ref sig .tc := ⟨.hbm, 67, rfl⟩
abbrev main_v15 : Ref sig .tc := ⟨.hbm, 68, rfl⟩
abbrev main_v16 : Ref sig .tc := ⟨.hbm, 69, rfl⟩
abbrev main_c_3 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_c_4 : Ref sig .tc := ⟨.hbm, 74, rfl⟩
abbrev main_v20 : Ref sig .tc := ⟨.hbm, 75, rfl⟩
abbrev main_v21 : Ref sig .tc := ⟨.hbm, 76, rfl⟩
abbrev main_c_5 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_cst_6 : Ref sig .tc := ⟨.hbm, 84, rfl⟩
abbrev main_v28 : Ref sig .tc := ⟨.hbm, 85, rfl⟩
abbrev main_v29 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v30 : Ref sig .tc := ⟨.hbm, 109, rfl⟩
abbrev main_call4_c : Ref sig .tc := ⟨.hbm, 110, rfl⟩
abbrev main_call4_v0 : Ref sig .tc := ⟨.hbm, 111, rfl⟩
abbrev main_call4_v1 : Ref sig .tc := ⟨.hbm, 112, rfl⟩
abbrev main_call4_c_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_c_1 : Ref sig .tc := ⟨.hbm, 118, rfl⟩
abbrev main_call4_c_2 : Ref sig .tc := ⟨.hbm, 119, rfl⟩
abbrev main_call4_v6 : Ref sig .tc := ⟨.hbm, 120, rfl⟩
abbrev main_call4_v7 : Ref sig .tc := ⟨.hbm, 121, rfl⟩
abbrev main_call4_v8 : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_c_3 : Ref sig .tc := ⟨.hbm, 126, rfl⟩
abbrev main_call4_v12 : Ref sig .tc := ⟨.hbm, 127, rfl⟩
abbrev main_call4_v13 : Ref sig .tc := ⟨.hbm, 128, rfl⟩
abbrev main_call4_v14 : Ref sig .tc := ⟨.hbm, 129, rfl⟩
abbrev main_call4_cst : Ref sig .tc := ⟨.hbm, 130, rfl⟩
abbrev main_call4_v15 : Ref sig .tc := ⟨.hbm, 131, rfl⟩
abbrev main_v31 : Ref sig .tc := ⟨.hbm, 132, rfl⟩
abbrev main_v32 : Ref sig .tc := ⟨.hbm, 133, rfl⟩
abbrev main_v33 : Ref sig .tc := ⟨.hbm, 134, rfl⟩
abbrev main_v34 : Ref sig .tc := ⟨.hbm, 135, rfl⟩
abbrev main_v35 : Ref sig .tc := ⟨.hbm, 136, rfl⟩
abbrev main_v36 : Ref sig .tc := ⟨.hbm, 137, rfl⟩
abbrev main_v37 : Ref sig .tc := ⟨.hbm, 138, rfl⟩
abbrev main_cst_7 : Ref sig .tc := ⟨.hbm, 139, rfl⟩
abbrev main_v38 : Ref sig .tc := ⟨.hbm, 140, rfl⟩
abbrev main_v39 : Ref sig .tc := ⟨.hbm, 141, rfl⟩
abbrev main_cst_8 : Ref sig .tc := ⟨.hbm, 142, rfl⟩
abbrev main_v40 : Ref sig .tc := ⟨.hbm, 143, rfl⟩
abbrev main_cst_9 : Ref sig .tc := ⟨.hbm, 144, rfl⟩
abbrev main_v41 : Ref sig .tc := ⟨.hbm, 145, rfl⟩
abbrev main_v42 : Ref sig .tc := ⟨.hbm, 146, rfl⟩
abbrev main_v43 : Ref sig .tc := ⟨.hbm, 147, rfl⟩
abbrev main_v44 : Ref sig .tc := ⟨.hbm, 148, rfl⟩
abbrev main_v45 : Ref sig .tc := ⟨.hbm, 149, rfl⟩
abbrev main_v46 : Ref sig .tc := ⟨.hbm, 150, rfl⟩
abbrev main_cst_10 : Ref sig .tc := ⟨.hbm, 151, rfl⟩
abbrev main_v47 : Ref sig .tc := ⟨.hbm, 152, rfl⟩
abbrev main_v48 : Ref sig .tc := ⟨.hbm, 153, rfl⟩
abbrev main_v49 : Ref sig .tc := ⟨.hbm, 154, rfl⟩
abbrev main_v50 : Ref sig .tc := ⟨.hbm, 155, rfl⟩
abbrev main_cst_11 : Ref sig .tc := ⟨.hbm, 156, rfl⟩
abbrev main_v51 : Ref sig .tc := ⟨.hbm, 157, rfl⟩
abbrev main_cst_12 : Ref sig .tc := ⟨.hbm, 158, rfl⟩
abbrev main_v52 : Ref sig .tc := ⟨.hbm, 159, rfl⟩
abbrev main_v53 : Ref sig .tc := ⟨.hbm, 160, rfl⟩
abbrev main_v54 : Ref sig .tc := ⟨.hbm, 161, rfl⟩
abbrev main_v55 : Ref sig .tc := ⟨.hbm, 162, rfl⟩
abbrev main_v56 : Ref sig .tc := ⟨.hbm, 163, rfl⟩
abbrev main_v57 : Ref sig .tc := ⟨.hbm, 164, rfl⟩
abbrev main_cst_13 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩
abbrev main_v61 : Ref sig .tc := ⟨.hbm, 169, rfl⟩
abbrev main_v62 : Ref sig .tc := ⟨.hbm, 170, rfl⟩
abbrev main_v63 : Ref sig .tc := ⟨.hbm, 171, rfl⟩
abbrev main_v64 : Ref sig .tc := ⟨.hbm, 172, rfl⟩
abbrev main_cst_14 : Ref sig .tc := ⟨.hbm, 173, rfl⟩
abbrev main_v65 : Ref sig .tc := ⟨.hbm, 174, rfl⟩
abbrev main_cst_15 : Ref sig .tc := ⟨.hbm, 175, rfl⟩
abbrev main_v66 : Ref sig .tc := ⟨.hbm, 176, rfl⟩
abbrev main_cst_16 : Ref sig .tc := ⟨.hbm, 177, rfl⟩
abbrev main_v67 : Ref sig .tc := ⟨.hbm, 178, rfl⟩
abbrev main_v68 : Ref sig .tc := ⟨.hbm, 179, rfl⟩
abbrev main_v69 : Ref sig .tc := ⟨.hbm, 180, rfl⟩
abbrev main_v70 : Ref sig .tc := ⟨.hbm, 181, rfl⟩
abbrev main_v71 : Ref sig .tc := ⟨.hbm, 182, rfl⟩
abbrev main_v72 : Ref sig .tc := ⟨.hbm, 183, rfl⟩
abbrev main_cst_17 : Ref sig .tc := ⟨.hbm, 184, rfl⟩
abbrev main_v73 : Ref sig .tc := ⟨.hbm, 185, rfl⟩
abbrev main_v74 : Ref sig .tc := ⟨.hbm, 186, rfl⟩
abbrev main_v75 : Ref sig .tc := ⟨.hbm, 187, rfl⟩
abbrev main_v76 : Ref sig .tc := ⟨.hbm, 188, rfl⟩
abbrev main_cst_18 : Ref sig .tc := ⟨.hbm, 189, rfl⟩
abbrev main_v77 : Ref sig .tc := ⟨.hbm, 190, rfl⟩
abbrev main_cst_19 : Ref sig .tc := ⟨.hbm, 191, rfl⟩
abbrev main_v78 : Ref sig .tc := ⟨.hbm, 192, rfl⟩
abbrev main_v79 : Ref sig .tc := ⟨.hbm, 193, rfl⟩
abbrev main_cst_20 : Ref sig .tc := ⟨.hbm, 194, rfl⟩
abbrev main_v80 : Ref sig .tc := ⟨.hbm, 195, rfl⟩
abbrev main_v81 : Ref sig .tc := ⟨.hbm, 196, rfl⟩
abbrev main_cst_21 : Ref sig .tc := ⟨.hbm, 197, rfl⟩
abbrev main_v82 : Ref sig .tc := ⟨.hbm, 198, rfl⟩
abbrev main_v83 : Ref sig .tc := ⟨.hbm, 199, rfl⟩
abbrev main_v84 : Ref sig .tc := ⟨.hbm, 200, rfl⟩
abbrev main_v85 : Ref sig .tc := ⟨.hbm, 201, rfl⟩
abbrev main_call5_cst : Ref sig .tc := ⟨.hbm, 202, rfl⟩
abbrev main_call5_v0 : Ref sig .tc := ⟨.hbm, 203, rfl⟩
abbrev main_call5_cst_0 : Ref sig .tc := ⟨.hbm, 204, rfl⟩
abbrev main_call5_v1 : Ref sig .tc := ⟨.hbm, 205, rfl⟩
abbrev main_call5_v2 : Ref sig .tc := ⟨.hbm, 206, rfl⟩
abbrev main_call5_v3 : Ref sig .tc := ⟨.hbm, 207, rfl⟩
abbrev main_call5_v4 : Ref sig .tc := ⟨.hbm, 208, rfl⟩
abbrev main_call5_v5 : Ref sig .tc := ⟨.hbm, 209, rfl⟩
abbrev main_call5_v6 : Ref sig .tc := ⟨.hbm, 210, rfl⟩
abbrev main_call5_cst_1 : Ref sig .tc := ⟨.hbm, 211, rfl⟩
abbrev main_call5_v7 : Ref sig .tc := ⟨.hbm, 212, rfl⟩
abbrev main_call5_v8 : Ref sig .tc := ⟨.hbm, 213, rfl⟩
abbrev main_call5_v9 : Ref sig .tc := ⟨.hbm, 214, rfl⟩
abbrev main_call5_v10 : Ref sig .tc := ⟨.hbm, 215, rfl⟩
abbrev main_v86 : Ref sig .tc := ⟨.hbm, 216, rfl⟩
abbrev main_v87 : Ref sig .tc := ⟨.hbm, 217, rfl⟩
abbrev main_cst_22 : Ref sig .tc := ⟨.hbm, 218, rfl⟩
abbrev main_v88 : Ref sig .tc := ⟨.hbm, 219, rfl⟩
abbrev main_cst_23 : Ref sig .tc := ⟨.hbm, 220, rfl⟩
abbrev main_v89 : Ref sig .tc := ⟨.hbm, 221, rfl⟩
abbrev main_cst_24 : Ref sig .tc := ⟨.hbm, 222, rfl⟩
abbrev main_v90 : Ref sig .tc := ⟨.hbm, 223, rfl⟩
abbrev main_call6_cst : Ref sig .tc := ⟨.hbm, 224, rfl⟩
abbrev main_call6_v0 : Ref sig .tc := ⟨.hbm, 225, rfl⟩
abbrev main_call6_cst_0 : Ref sig .tc := ⟨.hbm, 226, rfl⟩
abbrev main_call6_v1 : Ref sig .tc := ⟨.hbm, 227, rfl⟩
abbrev main_call6_v2 : Ref sig .tc := ⟨.hbm, 228, rfl⟩
abbrev main_call6_v3 : Ref sig .tc := ⟨.hbm, 229, rfl⟩
abbrev main_call6_v4 : Ref sig .tc := ⟨.hbm, 230, rfl⟩
abbrev main_call6_v5 : Ref sig .tc := ⟨.hbm, 231, rfl⟩
abbrev main_call6_v6 : Ref sig .tc := ⟨.hbm, 232, rfl⟩
abbrev main_call6_cst_1 : Ref sig .tc := ⟨.hbm, 233, rfl⟩
abbrev main_call6_v7 : Ref sig .tc := ⟨.hbm, 234, rfl⟩
abbrev main_call6_v8 : Ref sig .tc := ⟨.hbm, 235, rfl⟩
abbrev main_call6_v9 : Ref sig .tc := ⟨.hbm, 236, rfl⟩
abbrev main_call6_v10 : Ref sig .tc := ⟨.hbm, 237, rfl⟩
abbrev main_v91 : Ref sig .tc := ⟨.hbm, 238, rfl⟩
abbrev main_cst_25 : Ref sig .tc := ⟨.hbm, 239, rfl⟩
abbrev main_v92 : Ref sig .tc := ⟨.hbm, 240, rfl⟩
abbrev main_v93 : Ref sig .tc := ⟨.hbm, 241, rfl⟩
abbrev main_cst_26 : Ref sig .tc := ⟨.hbm, 242, rfl⟩
abbrev main_v94 : Ref sig .tc := ⟨.hbm, 243, rfl⟩
abbrev main_v95 : Ref sig .tc := ⟨.hbm, 244, rfl⟩
abbrev main_cst_27 : Ref sig .tc := ⟨.hbm, 245, rfl⟩
abbrev main_call7_v0 : Ref sig .tc := ⟨.hbm, 246, rfl⟩
abbrev main_call7_v1 : Ref sig .tc := ⟨.hbm, 247, rfl⟩
abbrev main_v96 : Ref sig .tc := ⟨.hbm, 248, rfl⟩
abbrev main_v97 : Ref sig .tc := ⟨.hbm, 249, rfl⟩
abbrev main_v98 : Ref sig .tc := ⟨.hbm, 250, rfl⟩
abbrev main_cst_28 : Ref sig .tc := ⟨.hbm, 251, rfl⟩
abbrev main_call8_v0 : Ref sig .tc := ⟨.hbm, 252, rfl⟩
abbrev main_call8_v1 : Ref sig .tc := ⟨.hbm, 253, rfl⟩
abbrev main_v99 : Ref sig .tc := ⟨.hbm, 254, rfl⟩
abbrev main_v100 : Ref sig .tc := ⟨.hbm, 255, rfl⟩
abbrev main_v101 : Ref sig .tc := ⟨.hbm, 256, rfl⟩
abbrev main_cst_29 : Ref sig .tc := ⟨.hbm, 257, rfl⟩
abbrev main_v102 : Ref sig .tc := ⟨.hbm, 258, rfl⟩
abbrev main_cst_30 : Ref sig .tc := ⟨.hbm, 259, rfl⟩
abbrev main_v103 : Ref sig .tc := ⟨.hbm, 260, rfl⟩
abbrev main_cst_31 : Ref sig .tc := ⟨.hbm, 261, rfl⟩
abbrev main_v104 : Ref sig .tc := ⟨.hbm, 262, rfl⟩
abbrev main_cst_32 : Ref sig .tc := ⟨.hbm, 263, rfl⟩
abbrev main_v105 : Ref sig .tc := ⟨.hbm, 264, rfl⟩
abbrev main_v106 : Ref sig .tc := ⟨.hbm, 265, rfl⟩

abbrev nD : Nat := 1
abbrev τ : Topo := Topo.v7x

variable {F : FTy → Type} [FloatOps F]
-- ==== Proof.Setup.lean ====
/-
  The program as the launch theorem sees it, the resource algebra of its proof, and the names the other modules share.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton

@[expose] public section

noncomputable section

namespace Cert.Proof.Setup

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI Idealize.SL.Sem
open Idealize.ShloMosaic.Rounds

variable {F : FTy → Type} [FloatOps F] [Named F]

abbrev ΛP (F : FTy → Type) [FloatOps F] [Named F] : Labels := Pipeline.Sig Λ₀ (Fin 2) fun p => (pcfgs (F := F) p).Adm
abbrev K (F : FTy → Type) [FloatOps F] [Named F] : SparseCore.Cfg τ sig (ΛP F) 1 := sc (F := F)
abbrev D (F : FTy → Type) [FloatOps F] [Named F] : Defs nD τ sig (Elt F) (ΛP F) := Pipeline.defs pcfgs defs₀
abbrev 𝒱₀ : Variants := Variants.none
abbrev 𝒱 : Variants := 𝒱₀.lift
abbrev v₀ : 𝒱.V := Sum.inl none

theorem nSub_zero : (K F).nSub 0 = 16 := rfl
theorem nCore_zero : (K F).nCore 0 = 2 := rfl

theorem facts : (K F).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the two TensorCore pipelines' rounds, and the transfers' counters. -/
abbrev UH : Type := URounds (GSem nD τ sig) ℕ
abbrev UP : Type := URounds (GSem nD τ sig) Unit
abbrev UU : Type := UH × (UP × Counters)

/-- The proof's resources. -/
abbrev MM (F : FTy → Type) : Type := MT nD τ sig (HIx 1) (Elt F) ℕ UU ℕ

end Cert.Proof.Setup

end
-- ==== Proof.Zeroing.lean ====
/-
  The zeroing prologue of the SparseCore tile body as ONE run: operation `t` of the 2048 clears (or, dead, reads) sixteen words of one of
  the tile's two accumulators, and the fifty-two windows the body is printed in are consecutive stretches of that run.
-/
module

public import proofs.«01_k».proof.Defs
public import proofs.«01_k».proof.Proof.Gen.KernelIdeal
public import proofs.«01_k».proof.Proof.Gen.KernelIdeal.Skeleton

@[expose] public section

set_option maxRecDepth 16384

noncomputable section

namespace Cert.Proof.Zeroing

open Cert.KernelIdeal Cert.KernelIdeal.Gen
open Idealize.ShloMosaic Idealize.SL.Sem

variable {F : FTy → Type} [FloatOps F] [Named F]

/-- Sixteen words from word `16 (t / 4)` lie inside the 8192 words of an accumulator. -/
theorem inb (t : ℕ) (h : t < 2048) : ∀ a, (![16 * (t / 4)] : Fin 1 → Nat) a + S16.size a ≤ S8192.size a := by
  intro a
  match a with
  | 0 => show 16 * (t / 4) + 16 ≤ 8192; omega

/-- The sixteen words operation `t` of the zeroing touches. -/
abbrev part (t : ℕ) (h : t < 2048) : Rect S8192 := Rect.unit (s := S8192) ![16 * (t / 4)] S16.size (inb t h)

/-- Operation `t`: by its remainder modulo 4, a (dead) load of the first accumulator, its store, and the same of the second. -/
def step (i : grid0.Coords) (a8 a9 : Memref sig .scVector .vmem S8192 .f32) (v : FVec F S16 .f32) (t : ℕ) (h : t < 2048) :
    Prog (TpuEff nD τ sig (Elt F) Λ₀ (.scVector ((i 0).castLE hcore0) ((i 1).castLE hsub0))) PUnit :=
  match t % 4 with
  | 0 => .op (.load a8 (part t h).toLoadRect (View.loadsAt_vmem h_S16)) fun _ => .ret ⟨⟩
  | 1 => .op (.store a8 (part t h) v Finset.univ (View.stores_vmem_bits_univ h_S16 rfl) (.inl rfl)) fun _ => .ret ⟨⟩
  | 2 => .op (.load a9 (part t h).toLoadRect (View.loadsAt_vmem h_S16)) fun _ => .ret ⟨⟩
  | _ => .op (.store a9 (part t h) v Finset.univ (View.stores_vmem_bits_univ h_S16 rfl) (.inl rfl)) fun _ => .ret ⟨⟩

/-- `n` operations from operation `t`. -/
def run (i : grid0.Coords) (a8 a9 : Memref sig .scVector .vmem S8192 .f32) (v : FVec F S16 .f32) : (n t : ℕ) → t + n ≤ 2048 →
    Prog (TpuEff nD τ sig (Elt F) Λ₀ (.scVector ((i 0).castLE hcore0) ((i 1).castLE hsub0))) PUnit
  | 0, _, _ => .ret ⟨⟩
  | n + 1, t, h => (step i a8 a9 v t (by omega)).bind fun _ => run i a8 a9 v n (t + 1) (by omega)

variable (i : grid0.Coords) (a2 : Memref sig .scVector .hbm S32x20x16 .i32) (h2 : a2.IsWhole) (a3 : Memref sig .scVector .hbm S32x20x16 .f32) (h3 : a3.IsWhole)
  (a4 : Memref sig .scVector .hbm S262144 .f32) (h4 : a4.IsWhole) (a5 : Memref sig .scVector .hbm S262144 .f32) (h5 : a5.IsWhole)
  (a6 : Memref sig .scVector .vmem S20x16 .i32) (h6 : a6.IsWhole) (a7 : Memref sig .scVector .vmem S20x16 .f32) (h7 : a7.IsWhole)
  (a8 : Memref sig .scVector .vmem S8192 .f32) (h8 : a8.IsWhole) (a9 : Memref sig .scVector .vmem S8192 .f32) (h9 : a9.IsWhole)
  (r0 r1 r2 r3 : DmaSems sig S_) (v : FVec F S16 .f32)

theorem part2_eq : k0_part2 i a2 h2 a3 h3 a4 h4 a5 h5 a6 h6 a7 h7 a8 h8 a9 h9 r0 r1 r2 r3 v = run i a8 a9 v 40 9 (by decide) := rfl
theorem part51_eq : k0_part51 i a2 h2 a3 h3 a4 h4 a5 h5 a6 h6 a7 h7 a8 h8 a9 h9 r0 r1 r2 r3 v = run i a8 a9 v 40 1969 (by decide) := rfl

end Cert.Proof.Zeroing

end
-- ==== Proof.BodyText.lean ====
/-
  The SparseCore tile body's printed windows, put together as five stretches: copies in, the zeroing run, the sum of the twenty exponentials,
  the twenty scatter steps, copies out.
-/
module

public import proofs.«01_k».proof.Proof.Zeroing

@[expose] public section

set_option maxRecDepth 65536

noncomputable section

universe v₁

namespace Cert.Proof.BodyText

open Cert.KernelIdeal Cert.KernelIdeal.Gen
open Idealize.ShloMosaic Idealize.SL.Sem

variable {F : FTy → Type} [FloatOps F] [Named F]

/-- One tile's programs. -/
abbrev P (F : FTy → Type) (i : grid0.Coords) (α : Type) := Prog (TpuEff nD τ sig (Elt F) Λ₀ (.scVector ((i 0).castLE hcore0) ((i 1).castLE hsub0))) α

theorem rowInb (k : ℕ) (h : k < 20) : ∀ a, (![k, 0] : Fin 2 → Nat) a + S1x16.size a ≤ S20x16.size a := by
  intro a
  match a with
  | 0 => show k + 1 ≤ 20; omega
  | 1 => show 0 + 16 ≤ 16; omega

/-- Row `k` of the tile's copied block: the `k`-th neighbour of each of its sixteen rows. -/
abbrev row (k : ℕ) (h : k < 20) : Rect S20x16 := Rect.unit (s := S20x16) ![k, 0] S1x16.size (rowInb k h)

/-- The exponentials of one row of distances over the temperature. -/
def expRow (d : Vec F S1x16 .f32) : FVec F S16 .f32 :=
  exp (mulf (shapeCast S16 d shapeCasts_S1x16_S16) (broadcast S16 (Named.named κ "inv_temp" 0x41A00000#32 : F .f32)))

/-- Half over the sum: what scales every exponential of the tile. -/
def halfInv (s : FVec F S16 .f32) : FVec F S16 .f32 := divf (broadcast S16 (Scalar.ofBits .f32 0x3F000000#32 : F .f32)) s

/-- The words one row of neighbours names in the sixteen-by-512 accumulator, lane `l` naming a word of row `l`. -/
def flat (n : Vec F S1x16 .i32) : IVec S16 32 :=
  addi (muli (iota .scVector S16 32 [0] iota_S16_d0_w32_scVector) (broadcast S16 512#32)) (shapeCast S16 n shapeCasts_S1x16_S16)

/-- A row of one twentieth. -/
def twentieth : FVec F S16 .f32 := broadcast S16 (Named.named κ "one_neighbor" 0x3D4CCCCD#32 : F .f32)

/-- `n` chunks of forty zeroing operations from operation `t`, then `k`. -/
def chunks {α : Type} (i : grid0.Coords) (a8 a9 : Memref sig .scVector .vmem S8192 .f32) (v : FVec F S16 .f32) : (n t : ℕ) → t + 40 * n ≤ 2048 → P F i α → P F i α
  | 0, _, _, k => k
  | n + 1, t, h, k => (Zeroing.run i a8 a9 v 40 t (by omega)).bind fun _ => chunks i a8 a9 v n (t + 40) (by omega) k

/-- Adds to `acc` the exponentials of `n` rows from row `k`, then continues with the sum. -/
def sums {α : Type} (i : grid0.Coords) (a7 : Memref sig .scVector .vmem S20x16 .f32) : (n k : ℕ) → k + n ≤ 20 → FVec F S16 .f32 → (FVec F S16 .f32 → P F i α) → P F i α
  | 0, _, _, acc, K => K acc
  | n + 1, k, h, acc, K => .op (.load a7 (row k (by omega)).toLoadRect (View.loadsAt_vmem h_S1x16)) fun d =>
      sums i a7 n (k + 1) (by omega) (addf acc (expRow d)) K

/-- Scatters `n` rows from row `k` into the two accumulators, then continues. -/
def scat {α : Type} (i : grid0.Coords) (a6 : Memref sig .scVector .vmem S20x16 .i32) (a7 : Memref sig .scVector .vmem S20x16 .f32)
    (a8 a9 : Memref sig .scVector .vmem S8192 .f32) (c : FVec F S16 .f32) : (n k : ℕ) → k + n ≤ 20 → P F i α → P F i α
  | 0, _, _, K => K
  | n + 1, k, h, K => .op (.load a6 (row k (by omega)).toLoadRect (View.loadsAt_vmem h_S1x16)) fun nb =>
      .op (TpuEff.assume (k0_chk1 (flat nb)) (k0_chk1.dec (flat nb))) fun hw =>
      .op (.load a7 (row k (by omega)).toLoadRect (View.loadsAt_vmem h_S1x16)) fun d =>
      (SparseCore.vectorStoreIdx a8 ![flat nb] (mulf (expRow d) c) (fun _ => 1#1) true (k0_idx1_inb (flat nb) hw.down) (View.stores_vmem_bits_univ h_S8192 rfl)).bind fun _ =>
      (SparseCore.vectorStoreIdx a9 ![flat nb] twentieth (fun _ => 1#1) true (k0_idx2_inb (flat nb) hw.down) (View.stores_vmem_bits_univ h_S8192 rfl)).bind fun _ =>
      scat i a6 a7 a8 a9 c n (k + 1) (by omega) K

variable (i : grid0.Coords) (a2 : Memref sig .scVector .hbm S32x20x16 .i32) (h2 : a2.IsWhole) (a3 : Memref sig .scVector .hbm S32x20x16 .f32) (h3 : a3.IsWhole)
  (a4 : Memref sig .scVector .hbm S262144 .f32) (h4 : a4.IsWhole) (a5 : Memref sig .scVector .hbm S262144 .f32) (h5 : a5.IsWhole)
  (a6 : Memref sig .scVector .vmem S20x16 .i32) (h6 : a6.IsWhole) (a7 : Memref sig .scVector .vmem S20x16 .f32) (h7 : a7.IsWhole)
  (a8 : Memref sig .scVector .vmem S8192 .f32) (h8 : a8.IsWhole) (a9 : Memref sig .scVector .vmem S8192 .f32) (h9 : a9.IsWhole)
  (r0 r1 r2 r3 : DmaSems sig S_)

theorem part1_eq : k0_part1 (F := F) i a2 h2 a3 h3 a4 h4 a5 h5 a6 h6 a7 h7 a8 h8 a9 h9 r0 r1 r2 r3 =
    .op (.enqueueDma ((a2.slice (Rect.unit (s := S32x20x16) (k0_off1 i) S1x20x16.size (k0_off1_inb i)) (fun _ => rfl)).squeeze S20x16 squeezes_S1x20x16_S20x16)
        (.here a6) (.dma r0.sem) ((View.wordExact_bits rfl).reshape _ _) h6.wordExact ⟨Or.inl rfl, trivial⟩) fun _ =>
    .op (.waitDma2 r0.sem ((a2.slice (Rect.unit (s := S32x20x16) (k0_off1 i) S1x20x16.size (k0_off1_inb i)) (fun _ => rfl)).squeeze S20x16 squeezes_S1x20x16_S20x16)
        a6 ((View.wordExact_bits rfl).reshape _ _) h6.wordExact) fun _ =>
    .op (.enqueueDma ((a3.slice (Rect.unit (s := S32x20x16) (k0_off1 i) S1x20x16.size (k0_off1_inb i)) (fun _ => rfl)).squeeze S20x16 squeezes_S1x20x16_S20x16)
        (.here a7) (.dma r1.sem) ((View.wordExact_bits rfl).reshape _ _) h7.wordExact ⟨Or.inl rfl, trivial⟩) fun _ =>
    .op (.waitDma2 r1.sem ((a3.slice (Rect.unit (s := S32x20x16) (k0_off1 i) S1x20x16.size (k0_off1_inb i)) (fun _ => rfl)).squeeze S20x16 squeezes_S1x20x16_S20x16)
        a7 ((View.wordExact_bits rfl).reshape _ _) h7.wordExact) fun _ =>
    (Zeroing.run i a8 a9 k0_pay4 9 0 (by decide)).bind fun _ =>
    .ret ⟨Scalar.muli (Scalar.addi (Scalar.muli (BitVec.ofNat 32 (i 1).val) 2#32) (BitVec.ofNat 32 (i 0).val)) 16#32,
      iota .scVector S16 32 [0] iota_S16_d0_w32_scVector, k0_pay4⟩ := rfl

/-- The zeroing windows, one after another. -/
theorem part64_eq : k0_part64 (F := F) i a2 h2 a3 h3 a4 h4 a5 h5 a6 h6 a7 h7 a8 h8 a9 h9 r0 r1 r2 r3 =
    (k0_part1 (F := F) i a2 h2 a3 h3 a4 h4 a5 h5 a6 h6 a7 h7 a8 h8 a9 h9 r0 r1 r2 r3).bind fun x =>
      chunks i a8 a9 x.2.2 50 9 (by decide) <|
      (k0_part52 (F := F) i a2 h2 a3 h3 a4 h4 a5 h5 a6 h6 a7 h7 a8 h8 a9 h9 r0 r1 r2 r3 x.2.2).bind fun v1029 =>
      (k0_part53 (F := F) i a2 h2 a3 h3 a4 h4 a5 h5 a6 h6 a7 h7 a8 h8 a9 h9 r0 r1 r2 r3 v1029).bind fun v1065 =>
      (k0_part54 (F := F) i a2 h2 a3 h3 a4 h4 a5 h5 a6 h6 a7 h7 a8 h8 a9 h9 r0 r1 r2 r3 v1065).bind fun v1101 =>
      (k0_part55 (F := F) i a2 h2 a3 h3 a4 h4 a5 h5 a6 h6 a7 h7 a8 h8 a9 h9 r0 r1 r2 r3 v1101).bind fun v1137 =>
      (k0_part56 (F := F) i a2 h2 a3 h3 a4 h4 a5 h5 a6 h6 a7 h7 a8 h8 a9 h9 r0 r1 r2 r3 x.2.1 v1137).bind fun y =>
      (k0_part57 (F := F) i a2 h2 a3 h3 a4 h4 a5 h5 a6 h6 a7 h7 a8 h8 a9 h9 r0 r1 r2 r3 x.2.1 y.1 y.2.1 y.2.2).bind fun c =>
      (k0_part58 (F := F) i a2 h2 a3 h3 a4 h4 a5 h5 a6 h6 a7 h7 a8 h8 a9 h9 r0 r1 r2 r3 x.2.1 y.1 c).bind fun z =>
      (k0_part59 (F := F) i a2 h2 a3 h3 a4 h4 a5 h5 a6 h6 a7 h7 a8 h8 a9 h9 r0 r1 r2 r3 x.2.1 y.1 z.1 z.2).bind fun c' =>
      (k0_part60 (F := F) i a2 h2 a3 h3 a4 h4 a5 h5 a6 h6 a7 h7 a8 h8 a9 h9 r0 r1 r2 r3 x.2.1 y.1 c').bind fun u =>
      .ret ⟨x.1, x.2.1, y.1, u.1, u.2⟩ := rfl

/-- The end of the body: both accumulators copied out, one after the other. -/
def out (i : grid0.Coords) (a4 a5 : Memref sig .scVector .hbm S262144 .f32) (a8 : Memref sig .scVector .vmem S8192 .f32) (h8 : a8.IsWhole)
    (a9 : Memref sig .scVector .vmem S8192 .f32) (h9 : a9.IsWhole) (r2 r3 : DmaSems sig S_) : P F i PUnit :=
  .op (.enqueueDma a8 (.here (a4.slice (Rect.unit (s := S262144) (k0_off2 i) S8192.size (k0_off2_inb i)) (fun _ => rfl))) (.dma r2.sem)
    h8.wordExact (View.wordExact_bits rfl) ⟨Or.inl rfl, trivial⟩) fun _ =>
  .op (.waitDma2 r2.sem a8 (a4.slice (Rect.unit (s := S262144) (k0_off2 i) S8192.size (k0_off2_inb i)) (fun _ => rfl))
    h8.wordExact (View.wordExact_bits rfl)) fun _ =>
  .op (.enqueueDma a9 (.here (a5.slice (Rect.unit (s := S262144) (k0_off2 i) S8192.size (k0_off2_inb i)) (fun _ => rfl))) (.dma r3.sem)
    h9.wordExact (View.wordExact_bits rfl) ⟨Or.inl rfl, trivial⟩) fun _ =>
  .op (.waitDma2 r3.sem a9 (a5.slice (Rect.unit (s := S262144) (k0_off2 i) S8192.size (k0_off2_inb i)) (fun _ => rfl))
    h9.wordExact (View.wordExact_bits rfl)) fun _ => .ret ⟨⟩

/-- From the first row's exponential to the end of the body. -/
def sumsOn (v : FVec F S16 .f32) : P F i PUnit :=
  sums i a7 20 0 (by decide) v fun s => scat i a6 a7 a8 a9 (halfInv s) 20 0 (by decide) (out i a4 a5 a8 h8 a9 h9 r2 r3)

/-- What the body does with a value of its first sixty windows. -/
def restOn (y : Σ' (_ : BitVec 32) (_ : IVec S16 32) (_ : FVec F S16 .f32) (v1288 : IVec S16 32), k0_chk12 v1288) : P F i PUnit :=
  (k0_part61 (F := F) i a2 h2 a3 h3 a4 h4 a5 h5 a6 h6 a7 h7 a8 h8 a9 h9 r0 r1 r2 r3 y.2.1 y.2.2.1 y.2.2.2.1 y.2.2.2.2).bind fun c =>
  (k0_part62 (F := F) i a2 h2 a3 h3 a4 h4 a5 h5 a6 h6 a7 h7 a8 h8 a9 h9 r0 r1 r2 r3 y.2.1 y.2.2.1 c).bind fun z =>
  (k0_part63 (F := F) i a2 h2 a3 h3 a4 h4 a5 h5 a6 h6 a7 h7 a8 h8 a9 h9 r0 r1 r2 r3 y.2.1 y.2.2.1 z.1 z.2).bind fun c' =>
  .op (.load a6 (row 19 (by decide)).toLoadRect (View.loadsAt_vmem h_S1x16)) fun nb =>
  .op (TpuEff.assume (k0_chk20 (k0_pay1 y.2.1 c' nb)) (k0_chk20.dec (k0_pay1 y.2.1 c' nb))) fun hw =>
  .op (.load a7 (row 19 (by decide)).toLoadRect (View.loadsAt_vmem h_S1x16)) fun d =>
  (SparseCore.vectorStoreIdx a8 ![k0_pay1 y.2.1 c' nb] (k0_pay2 y.2.2.1 d) (fun _ => 1#1) true (k0_idx39_inb _ hw.down) (View.stores_vmem_bits_univ h_S8192 rfl)).bind fun _ =>
  (SparseCore.vectorStoreIdx a9 ![k0_pay1 y.2.1 c' nb] (k0_pay3 (F := F)) (fun _ => 1#1) true (k0_idx40_inb _ hw.down) (View.stores_vmem_bits_univ h_S8192 rfl)).bind fun _ =>
  out i a4 a5 a8 h8 a9 h9 r2 r3

theorem body_split : cc0__am_sc_body (F := F) i a2 h2 a3 h3 a4 h4 a5 h5 a6 h6 a7 h7 a8 h8 a9 h9 r0 r1 r2 r3 =
    (k0_part64 (F := F) i a2 h2 a3 h3 a4 h4 a5 h5 a6 h6 a7 h7 a8 h8 a9 h9 r0 r1 r2 r3).bind (restOn i a2 h2 a3 h3 a4 h4 a5 h5 a6 h6 a7 h7 a8 h8 a9 h9 r0 r1 r2 r3) := rfl

/-- The last twelve windows and the end of the body are the sum and the twenty scatter steps. -/
theorem tail_eq (w : BitVec 32) (v : FVec F S16 .f32) :
    ((k0_part53 (F := F) i a2 h2 a3 h3 a4 h4 a5 h5 a6 h6 a7 h7 a8 h8 a9 h9 r0 r1 r2 r3 v).bind fun v1065 =>
      (k0_part54 (F := F) i a2 h2 a3 h3 a4 h4 a5 h5 a6 h6 a7 h7 a8 h8 a9 h9 r0 r1 r2 r3 v1065).bind fun v1101 =>
      (k0_part55 (F := F) i a2 h2 a3 h3 a4 h4 a5 h5 a6 h6 a7 h7 a8 h8 a9 h9 r0 r1 r2 r3 v1101).bind fun v1137 =>
      (k0_part56 (F := F) i a2 h2 a3 h3 a4 h4 a5 h5 a6 h6 a7 h7 a8 h8 a9 h9 r0 r1 r2 r3 (iota .scVector S16 32 [0] iota_S16_d0_w32_scVector) v1137).bind fun y =>
      (k0_part57 (F := F) i a2 h2 a3 h3 a4 h4 a5 h5 a6 h6 a7 h7 a8 h8 a9 h9 r0 r1 r2 r3 (iota .scVector S16 32 [0] iota_S16_d0_w32_scVector) y.1 y.2.1 y.2.2).bind fun c =>
      (k0_part58 (F := F) i a2 h2 a3 h3 a4 h4 a5 h5 a6 h6 a7 h7 a8 h8 a9 h9 r0 r1 r2 r3 (iota .scVector S16 32 [0] iota_S16_d0_w32_scVector) y.1 c).bind fun z =>
      (k0_part59 (F := F) i a2 h2 a3 h3 a4 h4 a5 h5 a6 h6 a7 h7 a8 h8 a9 h9 r0 r1 r2 r3 (iota .scVector S16 32 [0] iota_S16_d0_w32_scVector) y.1 z.1 z.2).bind fun c' =>
      (k0_part60 (F := F) i a2 h2 a3 h3 a4 h4 a5 h5 a6 h6 a7 h7 a8 h8 a9 h9 r0 r1 r2 r3 (iota .scVector S16 32 [0] iota_S16_d0_w32_scVector) y.1 c').bind fun u =>
      restOn i a2 h2 a3 h3 a4 h4 a5 h5 a6 h6 a7 h7 a8 h8 a9 h9 r0 r1 r2 r3 ⟨w, iota .scVector S16 32 [0] iota_S16_d0_w32_scVector, y.1, u.1, u.2⟩) =
    sumsOn i a4 a5 a6 a7 a8 h8 a9 h9 r2 r3 v := rfl

theorem part52_eq (v : FVec F S16 .f32) : k0_part52 (F := F) i a2 h2 a3 h3 a4 h4 a5 h5 a6 h6 a7 h7 a8 h8 a9 h9 r0 r1 r2 r3 v =
    (Zeroing.run i a8 a9 v 39 2009 (by decide)).bind fun _ => .ret k0_pay5 := rfl

theorem bind_assoc' {E : Type → Type v₁} {α β γ : Type} (p : Prog E α) (f : α → Prog E β) (g : β → Prog E γ) :
    (p.bind f).bind g = p.bind fun a => (f a).bind g := Prog.bind_assoc p f g

theorem chunks_bind {α β : Type} (v : FVec F S16 .f32) (K : α → P F i β) : ∀ (n t : ℕ) (h : t + 40 * n ≤ 2048) (k : P F i α),
    (chunks i a8 a9 v n t h k).bind K = chunks i a8 a9 v n t h (k.bind K)
  | 0, _, _, _ => rfl
  | n + 1, t, h, k => by
    rw [chunks, bind_assoc', chunks]; congr 1; funext _; exact chunks_bind v K n (t + 40) _ k

/-- Two stretches of the zeroing run, one after the other, are one. -/
theorem run_bind {α : Type} (v : FVec F S16 .f32) (k : P F i α) : ∀ (n m t : ℕ) (h : t + n ≤ 2048) (h' : t + n + m ≤ 2048) (h'' : t + (n + m) ≤ 2048),
    ((Zeroing.run i a8 a9 v n t h).bind fun _ => (Zeroing.run i a8 a9 v m (t + n) h').bind fun _ => k) = (Zeroing.run i a8 a9 v (n + m) t h'').bind fun _ => k
  | 0, m, t, _, _, _ => by
    simp only [Nat.zero_add, Nat.add_zero, Zeroing.run, Prog.bind]
  | n + 1, m, t, h, h', h'' => by
    have e : n + 1 + m = (n + m) + 1 := by omega
    have key := run_bind v k n m (t + 1) (by omega) (by omega) (by omega)
    simp only [e, Zeroing.run, bind_assoc']
    congr 1; funext _
    rw [← key]
    congr 1; funext _
    have e2 : t + (n + 1) = t + 1 + n := by omega
    simp only [e2]

theorem chunks_eq {α : Type} (v : FVec F S16 .f32) (k : P F i α) : ∀ (n t : ℕ) (h : t + 40 * n ≤ 2048),
    chunks i a8 a9 v n t h k = (Zeroing.run i a8 a9 v (40 * n) t h).bind fun _ => k
  | 0, _, _ => rfl
  | n + 1, t, h => by
    rw [chunks, chunks_eq v k n (t + 40) (by omega), run_bind i a8 a9 v k 40 (40 * n) t (by omega) (by omega) (by omega)]
    have e : 40 + 40 * n = 40 * (n + 1) := by omega
    simp only [e]

/-- The tile's body: copies in, 2048 zeroing operations, the sum, the scatter, copies out. -/
theorem body_eq : cc0__am_sc_body (F := F) i a2 h2 a3 h3 a4 h4 a5 h5 a6 h6 a7 h7 a8 h8 a9 h9 r0 r1 r2 r3 =
    .op (.enqueueDma ((a2.slice (Rect.unit (s := S32x20x16) (k0_off1 i) S1x20x16.size (k0_off1_inb i)) (fun _ => rfl)).squeeze S20x16 squeezes_S1x20x16_S20x16)
        (.here a6) (.dma r0.sem) ((View.wordExact_bits rfl).reshape _ _) h6.wordExact ⟨Or.inl rfl, trivial⟩) fun _ =>
    .op (.waitDma2 r0.sem ((a2.slice (Rect.unit (s := S32x20x16) (k0_off1 i) S1x20x16.size (k0_off1_inb i)) (fun _ => rfl)).squeeze S20x16 squeezes_S1x20x16_S20x16)
        a6 ((View.wordExact_bits rfl).reshape _ _) h6.wordExact) fun _ =>
    .op (.enqueueDma ((a3.slice (Rect.unit (s := S32x20x16) (k0_off1 i) S1x20x16.size (k0_off1_inb i)) (fun _ => rfl)).squeeze S20x16 squeezes_S1x20x16_S20x16)
        (.here a7) (.dma r1.sem) ((View.wordExact_bits rfl).reshape _ _) h7.wordExact ⟨Or.inl rfl, trivial⟩) fun _ =>
    .op (.waitDma2 r1.sem ((a3.slice (Rect.unit (s := S32x20x16) (k0_off1 i) S1x20x16.size (k0_off1_inb i)) (fun _ => rfl)).squeeze S20x16 squeezes_S1x20x16_S20x16)
        a7 ((View.wordExact_bits rfl).reshape _ _) h7.wordExact) fun _ =>
    (Zeroing.run i a8 a9 k0_pay4 2048 0 (by decide)).bind fun _ =>
    sumsOn i a4 a5 a6 a7 a8 h8 a9 h9 r2 r3 k0_pay5 := by
  rw [body_split, part64_eq, bind_assoc', part1_eq]
  simp only [Prog.bind, bind_assoc', chunks_bind]
  simp only [tail_eq, part52_eq, Prog.bind, bind_assoc']
  rw [chunks_eq]
  rw [run_bind i a8 a9 k0_pay4 _ (40 * 50) 39 9 (by decide) (by decide) (by decide)]
  rw [run_bind i a8 a9 k0_pay4 _ 9 (40 * 50 + 39) 0 (by decide) (by decide) (by decide)]

end Cert.Proof.BodyText

end
-- ==== Proof.ZeroRun.lean ====
/-
  The zeroing run of a tile: after it both accumulators hold the stored word everywhere.
-/
module

public import proofs.«01_k».proof.Proof.Setup
public import proofs.«01_k».proof.Proof.BodyText

@[expose] public section

noncomputable section

namespace Cert.Proof.ZeroRun

open Cert.KernelIdeal Cert.KernelIdeal.Gen Cert.Proof.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MM F
local notation "sA" => (Memref.whole Cert.KernelIdeal.cc0_scratch2 : Memref Cert.KernelIdeal.sig Kind.scVector Space.vmem Cert.KernelIdeal.S8192 EltTy.f32)
local notation "sM" => (Memref.whole Cert.KernelIdeal.cc0_scratch3 : Memref Cert.KernelIdeal.sig Kind.scVector Space.vmem Cert.KernelIdeal.S8192 EltTy.f32)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The first `16 n` words of an accumulator hold `z`. -/
def Zeroed (z : F .f32) (n : ℕ) (f : S8192.Idx → F .f32) : Prop := ∀ x : S8192.Idx, (x 0).val < 16 * n → f x = z

/-- What the store of operation `t` leaves holds `z` on sixteen words more. -/
theorem zeroed_step (f g : S8192.Idx → F .f32) (z : F .f32) (t : ℕ) (h : t < 2048) (hf : Zeroed z (t / 4) f)
    (hin : ∀ y : (Zeroing.part t h).shape.Idx, g ((Zeroing.part t h).emb y) = z)
    (hout : ∀ x, x ∉ (Zeroing.part t h).set → g x = f x) : Zeroed z (t / 4 + 1) g := by
  intro x hx
  by_cases hm : x ∈ (Zeroing.part t h).set
  · rw [← Rect.map_emb_univ] at hm
    obtain ⟨y, -, rfl⟩ := Finset.mem_map.mp hm
    exact hin y
  · rw [hout x hm]
    apply hf
    by_contra hge
    apply hm
    rw [Rect.mem_set_unit]
    intro a
    match a with
    | 0 => exact ⟨by show 16 * (t / 4) ≤ (x 0).val; omega, by show (x 0).val < 16 * (t / 4) + 16; omega⟩

theorem zeroed_mono {z : F .f32} {n n' : ℕ} (h : n' ≤ n) {f : S8192.Idx → F .f32} (hf : Zeroed z n f) : Zeroed z n' f :=
  fun x hx => hf x (by omega)

theorem writeA (f : S8192.Idx → F .f32) (v : FVec F S16 .f32) (z : F .f32) (hv : ∀ x, v x = z) (t : ℕ) (h : t < 2048) (hf : Zeroed z (t / 4) f) :
    Zeroed z (t / 4 + 1) (((sA).access (Zeroing.part t h)).write (Elt F) f v Finset.univ) :=
  zeroed_step f _ z t h hf
    (fun y => (((sA).access (Zeroing.part t h)).write_emb_of_mem (Val := Elt F) f v (Finset.mem_univ y)).trans (hv y))
    (fun x hx => View.write_of_not_mem (Val := Elt F) (v := (sA).access (Zeroing.part t h)) f v Finset.univ (by
      rw [View.setOn_univ]; intro hc; apply hx; rw [← Rect.map_emb_univ]; exact hc))

theorem writeM (f : S8192.Idx → F .f32) (v : FVec F S16 .f32) (z : F .f32) (hv : ∀ x, v x = z) (t : ℕ) (h : t < 2048) (hf : Zeroed z (t / 4) f) :
    Zeroed z (t / 4 + 1) (((sM).access (Zeroing.part t h)).write (Elt F) f v Finset.univ) :=
  zeroed_step f _ z t h hf
    (fun y => (((sM).access (Zeroing.part t h)).write_emb_of_mem (Val := Elt F) f v (Finset.mem_univ y)).trans (hv y))
    (fun x hx => View.write_of_not_mem (Val := Elt F) (v := (sM).access (Zeroing.part t h)) f v Finset.univ (by
      rw [View.setOn_univ]; intro hc; apply hx; rw [← Rect.map_emb_univ]; exact hc))

/-- One operation of the zeroing. -/
theorem wp_step (d : Dev nD) (L : grid0.Coords) (v : FVec F S16 .f32) (z : F .f32) (hv : ∀ x, v x = z) (t : ℕ) (h : t < 2048)
    {α : Type} (k : PUnit → Prog (TpuEff nD τ sig (Elt F) Λ₀ (.scVector ((L 0).castLE hcore0) ((L 1).castLE hsub0))) α)
    (Q : α → sProp 𝕄) (f8 f9 : S8192.Idx → F .f32)
    (h8 : Zeroed z ((t + 2) / 4) f8) (h9 : Zeroed z (t / 4) f9) :
    iprop((((sA).view.loc (thr d L)) ↦{fullShare} f8) ∗ (((sM).view.loc (thr d L)) ↦{fullShare} f9)
        ∗ (∀ g8 : S8192.Idx → F .f32, ∀ g9 : S8192.Idx → F .f32, ⌜Zeroed z ((t + 3) / 4) g8 ∧ Zeroed z ((t + 1) / 4) g9⌝ -∗
            (((sA).view.loc (thr d L)) ↦{fullShare} g8) -∗ (((sM).view.loc (thr d L)) ↦{fullShare} g9) -∗
            wp frame (wpE (defs₀ (F := F)) 𝒱₀ (thr d L) none) Set.univ (k ⟨⟩) Q))
      ⊢ (wp frame (wpE (defs₀ (F := F)) 𝒱₀ (thr d L) none) Set.univ ((Zeroing.step L sA sM v t h).bind k) Q : sProp 𝕄) := by
  iintro ⟨H8, H9, Hk⟩
  unfold Zeroing.step
  split
  · rename_i e
    simp only [Prog.bind]
    iapply (wp_load 𝒱₀ (thr d L) none Set.univ (m := sA) (S := Finset.univ) (Finset.subset_univ _)) $$ H8
    iintro H8
    iapply Hk $$ [] H8 H9
    ipureintro
    exact ⟨by rwa [show (t + 3) / 4 = (t + 2) / 4 by omega], by rwa [show (t + 1) / 4 = t / 4 by omega]⟩
  · rename_i e
    simp only [Prog.bind]
    iapply (wp_store 𝒱₀ (thr d L) none Set.univ (m := sA) (r := Zeroing.part t h) (w := v) (f := f8) (Mk := Finset.univ) (S := Finset.univ) (Finset.subset_univ _)) $$ H8
    iintro H8
    iapply Hk $$ [] H8 H9
    ipureintro
    exact ⟨by rw [show (t + 3) / 4 = t / 4 + 1 by omega]; exact writeA f8 v z hv t h (zeroed_mono (by omega) h8), by rwa [show (t + 1) / 4 = t / 4 by omega]⟩
  · rename_i e
    simp only [Prog.bind]
    iapply (wp_load 𝒱₀ (thr d L) none Set.univ (m := sM) (S := Finset.univ) (Finset.subset_univ _)) $$ H9
    iintro H9
    iapply Hk $$ [] H8 H9
    ipureintro
    exact ⟨by rwa [show (t + 3) / 4 = (t + 2) / 4 by omega], by rwa [show (t + 1) / 4 = t / 4 by omega]⟩
  · rename_i e0 e1 e2
    simp only [Prog.bind]
    iapply (wp_store 𝒱₀ (thr d L) none Set.univ (m := sM) (r := Zeroing.part t h) (w := v) (f := f9) (Mk := Finset.univ) (S := Finset.univ) (Finset.subset_univ _)) $$ H9
    iintro H9
    iapply Hk $$ [] H8 H9
    ipureintro
    have e0 : t % 4 ≠ 0 := e0
    have e1 : t % 4 ≠ 1 := e1
    have e2 : t % 4 ≠ 2 := e2
    exact ⟨by rwa [show (t + 3) / 4 = (t + 2) / 4 by omega],
      by rw [show (t + 1) / 4 = t / 4 + 1 by omega]; exact writeM f9 v z hv t h h9⟩

/-- The zeroing run: every word of both accumulators up to where it stops. -/
theorem wp_zero (d : Dev nD) (L : grid0.Coords) (v : FVec F S16 .f32) (z : F .f32) (hv : ∀ x, v x = z)
    {α : Type} (k : PUnit → Prog (TpuEff nD τ sig (Elt F) Λ₀ (.scVector ((L 0).castLE hcore0) ((L 1).castLE hsub0))) α)
    (Q : α → sProp 𝕄) : ∀ (n t : ℕ) (h : t + n ≤ 2048) (f8 f9 : S8192.Idx → F .f32)
    (_ : Zeroed z ((t + 2) / 4) f8) (_ : Zeroed z (t / 4) f9),
    iprop((((sA).view.loc (thr d L)) ↦{fullShare} f8) ∗ (((sM).view.loc (thr d L)) ↦{fullShare} f9)
        ∗ (∀ g8 : S8192.Idx → F .f32, ∀ g9 : S8192.Idx → F .f32, ⌜Zeroed z ((t + n + 2) / 4) g8 ∧ Zeroed z ((t + n) / 4) g9⌝ -∗
            (((sA).view.loc (thr d L)) ↦{fullShare} g8) -∗ (((sM).view.loc (thr d L)) ↦{fullShare} g9) -∗
            wp frame (wpE (defs₀ (F := F)) 𝒱₀ (thr d L) none) Set.univ (k ⟨⟩) Q))
      ⊢ (wp frame (wpE (defs₀ (F := F)) 𝒱₀ (thr d L) none) Set.univ ((Zeroing.run L sA sM v n t h).bind k) Q : sProp 𝕄)
  | 0, t, h, f8, f9, h8, h9 => by
    iintro ⟨H8, H9, Hk⟩
    simp only [Zeroing.run, Prog.bind]
    iapply Hk $$ [] H8 H9
    ipureintro
    exact ⟨h8, h9⟩
  | n + 1, t, h, f8, f9, h8, h9 => by
    iintro ⟨H8, H9, Hk⟩
    rw [Zeroing.run, BodyText.bind_assoc']
    iapply (wp_step d L v z hv t _ (fun _ => (Zeroing.run L sA sM v n (t + 1) _).bind k) Q f8 f9 h8 h9) $$ [H8 H9 Hk]
    isplitl [H8]
    · iexact H8
    isplitl [H9]
    · iexact H9
    iintro %g8 %g9 %hg H8 H9
    iapply (wp_zero d L v z hv k Q n (t + 1) _ g8 g9 hg.1 hg.2) $$ [H8 H9 Hk]
    isplitl [H8]
    · iexact H8
    isplitl [H9]
    · iexact H9
    rw [show t + 1 + n = t + (n + 1) by omega]
    iexact Hk

end Cert.Proof.ZeroRun

end
-- ==== Proof.TileSteps.lean ====
/-
  The sum of a tile's exponentials and its scatter into the two accumulators, step by step: what each leaves.
-/
module

public import proofs.«01_k».proof.Proof.Setup
public import proofs.«01_k».proof.Proof.BodyText
public import proofs.«01_k».proof.Proof.ZeroRun

@[expose] public section

noncomputable section

namespace Cert.Proof.TileSteps

open Cert.KernelIdeal Cert.KernelIdeal.Gen Cert.Proof.Setup Cert.Proof.BodyText
open Cert.Proof.ZeroRun (cV jV thr)
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MM F
local notation "sN" => (Memref.whole Cert.KernelIdeal.cc0_scratch0 : Memref Cert.KernelIdeal.sig Kind.scVector Space.vmem Cert.KernelIdeal.S20x16 EltTy.i32)
local notation "sD" => (Memref.whole Cert.KernelIdeal.cc0_scratch1 : Memref Cert.KernelIdeal.sig Kind.scVector Space.vmem Cert.KernelIdeal.S20x16 EltTy.f32)
local notation "sA" => (Memref.whole Cert.KernelIdeal.cc0_scratch2 : Memref Cert.KernelIdeal.sig Kind.scVector Space.vmem Cert.KernelIdeal.S8192 EltTy.f32)
local notation "sM" => (Memref.whole Cert.KernelIdeal.cc0_scratch3 : Memref Cert.KernelIdeal.sig Kind.scVector Space.vmem Cert.KernelIdeal.S8192 EltTy.f32)

/-- Row `k` of a block of sixteen query rows' neighbours (or distances). -/
def rowOf {e : EltTy} (k : ℕ) (h : k < 20) (f : Vec F S20x16 e) : Vec F S1x16 e := fun x => f ((row k h).emb x)

/-- The sum after `n` rows from row `k`. -/
def sumOf (ds : Vec F S20x16 .f32) : (n k : ℕ) → k + n ≤ 20 → FVec F S16 .f32 → FVec F S16 .f32
  | 0, _, _, acc => acc
  | n + 1, k, h, acc => sumOf ds n (k + 1) (by omega) (addf acc (expRow (rowOf k (by omega) ds)))

/-- One row scattered into an accumulator, values `v`. -/
def scatRow (nb : Vec F S1x16 .i32) (v : FVec F S16 .f32) (f : Vec F S8192 .f32) : Vec F S8192 .f32 :=
  if h : k0_chk1 (flat nb) then storeIdx f ![flat nb] v (fun _ => 1#1) true (k0_idx1_inb (flat nb) h) else f

/-- The first accumulator after `n` rows from row `k`. -/
def scatA (nb : Vec F S20x16 .i32) (ds : Vec F S20x16 .f32) (c : FVec F S16 .f32) : (n k : ℕ) → k + n ≤ 20 → Vec F S8192 .f32 → Vec F S8192 .f32
  | 0, _, _, f => f
  | n + 1, k, h, f => scatA nb ds c n (k + 1) (by omega) (scatRow (rowOf k (by omega) nb) (mulf (expRow (rowOf k (by omega) ds)) c) f)

/-- The second. -/
def scatM (nb : Vec F S20x16 .i32) : (n k : ℕ) → k + n ≤ 20 → Vec F S8192 .f32 → Vec F S8192 .f32
  | 0, _, _, f => f
  | n + 1, k, h, f => scatM nb n (k + 1) (by omega) (scatRow (rowOf k (by omega) nb) twentieth f)

/-- Every row of the block names words of the accumulators. -/
def InRange (nb : Vec F S20x16 .i32) : Prop := ∀ k (h : k < 20), k0_chk1 (flat (rowOf (F := F) k h nb))

/-- The sum: the distances come back. -/
theorem wp_sums (d : Dev nD) (L : grid0.Coords) {α : Type} (ds : Vec F S20x16 .f32) (Kn : FVec F S16 .f32 → P F L α) (Q : α → sProp 𝕄) :
    ∀ (n k : ℕ) (h : k + n ≤ 20) (acc : FVec F S16 .f32),
    iprop((((sD).view.loc (thr d L)) ↦{fullShare} ds) ∗ ((((sD).view.loc (thr d L)) ↦{fullShare} ds) -∗
            wp frame (wpE (defs₀ (F := F)) 𝒱₀ (thr d L) none) Set.univ (Kn (sumOf ds n k h acc)) Q))
      ⊢ (wp frame (wpE (defs₀ (F := F)) 𝒱₀ (thr d L) none) Set.univ (sums L sD n k h acc Kn) Q : sProp 𝕄)
  | 0, k, h, acc => by
    iintro ⟨H, Hk⟩
    iapply Hk $$ H
  | n + 1, k, h, acc => by
    iintro ⟨H, Hk⟩
    simp only [sums]
    iapply (wp_load 𝒱₀ (thr d L) none Set.univ (m := sD) (S := Finset.univ) (Finset.subset_univ _)) $$ H
    iintro H
    iapply (wp_sums d L ds Kn Q n (k + 1) (by omega) (addf acc (expRow (rowOf k (by omega) ds)))) $$ [H Hk]
    isplitl [H]
    · iexact H
    iexact Hk

theorem scatRow_of (nb : Vec F S1x16 .i32) (v : FVec F S16 .f32) (h : k0_chk1 (flat nb)) :
    scatRow nb v = fun f => storeIdx f ![flat nb] v (fun _ => 1#1) true (k0_idx1_inb (flat nb) h) := funext fun _ => dif_pos h

/-- One indexed store into the first accumulator. -/
theorem wp_storeA (d : Dev nD) (L : grid0.Coords) {α : Type} (f : Vec F S8192 .f32) (ix : IVec S16 32) (v : FVec F S16 .f32)
    (hi : ∀ a x, ((![ix] : Fin 1 → IVec S16 32) a x).toNat < S8192.size a) (hs : ((sA).access (.whole S8192)).Stores Finset.univ)
    (k : PUnit → P F L α) (Q : α → sProp 𝕄) :
    ((sA).view.loc (thr d L) ↦{fullShare} f)
      ⊢ iprop((((sA).view.loc (thr d L) ↦{fullShare} storeIdx f ![ix] v (fun _ => 1#1) true hi)
          -∗ wp frame (wpE (defs₀ (F := F)) 𝒱₀ (thr d L) none) Set.univ (k ⟨⟩) Q)
        -∗ (wp frame (wpE (defs₀ (F := F)) 𝒱₀ (thr d L) none) Set.univ ((SparseCore.vectorStoreIdx sA ![ix] v (fun _ => 1#1) true hi hs).bind k) Q : sProp 𝕄)) := by
  have h := SparseCore.wp_vectorStoreIdx (defs := defs₀ (F := F)) (Ix := HIx 1) (Name := ℕ) (U := UU) (Lvl := ℕ) 𝒱₀ (thr d L) none Set.univ (base := sA) (idxs := ![ix]) (v := v) (mask := fun _ => 1#1) (add := true)
    (h := hi) (hs := hs) (k := k) (Q := Q) (f := f)
  rw [Memref.read_access_whole (Elt F) cc0_scratch2 f, Memref.write_access_whole_univ (Elt F) cc0_scratch2 f, Memref.set_access_whole cc0_scratch2] at h
  exact h

/-- One indexed store into the second accumulator. -/
theorem wp_storeM (d : Dev nD) (L : grid0.Coords) {α : Type} (f : Vec F S8192 .f32) (ix : IVec S16 32) (v : FVec F S16 .f32)
    (hi : ∀ a x, ((![ix] : Fin 1 → IVec S16 32) a x).toNat < S8192.size a) (hs : ((sM).access (.whole S8192)).Stores Finset.univ)
    (k : PUnit → P F L α) (Q : α → sProp 𝕄) :
    ((sM).view.loc (thr d L) ↦{fullShare} f)
      ⊢ iprop((((sM).view.loc (thr d L) ↦{fullShare} storeIdx f ![ix] v (fun _ => 1#1) true hi)
          -∗ wp frame (wpE (defs₀ (F := F)) 𝒱₀ (thr d L) none) Set.univ (k ⟨⟩) Q)
        -∗ (wp frame (wpE (defs₀ (F := F)) 𝒱₀ (thr d L) none) Set.univ ((SparseCore.vectorStoreIdx sM ![ix] v (fun _ => 1#1) true hi hs).bind k) Q : sProp 𝕄)) := by
  have h := SparseCore.wp_vectorStoreIdx (defs := defs₀ (F := F)) (Ix := HIx 1) (Name := ℕ) (U := UU) (Lvl := ℕ) 𝒱₀ (thr d L) none Set.univ (base := sM) (idxs := ![ix]) (v := v) (mask := fun _ => 1#1) (add := true)
    (h := hi) (hs := hs) (k := k) (Q := Q) (f := f)
  rw [Memref.read_access_whole (Elt F) cc0_scratch3 f, Memref.write_access_whole_univ (Elt F) cc0_scratch3 f, Memref.set_access_whole cc0_scratch3] at h
  exact h

/-- The scatter: both accumulators rewritten row by row. -/
theorem wp_scat (d : Dev nD) (L : grid0.Coords) {α : Type} (nb : Vec F S20x16 .i32) (ds : Vec F S20x16 .f32) (c : FVec F S16 .f32) (hin : InRange (F := F) nb)
    (Kn : P F L α) (Q : α → sProp 𝕄) :
    ∀ (n k : ℕ) (h : k + n ≤ 20) (fA fM : Vec F S8192 .f32),
    iprop((((sN).view.loc (thr d L)) ↦{fullShare} nb) ∗ (((sD).view.loc (thr d L)) ↦{fullShare} ds) ∗ (((sA).view.loc (thr d L)) ↦{fullShare} fA) ∗ (((sM).view.loc (thr d L)) ↦{fullShare} fM)
        ∗ ((((sN).view.loc (thr d L)) ↦{fullShare} nb) -∗ (((sD).view.loc (thr d L)) ↦{fullShare} ds) -∗ (((sA).view.loc (thr d L)) ↦{fullShare} scatA nb ds c n k h fA) -∗ (((sM).view.loc (thr d L)) ↦{fullShare} scatM (F := F) nb n k h fM) -∗
            wp frame (wpE (defs₀ (F := F)) 𝒱₀ (thr d L) none) Set.univ Kn Q))
      ⊢ (wp frame (wpE (defs₀ (F := F)) 𝒱₀ (thr d L) none) Set.univ (scat L sN sD sA sM c n k h Kn) Q : sProp 𝕄)
  | 0, k, h, fA, fM => by
    iintro ⟨HN, HD, HA, HM, Hk⟩
    simp only [scat, scatA, scatM]
    iapply Hk $$ HN HD HA HM
  | n + 1, k, h, fA, fM => by
    iintro ⟨HN, HD, HA, HM, Hk⟩
    simp only [scat]
    iapply (wp_load 𝒱₀ (thr d L) none Set.univ (m := sN) (S := Finset.univ) (Finset.subset_univ _)) $$ HN
    iintro HN
    have hc : k0_chk1 (flat (F := F) (View.readAt (Elt F) (sN).view (row k (by omega)).toLoadRect nb)) := hin k (by omega)
    rw [wp_assume_of _ _ _ _ hc]
    iapply (wp_load 𝒱₀ (thr d L) none Set.univ (m := sD) (S := Finset.univ) (Finset.subset_univ _)) $$ HD
    iintro HD
    iapply (wp_storeA d L fA) $$ HA
    iintro HA
    iapply (wp_storeM d L fM) $$ HM
    iintro HM
    iapply (wp_scat d L nb ds c hin Kn Q n (k + 1) _ (scatRow (rowOf k (by omega) nb) (mulf (expRow (rowOf k (by omega) ds)) c) fA)
      (scatRow (rowOf k (by omega) nb) twentieth fM)) $$ [HN HD HA HM Hk]
    isplitl [HN]
    · iexact HN
    isplitl [HD]
    · iexact HD
    isplitl [HA]
    · rw [show scatRow (rowOf k _ nb) (mulf (expRow (rowOf k _ ds)) c) fA = _ from congrFun (scatRow_of _ _ hc) fA]
      iexact HA
    isplitl [HM]
    · rw [show scatRow (rowOf k _ nb) twentieth fM = _ from congrFun (scatRow_of _ _ hc) fM]
      iexact HM
    iexact Hk

end Cert.Proof.TileSteps

end
-- ==== Proof.Tile.lean ====
/-
  One tile's task: what it is handed, what it leaves, and its run.
-/
module

public import proofs.«01_k».proof.Proof.TileSteps

@[expose] public section

set_option maxRecDepth 16384

noncomputable section

namespace Cert.Proof.Tile

open Cert.KernelIdeal Cert.KernelIdeal.Gen Cert.Proof.Setup Cert.Proof.BodyText Cert.Proof.TileSteps
open Cert.Proof.ZeroRun (cV jV thr wp_zero)
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MM F
local notation "nV" => (Memref.whole Cert.KernelIdeal.main_v3_scv : Memref Cert.KernelIdeal.sig Kind.scVector Space.hbm Cert.KernelIdeal.S32x20x16 EltTy.i32)
local notation "dV" => (Memref.whole Cert.KernelIdeal.main_v6_scv : Memref Cert.KernelIdeal.sig Kind.scVector Space.hbm Cert.KernelIdeal.S32x20x16 EltTy.f32)
local notation "aV" => (Memref.whole Cert.KernelIdeal.main_v7_0_scv : Memref Cert.KernelIdeal.sig Kind.scVector Space.hbm Cert.KernelIdeal.S262144 EltTy.f32)
local notation "mV" => (Memref.whole Cert.KernelIdeal.main_v7_1_scv : Memref Cert.KernelIdeal.sig Kind.scVector Space.hbm Cert.KernelIdeal.S262144 EltTy.f32)
local notation "sN" => (Memref.whole Cert.KernelIdeal.cc0_scratch0 : Memref Cert.KernelIdeal.sig Kind.scVector Space.vmem Cert.KernelIdeal.S20x16 EltTy.i32)
local notation "sD" => (Memref.whole Cert.KernelIdeal.cc0_scratch1 : Memref Cert.KernelIdeal.sig Kind.scVector Space.vmem Cert.KernelIdeal.S20x16 EltTy.f32)
local notation "sA" => (Memref.whole Cert.KernelIdeal.cc0_scratch2 : Memref Cert.KernelIdeal.sig Kind.scVector Space.vmem Cert.KernelIdeal.S8192 EltTy.f32)
local notation "sM" => (Memref.whole Cert.KernelIdeal.cc0_scratch3 : Memref Cert.KernelIdeal.sig Kind.scVector Space.vmem Cert.KernelIdeal.S8192 EltTy.f32)

abbrev nLoc (d : Dev nD) : Loc nD τ sig := (SparseCore.T d).loc main_v3
abbrev dLoc (d : Dev nD) : Loc nD τ sig := (SparseCore.T d).loc main_v6
abbrev aLoc (d : Dev nD) : Loc nD τ sig := (SparseCore.T d).loc main_v7_0
abbrev mLoc (d : Dev nD) : Loc nD τ sig := (SparseCore.T d).loc main_v7_1

/-- The plane of neighbours and distances a tile reads, the words of the two results it writes. -/
abbrev inRect (L : grid0.Coords) : Rect S32x20x16 := Rect.unit (s := S32x20x16) (k0_off1 L) S1x20x16.size (k0_off1_inb L)
abbrev outRect (L : grid0.Coords) : Rect S262144 := Rect.unit (s := S262144) (k0_off2 L) S8192.size (k0_off2_inb L)
abbrev nK (L : grid0.Coords) : Memref sig .scVector .hbm S20x16 .i32 := ((nV).slice (inRect L) (fun _ => rfl)).squeeze S20x16 squeezes_S1x20x16_S20x16
abbrev dK (L : grid0.Coords) : Memref sig .scVector .hbm S20x16 .f32 := ((dV).slice (inRect L) (fun _ => rfl)).squeeze S20x16 squeezes_S1x20x16_S20x16
abbrev aK (L : grid0.Coords) : Memref sig .scVector .hbm S8192 .f32 := (aV).slice (outRect L) (fun _ => rfl)
abbrev mK (L : grid0.Coords) : Memref sig .scVector .hbm S8192 .f32 := (mV).slice (outRect L) (fun _ => rfl)

/-- A tile's plane of the neighbours, and of the distances. -/
def planeN (L : grid0.Coords) (f : Vec F S32x20x16 .i32) : Vec F S20x16 .i32 := (nK L).view.read (Elt F) f
def planeD (L : grid0.Coords) (f : Vec F S32x20x16 .f32) : Vec F S20x16 .f32 := (dK L).view.read (Elt F) f

/-- The word the accumulators start from. -/
def zeroAcc : Vec F S8192 .f32 := fun _ => (Scalar.ofBits .f32 0x00000000#32 : F .f32)

/-- What a tile leaves in its two accumulators, of its planes of neighbours and distances. -/
def tileA (nb : Vec F S20x16 .i32) (ds : Vec F S20x16 .f32) : Vec F S8192 .f32 :=
  scatA nb ds (halfInv (sumOf ds 20 0 (by decide) k0_pay5)) 20 0 (by decide) zeroAcc
def tileM (nb : Vec F S20x16 .i32) : Vec F S8192 .f32 := scatM (F := F) nb 20 0 (by decide) zeroAcc

theorem tileA_eq (nb : Vec F S20x16 .i32) (ds : Vec F S20x16 .f32) (h h' : 0 + 20 ≤ 20) :
    scatA nb ds (halfInv (sumOf ds 20 0 h k0_pay5)) 20 0 h' zeroAcc = tileA nb ds := rfl
theorem tileM_eq (nb : Vec F S20x16 .i32) (h : 0 + 20 ≤ 20) : scatM (F := F) nb 20 0 h zeroAcc = tileM nb := rfl

def coordsV (c : Fin (grid0.bound 0)) (s : Fin (grid0.bound 1)) : grid0.Coords :=
  fun | 0 => c | 1 => s | ⟨_ + 2, h⟩ => absurd h (Nat.not_lt.2 (Nat.le_add_left _ _))

theorem word_lt (x : S262144.Idx) : (x 0).val < 262144 := (x 0).isLt

/-- The tile that writes word `x`, and where in its accumulator the word is. -/
def tileOf (x : S262144.Idx) : grid0.Coords :=
  coordsV ⟨(x 0).val / 8192 % 2, by show _ < 2; omega⟩ ⟨(x 0).val / 16384, by show _ < 16; have := word_lt x; omega⟩
def inTile (x : S262144.Idx) : S8192.Idx := fun | 0 => ⟨(x 0).val % 8192, by show _ < 8192; omega⟩

/-- The two results of the SparseCore call, of its two operands. -/
def arrA (fN : Vec F S32x20x16 .i32) (fD : Vec F S32x20x16 .f32) : Vec F S262144 .f32 :=
  fun x => tileA (planeN (tileOf x) fN) (planeD (tileOf x) fD) (inTile x)
def arrM (fN : Vec F S32x20x16 .i32) : Vec F S262144 .f32 := fun x => tileM (planeN (tileOf x) fN) (inTile x)

theorem outRect_emb (L : grid0.Coords) (y : S8192.Idx) : ((((outRect L).emb y) 0 : Fin _) : ℕ) = 16384 * (L 1).val + 8192 * (L 0).val + (y 0).val := by
  show k0_off2 L 0 + 1 * (y 0).val = _
  rw [k0_off2_eq, Nat.one_mul]; rfl

theorem tileOf_emb (L : grid0.Coords) (y : S8192.Idx) : tileOf ((outRect L).emb y) = L := by
  have h0 : (L 0).val < 2 := (L 0).isLt
  have h1 : (L 1).val < 16 := (L 1).isLt
  have hy : (y 0).val < 8192 := (y 0).isLt
  funext a
  match a with
  | 0 => apply Fin.ext; show ((((outRect L).emb y) 0 : Fin _) : ℕ) / 8192 % 2 = (L 0).val; rw [outRect_emb]; omega
  | 1 => apply Fin.ext; show ((((outRect L).emb y) 0 : Fin _) : ℕ) / 16384 = (L 1).val; rw [outRect_emb]; omega

theorem inTile_emb (L : grid0.Coords) (y : S8192.Idx) : inTile ((outRect L).emb y) = y := by
  have hy : (y 0).val < 8192 := (y 0).isLt
  funext a
  match a with
  | 0 => apply Fin.ext; show ((((outRect L).emb y) 0 : Fin _) : ℕ) % 8192 = (y 0).val; rw [outRect_emb]; omega

theorem arrA_emb (fN : Vec F S32x20x16 .i32) (fD : Vec F S32x20x16 .f32) (L : grid0.Coords) (y : S8192.Idx) :
    arrA fN fD ((outRect L).emb y) = tileA (planeN L fN) (planeD L fD) y := by
  unfold arrA; rw [tileOf_emb, inTile_emb]
theorem arrM_emb (fN : Vec F S32x20x16 .i32) (L : grid0.Coords) (y : S8192.Idx) :
    arrM fN ((outRect L).emb y) = tileM (F := F) (planeN L fN) y := by
  unfold arrM; rw [tileOf_emb, inTile_emb]

section Run

variable (d : Dev nD) (L : grid0.Coords)

theorem set_nK : (nK L).view.set = (inRect L).set := by
  show (((nV).view.slice (inRect L)).reshape S20x16 squeezes_S1x20x16_S20x16.numel_eq).set = _
  rw [View.set_reshape, View.set_slice_whole]
theorem set_dK : (dK L).view.set = (inRect L).set := by
  show (((dV).view.slice (inRect L)).reshape S20x16 squeezes_S1x20x16_S20x16.numel_eq).set = _
  rw [View.set_reshape, View.set_slice_whole]
theorem set_aK : (aK L).view.set = (outRect L).set := by
  show ((aV).view.slice (outRect L)).set = _
  rw [View.set_slice_whole]
theorem set_mK : (mK L).view.set = (outRect L).set := by
  show ((mV).view.slice (outRect L)).set = _
  rw [View.set_slice_whole]

theorem pts_nK (f : Buf (Elt F) (nLoc d)) :
    ((nK L).view.loc (thr d L) ↦[(nK L).view.set]{fullShare} f : sProp 𝕄) = nLoc d ↦[(inRect L).set]{fullShare} f := by rw [set_nK]
theorem pts_dK (f : Buf (Elt F) (dLoc d)) :
    ((dK L).view.loc (thr d L) ↦[(dK L).view.set]{fullShare} f : sProp 𝕄) = dLoc d ↦[(inRect L).set]{fullShare} f := by rw [set_dK]
theorem pts_aK (f : Buf (Elt F) (aLoc d)) :
    ((aK L).view.loc (thr d L) ↦[(aK L).view.set]{fullShare} f : sProp 𝕄) = aLoc d ↦[(outRect L).set]{fullShare} f := by rw [set_aK]
theorem pts_mK (f : Buf (Elt F) (mLoc d)) :
    ((mK L).view.loc (thr d L) ↦[(mK L).view.set]{fullShare} f : sProp 𝕄) = mLoc d ↦[(outRect L).set]{fullShare} f := by rw [set_mK]

theorem pts_sN (f : Buf (Elt F) ((thr d L).loc cc0_scratch0)) :
    ((sN).view.loc (thr d L) ↦{fullShare} f : sProp 𝕄) = (V d (cV L) (jV L)).loc cc0_scratch0 ↦{fullShare} f := rfl
theorem pts_sD (f : Buf (Elt F) ((thr d L).loc cc0_scratch1)) :
    ((sD).view.loc (thr d L) ↦{fullShare} f : sProp 𝕄) = (V d (cV L) (jV L)).loc cc0_scratch1 ↦{fullShare} f := rfl
theorem pts_sA (f : Buf (Elt F) ((thr d L).loc cc0_scratch2)) :
    ((sA).view.loc (thr d L) ↦{fullShare} f : sProp 𝕄) = (V d (cV L) (jV L)).loc cc0_scratch2 ↦{fullShare} f := rfl
theorem pts_sM (f : Buf (Elt F) ((thr d L).loc cc0_scratch3)) :
    ((sM).view.loc (thr d L) ↦{fullShare} f : sProp 𝕄) = (V d (cV L) (jV L)).loc cc0_scratch3 ↦{fullShare} f := rfl

/-- The four transfer cells of the task. -/
abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)

theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase
              (cell3 d (cV L) (jV L))) fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide, (mem_ownCells (g := cell3 d (cV L) (jV L))).mpr ⟨rfl, by
        show (SemLoc.dma cc0_scoped3.sem : SemLoc sig).isScoped .scVector = true; decide⟩⟩⟩⟩)]

/-- The subcore's own buffers are its four scratches, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  have ne : ∀ (a b : Ref sig .scVector), a ≠ b → (Proc.scVector (cV L) (jV L)).devRef a ≠ (Proc.scVector (cV L) (jV L)).devRef b :=
    fun a b h e => absurd (Proc.devRef_injective _ e) h
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ne cc0_scratch1 cc0_scratch0 (by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨ne cc0_scratch2 cc0_scratch1 (by decide), Finset.mem_erase.mpr ⟨ne cc0_scratch2 cc0_scratch0 (by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide),
      SparseCore.Cfg.mem_ownRefs_of_owner (p := Proc.scVector (cV L) (jV L)) (b := (Proc.scVector (cV L) (jV L)).devRef cc0_scratch3) rfl⟩⟩⟩)]

theorem whole_write (b : Ref sig .scVector) (f w : b.ty.Contents (Elt F)) : View.write (Elt F) (Memref.whole b).view f w Finset.univ = w := by
  funext i
  exact View.write_emb_of_mem (v := (Memref.whole b).view) (Val := Elt F) f w (M := Finset.univ) (x := i) (Finset.mem_univ _)

/-- What the copy out leaves in a tile's words of a result is any array that holds the accumulator there. -/
theorem pts_outA (f : Buf (Elt F) (aLoc d)) (w : Vec F S8192 .f32) (g : Vec F S262144 .f32) (h : ∀ y, g ((outRect L).emb y) = w y) :
    ((View.loc (thr d L) (aK L).view ↦[(aK L).view.set]{fullShare} ((aK L).view.writes (Elt F) f [⟨Rect.whole S8192, w⟩])) : sProp 𝕄)
      = (aLoc d ↦[(outRect L).set]{fullShare} g : sProp 𝕄) := by
  rw [← pts_aK]
  refine pointsTo_congr fun x hx => ?_
  obtain ⟨y, -, rfl⟩ := Finset.mem_map.mp hx
  have h1 := View.write_emb_of_mem (v := (aK L).view.slice (Rect.whole S8192)) (Val := Elt F) f w (Finset.mem_univ y)
  have e : ((aK L).view.slice (Rect.whole S8192)).emb y = (aK L).view.emb y := congrArg (aK L).view.emb (show (Rect.whole S8192).emb y = y from Rect.emb_whole_apply S8192 y)
  rw [e] at h1
  rw [View.writes_singleton]
  exact h1.trans (h y).symm

/-- What the copy out leaves in a tile's words of a result is any array that holds the accumulator there. -/
theorem pts_outM (f : Buf (Elt F) (mLoc d)) (w : Vec F S8192 .f32) (g : Vec F S262144 .f32) (h : ∀ y, g ((outRect L).emb y) = w y) :
    ((View.loc (thr d L) (mK L).view ↦[(mK L).view.set]{fullShare} ((mK L).view.writes (Elt F) f [⟨Rect.whole S8192, w⟩])) : sProp 𝕄)
      = (mLoc d ↦[(outRect L).set]{fullShare} g : sProp 𝕄) := by
  rw [← pts_mK]
  refine pointsTo_congr fun x hx => ?_
  obtain ⟨y, -, rfl⟩ := Finset.mem_map.mp hx
  have h1 := View.write_emb_of_mem (v := (mK L).view.slice (Rect.whole S8192)) (Val := Elt F) f w (Finset.mem_univ y)
  have e : ((mK L).view.slice (Rect.whole S8192)).emb y = (mK L).view.emb y := congrArg (mK L).view.emb (show (Rect.whole S8192).emb y = y from Rect.emb_whole_apply S8192 y)
  rw [e] at h1
  rw [View.writes_singleton]
  exact h1.trans (h y).symm

/-- What a tile is handed: its planes of the two operands and its words of the two results. -/
def goP (fN : Vec F S32x20x16 .i32) (fD : Vec F S32x20x16 .f32) : sProp 𝕄 :=
  iprop((nLoc d ↦[(inRect L).set]{fullShare} fN) ∗ (dLoc d ↦[(inRect L).set]{fullShare} fD)
    ∗ (∃ f, aLoc d ↦[(outRect L).set]{fullShare} f) ∗ (∃ f, mLoc d ↦[(outRect L).set]{fullShare} f))

/-- What a tile hands back: its planes, and its words of the two results at their values. -/
def tdP (fN : Vec F S32x20x16 .i32) (fD : Vec F S32x20x16 .f32) : sProp 𝕄 :=
  iprop((nLoc d ↦[(inRect L).set]{fullShare} fN) ∗ (dLoc d ↦[(inRect L).set]{fullShare} fD)
    ∗ (aLoc d ↦[(outRect L).set]{fullShare} arrA fN fD) ∗ (mLoc d ↦[(outRect L).set]{fullShare} arrM (F := F) fN))

/-- The task's run: its planes in, the accumulators zeroed, the sum, the scatter, its words of the two results out. -/
theorem tile_body (fN : Vec F S32x20x16 .i32) (fD : Vec F S32x20x16 .f32) (hin : InRange (F := F) (planeN L fN))
    (O : CellTallies nD τ sig (HIx 1)) (W : Waits sig (HIx 1)) (hO : ∀ g, O g none = 0) :
    iprop(levAts (K F).L (K F).lev ∗ emp
        ∗ goP d L fN fD
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__am_sc_body L nV (Memref.isWhole_whole _) dV (Memref.isWhole_whole _) aV (Memref.isWhole_whole _) mV (Memref.isWhole_whole _)
            sN (Memref.isWhole_whole _) sD (Memref.isWhole_whole _) sA (Memref.isWhole_whole _) sM (Memref.isWhole_whole _)
            cc0_scoped0 cc0_scoped1 cc0_scoped2 cc0_scoped3)
          fun _ => iprop(tdP d L fN fD
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') : sProp 𝕄) := by
  rw [(K F).scopedBufs_V facts d (cV L) (jV L), SparseCore.Cfg.scopedSems0_V (Val := Elt F) d (cV L) (jV L), ownSems0_V, ownBufs_V]
  unfold goP tdP
  iintro ⟨#Hlv, -, ⟨Hn, Hd, ⟨%fa, Ha⟩, ⟨%fm, Hm⟩⟩, ⟨⟨%f6, H6⟩, ⟨%f7, H7⟩, ⟨%f8, H8⟩, ⟨%f9, H9⟩, Hbufs⟩, ⟨Hs0, Hs1, Hs2, Hs3, Hsems⟩, HO⟩
  ihave Hmw := (show levAts (K F).L (K F).lev ⊢ Transfers.MayWaits (V d (cV L) (jV L)) (default : HIx 1) O from
    (K F).mayWaits_none (thr := V d (cV L) (jV L)) hO) $$ Hlv
  ihave Hn := (Entails.of_eq (pts_nK (F := F) d L _).symm) $$ Hn
  ihave Hd := (Entails.of_eq (pts_dK (F := F) d L _).symm) $$ Hd
  ihave Ha := (Entails.of_eq (pts_aK (F := F) d L _).symm) $$ Ha
  ihave Hm := (Entails.of_eq (pts_mK (F := F) d L _).symm) $$ Hm
  ihave H6 := (Entails.of_eq (pts_sN (F := F) d L _).symm) $$ H6
  ihave H7 := (Entails.of_eq (pts_sD (F := F) d L _).symm) $$ H7
  ihave H8 := (Entails.of_eq (pts_sA (F := F) d L _).symm) $$ H8
  ihave H9 := (Entails.of_eq (pts_sM (F := F) d L _).symm) $$ H9
  rw [body_eq]
  sl_exec
  rw [whole_write (F := F) cc0_scratch0, whole_write (F := F) cc0_scratch1]
  iapply (wp_zero (F := F) d L k0_pay4 (Scalar.ofBits .f32 0x00000000#32 : F .f32) (fun _ => rfl) _ _ 2048 0 _ f8 f9
    (fun _ h => absurd h (Nat.not_lt_zero _)) (fun _ h => absurd h (Nat.not_lt_zero _))) $$ [H6 H7 H8 H9 Hn Hd Ha Hm Hbufs Hs0 Hs1 Hs2 Hs3 Hsems HO]
  isplitl [H8]
  · iexact H8
  isplitl [H9]
  · iexact H9
  iintro %g8 %g9 %hg H8 H9
  have e8 : g8 = zeroAcc := funext fun x => hg.1 x (by have : (x 0).val < 8192 := (x 0).isLt; omega)
  have e9 : g9 = zeroAcc := funext fun x => hg.2 x (by have : (x 0).val < 8192 := (x 0).isLt; omega)
  rw [e8, e9]
  unfold sumsOn
  iapply (wp_sums (F := F) d L (planeD L fD) _ _ 20 0 _ k0_pay5) $$ [H6 H7 H8 H9 Hn Hd Ha Hm Hbufs Hs0 Hs1 Hs2 Hs3 Hsems HO]
  isplitl [H7]
  · iexact H7
  iintro H7
  iapply (wp_scat (F := F) d L (planeN L fN) (planeD L fD) _ hin _ _ 20 0 _ zeroAcc zeroAcc) $$ [H6 H7 H8 H9 Hn Hd Ha Hm Hbufs Hs0 Hs1 Hs2 Hs3 Hsems HO]
  isplitl [H6]
  · iexact H6
  isplitl [H7]
  · iexact H7
  isplitl [H8]
  · iexact H8
  isplitl [H9]
  · iexact H9
  iintro H6 H7 H8 H9
  rw [tileA_eq, tileM_eq]
  have hwA := arrA_emb fN fD L
  have hwM := arrM_emb (F := F) fN L
  generalize tileA (planeN L fN) (planeD L fD) = wA at *
  generalize tileM (F := F) (planeN L fN) = wM at *
  unfold out
  sl_exec
  sl_step
  isplitl [Hn Hd Ha Hm]
  · isplitl [Hn]
    · iapply (Entails.of_eq (pts_nK (F := F) d L _)); iexact Hn
    isplitl [Hd]
    · iapply (Entails.of_eq (pts_dK (F := F) d L _)); iexact Hd
    isplitl [Ha]
    · iapply (Entails.of_eq (pts_outA (F := F) d L fa wA (arrA fN fD) hwA)); iexact Ha
    · iapply (Entails.of_eq (pts_outM (F := F) d L fm wM (arrM fN) hwM)); iexact Hm
  isplitl [H6 H7 H8 H9 Hbufs]
  · isplitl [H6]
    · iexists _; iexact H6
    isplitl [H7]
    · iexists _; iexact H7
    isplitl [H8]
    · iexists _; iexact H8
    isplitl [H9]
    · iexists _; iexact H9
    iexact Hbufs
  isplitl [Hs0 Hs1 Hs2 Hs3 Hsems]
  · isplitl [Hs0]
    · iexact Hs0
    isplitl [Hs1]
    · iexact Hs1
    isplitl [Hs2]
    · iexact Hs2
    isplitl [Hs3]
    · iexact Hs3
    iexact Hsems
  iexists _; isplitr
  swap
  · iexact HO
  ipureintro; intro p _
  rcases p.2 with _ | q
  · exact .inr (.inl rfl)
  · exact .inr (.inr (congrArg some (Subsingleton.elim q 0)))

end Run

end Cert.Proof.Tile

end
-- ==== Proof.Split.lean ====
/-
  The SparseCore call's operands and results cut into the tiles' pieces, and what the call hands each tile and takes back.
-/
module

public import proofs.«01_k».proof.Proof.Tile
public import Idealize.ShloMosaic.Lib.SparseCore.Quiescent

@[expose] public section

set_option maxRecDepth 16384

noncomputable section

namespace Cert.Proof.Split

open Cert.KernelIdeal Cert.KernelIdeal.Gen Cert.Proof.Setup Cert.Proof.BodyText Cert.Proof.TileSteps Cert.Proof.Tile
open Cert.Proof.ZeroRun (cV jV thr wp_zero)
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MM F
local notation "nV" => (Memref.whole Cert.KernelIdeal.main_v3_scv : Memref Cert.KernelIdeal.sig Kind.scVector Space.hbm Cert.KernelIdeal.S32x20x16 EltTy.i32)
local notation "dV" => (Memref.whole Cert.KernelIdeal.main_v6_scv : Memref Cert.KernelIdeal.sig Kind.scVector Space.hbm Cert.KernelIdeal.S32x20x16 EltTy.f32)
local notation "aV" => (Memref.whole Cert.KernelIdeal.main_v7_0_scv : Memref Cert.KernelIdeal.sig Kind.scVector Space.hbm Cert.KernelIdeal.S262144 EltTy.f32)
local notation "mV" => (Memref.whole Cert.KernelIdeal.main_v7_1_scv : Memref Cert.KernelIdeal.sig Kind.scVector Space.hbm Cert.KernelIdeal.S262144 EltTy.f32)
local notation "sN" => (Memref.whole Cert.KernelIdeal.cc0_scratch0 : Memref Cert.KernelIdeal.sig Kind.scVector Space.vmem Cert.KernelIdeal.S20x16 EltTy.i32)
local notation "sD" => (Memref.whole Cert.KernelIdeal.cc0_scratch1 : Memref Cert.KernelIdeal.sig Kind.scVector Space.vmem Cert.KernelIdeal.S20x16 EltTy.f32)
local notation "sA" => (Memref.whole Cert.KernelIdeal.cc0_scratch2 : Memref Cert.KernelIdeal.sig Kind.scVector Space.vmem Cert.KernelIdeal.S8192 EltTy.f32)
local notation "sM" => (Memref.whole Cert.KernelIdeal.cc0_scratch3 : Memref Cert.KernelIdeal.sig Kind.scVector Space.vmem Cert.KernelIdeal.S8192 EltTy.f32)

/-- The tile of a SparseCore and a subcore. -/
abbrev tl (p : Fin 2 × Fin 16) : grid0.Coords := coordsV p.1 p.2

theorem mem_in (p : Fin 2 × Fin 16) (x : S32x20x16.Idx) : x ∈ (inRect (tl p)).set ↔ (x 0).val = 2 * p.2.val + p.1.val := by
  rw [Rect.mem_set_unit, k0_off1_eq]
  have h1 : (x 1).val < 20 := (x 1).isLt
  have h2 : (x 2).val < 16 := (x 2).isLt
  constructor
  · intro h
    have h0 : 2 * p.2.val + p.1.val ≤ (x 0).val ∧ (x 0).val < 2 * p.2.val + p.1.val + 1 := h 0
    omega
  · intro h a
    match a with
    | 0 => show 2 * p.2.val + p.1.val ≤ (x 0).val ∧ (x 0).val < 2 * p.2.val + p.1.val + 1; omega
    | 1 => show 0 ≤ (x 1).val ∧ (x 1).val < 0 + 20; omega
    | 2 => show 0 ≤ (x 2).val ∧ (x 2).val < 0 + 16; omega

theorem mem_out (p : Fin 2 × Fin 16) (x : S262144.Idx) :
    x ∈ (outRect (tl p)).set ↔ 16384 * p.2.val + 8192 * p.1.val ≤ (x 0).val ∧ (x 0).val < 16384 * p.2.val + 8192 * p.1.val + 8192 := by
  rw [Rect.mem_set_unit, k0_off2_eq]
  constructor
  · intro h; exact h 0
  · intro h a
    match a with
    | 0 => exact h

theorem in_disjoint : ∀ p ∈ (Finset.univ : Finset (Fin 2 × Fin 16)), ∀ q ∈ (Finset.univ : Finset (Fin 2 × Fin 16)), p ≠ q →
    Disjoint (inRect (tl p)).set (inRect (tl q)).set := by
  intro p _ q _ hpq
  rw [Finset.disjoint_left]
  intro x hx hy
  rw [mem_in] at hx hy
  have a := p.1.isLt; have b := q.1.isLt
  exact hpq (Prod.ext (Fin.ext (by omega)) (Fin.ext (by omega)))

theorem out_disjoint : ∀ p ∈ (Finset.univ : Finset (Fin 2 × Fin 16)), ∀ q ∈ (Finset.univ : Finset (Fin 2 × Fin 16)), p ≠ q →
    Disjoint (outRect (tl p)).set (outRect (tl q)).set := by
  intro p _ q _ hpq
  rw [Finset.disjoint_left]
  intro x hx hy
  rw [mem_out] at hx hy
  have a := p.1.isLt; have b := q.1.isLt
  exact hpq (Prod.ext (Fin.ext (by omega)) (Fin.ext (by omega)))

theorem in_cover : (Finset.univ : Finset (Fin 2 × Fin 16)).biUnion (fun p => (inRect (tl p)).set) = Finset.univ := by
  ext x
  simp only [Finset.mem_biUnion, Finset.mem_univ, true_and, iff_true]
  have h0 : (x 0).val < 32 := (x 0).isLt
  exact ⟨(⟨(x 0).val % 2, by omega⟩, ⟨(x 0).val / 2, by omega⟩), (mem_in _ x).mpr (by show _ = 2 * ((x 0).val / 2) + (x 0).val % 2; omega)⟩

theorem out_cover : (Finset.univ : Finset (Fin 2 × Fin 16)).biUnion (fun p => (outRect (tl p)).set) = Finset.univ := by
  ext x
  simp only [Finset.mem_biUnion, Finset.mem_univ, true_and, iff_true]
  have h0 : (x 0).val < 262144 := (x 0).isLt
  refine ⟨(⟨(x 0).val / 8192 % 2, by omega⟩, ⟨(x 0).val / 16384, by omega⟩), (mem_out _ x).mpr ?_⟩
  show 16384 * ((x 0).val / 16384) + 8192 * ((x 0).val / 8192 % 2) ≤ (x 0).val ∧ (x 0).val < 16384 * ((x 0).val / 16384) + 8192 * ((x 0).val / 8192 % 2) + 8192
  omega

theorem n_pieces (d : Dev nD) (f : Buf (Elt F) (nLoc d)) :
    (nLoc d ↦{fullShare} f : sProp 𝕄) = bigSep Finset.univ fun p : Fin 2 × Fin 16 => nLoc d ↦[(inRect (tl p)).set]{fullShare} f := by
  rw [← pointsTo_biUnion Finset.univ (ℓ := nLoc d) (fun p => (inRect (tl p)).set) in_disjoint, in_cover]; try rfl
theorem d_pieces (d : Dev nD) (f : Buf (Elt F) (dLoc d)) :
    (dLoc d ↦{fullShare} f : sProp 𝕄) = bigSep Finset.univ fun p : Fin 2 × Fin 16 => dLoc d ↦[(inRect (tl p)).set]{fullShare} f := by
  rw [← pointsTo_biUnion Finset.univ (ℓ := dLoc d) (fun p => (inRect (tl p)).set) in_disjoint, in_cover]; try rfl
theorem a_pieces (d : Dev nD) (f : Buf (Elt F) (aLoc d)) :
    (aLoc d ↦{fullShare} f : sProp 𝕄) = bigSep Finset.univ fun p : Fin 2 × Fin 16 => aLoc d ↦[(outRect (tl p)).set]{fullShare} f := by
  rw [← pointsTo_biUnion Finset.univ (ℓ := aLoc d) (fun p => (outRect (tl p)).set) out_disjoint, out_cover]; try rfl
theorem m_pieces (d : Dev nD) (f : Buf (Elt F) (mLoc d)) :
    (mLoc d ↦{fullShare} f : sProp 𝕄) = bigSep Finset.univ fun p : Fin 2 × Fin 16 => mLoc d ↦[(outRect (tl p)).set]{fullShare} f := by
  rw [← pointsTo_biUnion Finset.univ (ℓ := mLoc d) (fun p => (outRect (tl p)).set) out_disjoint, out_cover]; try rfl

variable (fN : Dev nD → Vec F S32x20x16 .i32) (fD : Dev nD → Vec F S32x20x16 .f32)

instance goP_storable (d : Dev nD) (L : grid0.Coords) (fN : Vec F S32x20x16 .i32) (fD : Vec F S32x20x16 .f32) :
    BI.Storable (upEmb : UEmb _ 𝕄) (goP d L fN fD) := by unfold goP; infer_instance
instance tdP_storable (d : Dev nD) (L : grid0.Coords) (fN : Vec F S32x20x16 .i32) (fD : Vec F S32x20x16 .f32) :
    BI.Storable (upEmb : UEmb _ 𝕄) (tdP d L fN fD) := by unfold tdP; infer_instance

theorem goP_intro (d : Dev nD) (p : Fin 2 × Fin 16) (ga : Buf (Elt F) (aLoc d)) (gm : Buf (Elt F) (mLoc d)) :
    (iprop((nLoc d ↦[(inRect (tl p)).set]{fullShare} fN d) ∗ (dLoc d ↦[(inRect (tl p)).set]{fullShare} fD d)
      ∗ (aLoc d ↦[(outRect (tl p)).set]{fullShare} ga) ∗ (mLoc d ↦[(outRect (tl p)).set]{fullShare} gm)) : sProp 𝕄) ⊢ goP d (tl p) (fN d) (fD d) := by
  unfold goP
  iintro ⟨H1, H2, H3, H4⟩
  isplitl [H1]; · iexact H1
  isplitl [H2]; · iexact H2
  isplitl [H3]; · iexists ga; iexact H3
  iexists gm; iexact H4

/-- The four whole arrays are every tile's pieces. -/
theorem go_split (d : Dev nD) (ga : Buf (Elt F) (aLoc d)) (gm : Buf (Elt F) (mLoc d)) :
    (iprop((nLoc d ↦{fullShare} fN d) ∗ (dLoc d ↦{fullShare} fD d) ∗ (aLoc d ↦{fullShare} ga) ∗ (mLoc d ↦{fullShare} gm)) : sProp 𝕄)
      ⊢ bigSep Finset.univ fun p : Fin 2 × Fin 16 => goP d (tl p) (fN d) (fD d) := by
  rw [n_pieces, d_pieces, a_pieces, m_pieces, ← bigSep_sep', ← bigSep_sep', ← bigSep_sep']
  exact bigSep_mono fun p _ => goP_intro fN fD d p ga gm

/-- What the tiles hand back is the operands and the two results whole. -/
theorem td_join (d : Dev nD) :
    (bigSep Finset.univ fun p : Fin 2 × Fin 16 => tdP d (tl p) (fN d) (fD d) : sProp 𝕄)
      ⊢ iprop((nLoc d ↦{fullShare} fN d) ∗ (dLoc d ↦{fullShare} fD d) ∗ (aLoc d ↦{fullShare} arrA (fN d) (fD d)) ∗ (mLoc d ↦{fullShare} arrM (F := F) (fN d))) := by
  rw [n_pieces, d_pieces, a_pieces, m_pieces, ← bigSep_sep', ← bigSep_sep', ← bigSep_sep']
  exact bigSep_mono fun p _ => by unfold tdP; exact BI.Entails.refl _

/-- What the handshakes of the SparseCore call carry. -/
def P : (K F).Pay (nD := nD) (Val := Elt F) (Name := ℕ) (U := UU) where
  st := fun q d c => match q with | 0 => bigSep Finset.univ fun i : Fin 16 => goP d (tl (Fin.cast nCore_zero c, i)) (fN d) (fD d)
  dn := fun q d c => match q with | 0 => bigSep Finset.univ fun i : Fin 16 => tdP d (tl (Fin.cast nCore_zero c, i)) (fN d) (fD d)
  go := fun q d c i => match q with | 0 => goP d (tl (Fin.cast nCore_zero c, Fin.cast nSub_zero i)) (fN d) (fD d)
  td := fun q d c i => match q with | 0 => tdP d (tl (Fin.cast nCore_zero c, Fin.cast nSub_zero i)) (fN d) (fD d)
  x := fun _ _ => iprop(emp)

instance P_storable : (P fN fD).IsStorable where
  st q d c := match q with
    | 0 => (inferInstance : BI.Storable (upEmb : UEmb _ 𝕄) (bigSep Finset.univ fun i : Fin 16 => goP d (tl (Fin.cast nCore_zero c, i)) (fN d) (fD d)))
  dn q d c := match q with
    | 0 => (inferInstance : BI.Storable (upEmb : UEmb _ 𝕄) (bigSep Finset.univ fun i : Fin 16 => tdP d (tl (Fin.cast nCore_zero c, i)) (fN d) (fD d)))
  go q d c i := match q with
    | 0 => (inferInstance : BI.Storable (upEmb : UEmb _ 𝕄) (goP d (tl (Fin.cast nCore_zero c, Fin.cast nSub_zero i)) (fN d) (fD d)))
  td q d c i := match q with
    | 0 => (inferInstance : BI.Storable (upEmb : UEmb _ 𝕄) (tdP d (tl (Fin.cast nCore_zero c, Fin.cast nSub_zero i)) (fN d) (fD d)))

theorem defs₀_vector (c : Fin τ.nSC) (s : Fin τ.nSub) :
    defs₀ (F := F) (.scVector c s) 0 () = SparseCore.onTile hcore0 hsub0 (fun c s => cc0__am_sc_body (coordsV c s)
      nV (Memref.isWhole_whole _) dV (Memref.isWhole_whole _) aV (Memref.isWhole_whole _) mV (Memref.isWhole_whole _)
      sN (Memref.isWhole_whole _) sD (Memref.isWhole_whole _) sA (Memref.isWhole_whole _) sM (Memref.isWhole_whole _)
      cc0_scoped0 cc0_scoped1 cc0_scoped2 cc0_scoped3) ⟨⟩ c s := rfl

/-- `tile_body` with what it is handed and hands back, named apart. -/
theorem tile_at (d : Dev nD) (L : grid0.Coords) (X G R : sProp 𝕄)
    (hin : InRange (F := F) (planeN L (fN d))) (O : CellTallies nD τ sig (HIx 1)) (W : Waits sig (HIx 1)) (hO : ∀ g, O g none = 0)
    (hX : X = iprop(emp)) (hG : G = goP d L (fN d) (fD d)) (hR : R = tdP d L (fN d) (fD d)) :
    iprop(levAts (K F).L (K F).lev ∗ X ∗ G ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__am_sc_body L nV (Memref.isWhole_whole _) dV (Memref.isWhole_whole _) aV (Memref.isWhole_whole _) mV (Memref.isWhole_whole _)
            sN (Memref.isWhole_whole _) sD (Memref.isWhole_whole _) sA (Memref.isWhole_whole _) sM (Memref.isWhole_whole _)
            cc0_scoped0 cc0_scoped1 cc0_scoped2 cc0_scoped3)
          fun _ => iprop(R ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') : sProp 𝕄) := by
  subst hX hG hR
  exact tile_body d L (fN d) (fD d) hin O W hO

/-- Equal transformers at equal posts. -/
theorem ent_of {α : Type} {w w' : sWPT 𝕄 α} {f f' : α → sProp 𝕄} (hw : w = w') (hf : f = f') : w f ⊢ w' f' := by
  subst hw hf; exact BI.Entails.refl _

/-- A tile's obligation: its task runs from what it is handed to what it hands back. -/
theorem tileObl (hin : ∀ d L, InRange (F := F) (planeN L (fN d))) : (K F).TileObl (D F) 𝒱 (P fN fD) v₀ 0 := by
  intro d c i O W hO _ _
  simp only [show (P fN fD).ox = fun _ _ => 0 from rfl, add_zero]
  have hci : ((K F).core 0 c).val < grid0.bound 0 ∧ ((K F).sub 0 i).val < grid0.bound 1 := ⟨c.isLt, i.isLt⟩
  change _ ⊢ wp _ _ _ (Pipeline.liftProg (defs₀ (F := F) (.scVector ((K F).core 0 c) ((K F).sub 0 i)) 0 ())) _
  refine BI.Entails.trans ?_ (Pipeline.wp_liftProg (D F) (Pipeline.defs_kernel pcfgs defs₀) 𝒱₀ _ Set.univ none _ _)
  rw [defs₀_vector]
  simp only [SparseCore.onTile, hci, and_self, ↓reduceDIte]
  have h3 : (P fN fD).go 0 d c i = goP d (coordsV ⟨((K F).core 0 c).val, hci.1⟩ ⟨((K F).sub 0 i).val, hci.2⟩) (fN d) (fD d) := rfl
  have h4 : (P fN fD).td 0 d c i = tdP d (coordsV ⟨((K F).core 0 c).val, hci.1⟩ ⟨((K F).sub 0 i).val, hci.2⟩) (fN d) (fD d) := rfl
  have key := tile_at fN fD d (coordsV ⟨((K F).core 0 c).val, hci.1⟩ ⟨((K F).sub 0 i).val, hci.2⟩) ((P fN fD).x 0 (V d ((K F).core 0 c) ((K F).sub 0 i))) _ _ (hin d _) O W hO rfl h3 h4
  refine BI.Entails.trans ?_ (BI.Entails.trans key ?_)
  · exact BI.Entails.refl _
  · exact ent_of (F := F) rfl rfl

theorem bigSep_tasks (Φ : Fin 16 → sProp 𝕄) :
    (bigSep Finset.univ fun i : Fin ((K F).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K F).nCore 0) => Φ (Fin.cast nCore_zero i)) = bigSep Finset.univ Φ :=
  bigSep_congr fun _ _ => congrArg Φ (Fin.ext rfl)

theorem vecSplit : (K F).VecSplit' (P fN fD) 0 := by
  intro d c
  show (bigSep Finset.univ fun i : Fin 16 => goP d (tl (Fin.cast nCore_zero c, i)) (fN d) (fD d)) ⊢ |={Set.univ}=> iprop(
      (bigSep Finset.univ fun i : Fin ((K F).nSub 0) => goP d (tl (Fin.cast nCore_zero c, Fin.cast nSub_zero i)) (fN d) (fD d))
      ∗ ((bigSep Finset.univ fun i : Fin ((K F).nSub 0) => tdP d (tl (Fin.cast nCore_zero c, Fin.cast nSub_zero i)) (fN d) (fD d))
          -∗ (bigSep Finset.univ fun i : Fin 16 => tdP d (tl (Fin.cast nCore_zero c, i)) (fN d) (fD d))))
  rw [bigSep_tasks (F := F) (fun i => goP d (tl (Fin.cast nCore_zero c, i)) (fN d) (fD d)), bigSep_tasks (F := F) (fun i => tdP d (tl (Fin.cast nCore_zero c, i)) (fN d) (fD d))]
  iintro H; imodintro
  isplitl [H]; · iexact H
  iintro H; iexact H

theorem st_eq (d : Dev nD) :
    (bigSep Finset.univ fun c : Fin ((K F).nCore 0) => (P fN fD).st 0 d c) = bigSep Finset.univ fun p : Fin 2 × Fin 16 => goP d (tl p) (fN d) (fD d) := by
  rw [bigSep_univ_prod]
  exact bigSep_cores (F := F) (fun c => bigSep Finset.univ fun i : Fin 16 => goP d (tl (c, i)) (fN d) (fD d))
theorem dn_eq (d : Dev nD) :
    (bigSep Finset.univ fun c : Fin ((K F).nCore 0) => (P fN fD).dn 0 d c) = bigSep Finset.univ fun p : Fin 2 × Fin 16 => tdP d (tl p) (fN d) (fD d) := by
  rw [bigSep_univ_prod]
  exact bigSep_cores (F := F) (fun c => bigSep Finset.univ fun i : Fin 16 => tdP d (tl (c, i)) (fN d) (fD d))

end Cert.Proof.Split
-- ==== Proof.Whole.lean ====
/-
  Loads and stores of a whole buffer through the rectangle that starts at the origin and has the buffer's own extent.
-/
module

public import proofs.«01_k».proof.Proof.Setup

@[expose] public section

noncomputable section

namespace Cert.Proof.Whole

open Cert.KernelIdeal Cert.KernelIdeal.Gen Cert.Proof.Setup
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MM F

theorem hz : (![0, 0] : Fin 2 → Nat) = fun _ => 0 := funext fun a => by fin_cases a <;> rfl

/-- The rectangle at the origin of the full extent sends an index to itself. -/
theorem emb_origin {S : Shape} {off : Fin S.rank → ℕ} (h : off = fun _ => 0) (hb) (y : S.Idx) :
    (Rect.unit (s := S) off S.size hb).emb y = y := by
  subst h
  funext a
  exact Fin.ext (by show 0 + 1 * (y a).val = (y a).val; omega)

/-- A load of the whole buffer returns what is owned there. -/
theorem wp_ld {c : Dev nD} {S : Shape} {e : EltTy} {m : Memref sig .tc .vmem S e} {off : Fin S.rank → ℕ}
    (hoff : off = fun _ => 0) {hb} {hl} {X : S.Idx → Elt F e} {α : Type}
    {k : (S.Idx → Elt F e) → Prog (TpuEff nD τ sig (Elt F) Λ₀ .tc) α} {Q : α → sProp 𝕄} :
    (owns (c.tc : Thread nD τ) m fullShare X : sProp 𝕄)
      ⊢ iprop((owns (c.tc : Thread nD τ) m fullShare X -∗ wp frame (wpE (defs₀ (F := F)) 𝒱₀ (c.tc : Thread nD τ) none) Set.univ (k X) Q)
        -∗ wp frame (wpE (defs₀ (F := F)) 𝒱₀ (c.tc : Thread nD τ) none) Set.univ
            (.op (.load m (Rect.unit (s := S) off S.size hb).toLoadRect hl) k) Q) := by
  unfold owns
  iintro ⟨%f, %hf, H⟩ Hk
  iapply (wp_load_rect 𝒱₀ (c.tc : Thread nD τ) none Set.univ (m := m) (r := Rect.unit (s := S) off S.size hb) (hl := hl) (k := k) (f := f)
    (View.set_slice_subset _ _)) $$ H
  iintro H
  have e1 : (m.access (Rect.unit (s := S) off S.size hb)).read (Elt F) f = X := by
    rw [← hf]
    funext y
    show m.view.read (Elt F) f ((Rect.unit (s := S) off S.size hb).emb y) = _
    rw [emb_origin hoff]
  rw [e1]
  iapply Hk
  iexists f
  isplitr
  · ipureintro; exact hf
  · iexact H

/-- A store of the whole buffer leaves the stored contents there. -/
theorem wp_st {c : Dev nD} {S : Shape} {e : EltTy} {m : Memref sig .tc .vmem S e} {off : Fin S.rank → ℕ}
    (hoff : off = fun _ => 0) {hb} {X Y : S.Idx → Elt F e} {hx} {hm} {α : Type}
    {k : PUnit → Prog (TpuEff nD τ sig (Elt F) Λ₀ .tc) α} {Q : α → sProp 𝕄} :
    (owns (c.tc : Thread nD τ) m fullShare X : sProp 𝕄)
      ⊢ iprop((owns (c.tc : Thread nD τ) m fullShare Y -∗ wp frame (wpE (defs₀ (F := F)) 𝒱₀ (c.tc : Thread nD τ) none) Set.univ (k ⟨⟩) Q)
        -∗ wp frame (wpE (defs₀ (F := F)) 𝒱₀ (c.tc : Thread nD τ) none) Set.univ
            (.op (.store m (Rect.unit (s := S) off S.size hb) Y Finset.univ hx hm) k) Q) := by
  unfold owns
  iintro ⟨%f, %hf, H⟩ Hk
  iapply (wp_store 𝒱₀ (c.tc : Thread nD τ) none Set.univ (m := m) (r := Rect.unit (s := S) off S.size hb) (w := Y) (Mk := Finset.univ) (hx := hx) (hm := hm) (k := k) (f := f)
    (View.set_slice_subset _ _)) $$ H
  iintro H
  iapply Hk
  iexists ((m.access (Rect.unit (s := S) off S.size hb)).write (Elt F) f Y Finset.univ)
  isplitr
  · ipureintro
    funext y
    have := View.read_slice_write_emb (Val := Elt F) (v := m.view) (Rect.unit (s := S) off S.size hb) f Y (M := Finset.univ) (x := y) (Finset.mem_univ _)
    rw [emb_origin hoff] at this
    exact this
  · iexact H

end Cert.Proof.Whole
-- ==== Proof.Stats.lean ====
/-
  One grid point of the first TensorCore call: what it does to its nine scratch buffers and, at the last point, to its
  four result windows.
-/
module

public import proofs.«01_k».proof.Proof.Whole
public import proofs.«01_k».proof.Proof.Gen.KernelIdeal.Skeleton
public import proofs.«01_k».proof.Proof.Gen.KernelIdeal.Points

@[expose] public section

set_option maxRecDepth 16384

noncomputable section

namespace Cert.Proof.Stats

open Cert.KernelIdeal Cert.KernelIdeal.Gen Cert.Proof.Setup Cert.Proof.Whole
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MM F

/-- The contents of the nine scratch buffers: the normalised queries; running maximum, running sum and picked score of
    the contrastive logits; running maximum and running sum of each of the two logit arrays; the picked first logit. -/
structure St (F : FTy → Type) [FloatOps F] where
  xs : Vec F S512x2048 .bf16
  mo : Vec F S512x1 .f32
  so : Vec F S512x1 .f32
  th : Vec F S512x1 .f32
  m0 : Vec F S512x1 .f32
  s0 : Vec F S512x1 .f32
  m1 : Vec F S512x1 .f32
  s1 : Vec F S512x1 .f32
  tg : Vec F S512x1 .f32

/-- What the first point sets up from the queries. -/
def init (X : Vec F S512x2048 .f32) : St F where
  xs := k1_pay5 X
  mo := k1_pay6
  so := k1_pay9
  th := k1_pay17
  m0 := k1_pay7
  s0 := k1_pay10
  m1 := k1_pay8
  s1 := k1_pay16 k1_pay11
  tg := k1_pay18

/-- What a point makes of the scratch buffers, from the targets and the three column blocks it is handed. -/
def step (i : grid1.Coords) (Tg : Vec F S512x1 .i32) (Ft : Vec F S512x2048 .f32) (L0 L1 : Vec F S512x512 .f32) (s : St F) : St F where
  xs := s.xs
  mo := k1_pay23 (k1_pay21 s.xs Ft s.mo)
  so := k1_pay22 s.xs Ft s.mo s.so
  th := k1_pay24 (k1_pay19 i Tg) (k1_pay20 s.xs Ft) s.th
  m0 := k1_pay27 L0 s.m0
  s0 := k1_pay26 L0 s.m0 s.s0
  m1 := k1_pay4 L1 s.m1
  s1 := k1_pay3 L1 s.m1 s.s1
  tg := k1_pay1 s.tg (k1_pay28 (k1_pay19 i Tg) L0)

/-- The four results of the last point. -/
def out5 (s : St F) : Vec F S1x1 .f32 := k1_pay14 s.mo s.so s.th
def out6 (s : St F) : Vec F S512x1 .f32 := k1_pay12 s.m0 s.s0
def out7 (s : St F) : Vec F S512x1 .f32 := k1_pay13 s.m1 s.s1
def out8 (s : St F) : Vec F S1x1 .f32 := k1_pay15 s.m0 s.s0 s.tg

/-- The condition of the first point's set-up. -/
def isFirst (i : grid1.Coords) : BitVec 1 := Scalar.cmpi .ne (Scalar.extui (Scalar.cmpi .eq (BitVec.ofNat 32 (i 0).val) 0#32) : BitVec 32) 0#32

/-- The scratch buffers hold a state. -/
def held (c : Dev nD) (s : St F) : sProp 𝕄 :=
  iprop(owns (c.tc : Thread nD τ) (Memref.whole cc1_scratch0) fullShare s.xs ∗ owns (c.tc : Thread nD τ) (Memref.whole cc1_scratch1) fullShare s.mo ∗ owns (c.tc : Thread nD τ) (Memref.whole cc1_scratch2) fullShare s.so ∗ owns (c.tc : Thread nD τ) (Memref.whole cc1_scratch3) fullShare s.th ∗ owns (c.tc : Thread nD τ) (Memref.whole cc1_scratch4) fullShare s.m0 ∗ owns (c.tc : Thread nD τ) (Memref.whole cc1_scratch5) fullShare s.s0 ∗ owns (c.tc : Thread nD τ) (Memref.whole cc1_scratch6) fullShare s.m1 ∗ owns (c.tc : Thread nD τ) (Memref.whole cc1_scratch7) fullShare s.s1 ∗ owns (c.tc : Thread nD τ) (Memref.whole cc1_scratch8) fullShare s.tg)

set_option maxHeartbeats 4000000 in
/-- The first point. -/
theorem run_first (c : Dev nD) (i : grid1.Coords) (a1 : Memref sig .tc .vmem S512x2048 .f32) (ha1 : a1.IsWhole) (a2 : Memref sig .tc .vmem S512x1 .i32) (ha2 : a2.IsWhole) (a3 : Memref sig .tc .vmem S512x2048 .f32) (ha3 : a3.IsWhole) (a4 : Memref sig .tc .vmem S512x512 .f32) (ha4 : a4.IsWhole) (a5 : Memref sig .tc .vmem S512x512 .f32) (ha5 : a5.IsWhole) (a6 : Memref sig .tc .vmem S1x1 .f32) (ha6 : a6.IsWhole) (a7 : Memref sig .tc .vmem S512x1 .f32) (ha7 : a7.IsWhole) (a8 : Memref sig .tc .vmem S512x1 .f32) (ha8 : a8.IsWhole) (a9 : Memref sig .tc .vmem S1x1 .f32) (ha9 : a9.IsWhole)
    (X : Vec F S512x2048 .f32) (Tg : Vec F S512x1 .i32) (Ft : Vec F S512x2048 .f32) (L0 L1 : Vec F S512x512 .f32)
    (o5 : Vec F S1x1 .f32) (o6 o7 : Vec F S512x1 .f32) (o8 : Vec F S1x1 .f32) (s : St F)
    (hf : isFirst i = 1#1) (hl : ¬k1_cond2 i = 1#1) (Q : PUnit → sProp 𝕄) :
    (iprop((owns (c.tc : Thread nD τ) a1 fullShare X ∗ owns (c.tc : Thread nD τ) a2 fullShare Tg ∗ owns (c.tc : Thread nD τ) a3 fullShare Ft ∗ owns (c.tc : Thread nD τ) a4 fullShare L0 ∗ owns (c.tc : Thread nD τ) a5 fullShare L1 ∗ owns (c.tc : Thread nD τ) a6 fullShare o5 ∗ owns (c.tc : Thread nD τ) a7 fullShare o6 ∗ owns (c.tc : Thread nD τ) a8 fullShare o7 ∗ owns (c.tc : Thread nD τ) a9 fullShare o8)
        ∗ held c s
        ∗ ((owns (c.tc : Thread nD τ) a1 fullShare X ∗ owns (c.tc : Thread nD τ) a2 fullShare Tg ∗ owns (c.tc : Thread nD τ) a3 fullShare Ft ∗ owns (c.tc : Thread nD τ) a4 fullShare L0 ∗ owns (c.tc : Thread nD τ) a5 fullShare L1 ∗ owns (c.tc : Thread nD τ) a6 fullShare o5 ∗ owns (c.tc : Thread nD τ) a7 fullShare o6 ∗ owns (c.tc : Thread nD τ) a8 fullShare o7 ∗ owns (c.tc : Thread nD τ) a9 fullShare o8)
            ∗ held c (step i Tg Ft L0 L1 (init X)) -∗ Q ⟨⟩)) : sProp 𝕄)
      ⊢ wp frame (wpE (defs₀ (F := F)) 𝒱₀ (c.tc : Thread nD τ) none) Set.univ (cc1__tc0_body i a1 ha1 a2 ha2 a3 ha3 a4 ha4 a5 ha5 a6 ha6 a7 ha7 a8 ha8 a9 ha9 (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _)) Q := by
  rw [cc1__tc0_body_eq_skeleton]
  unfold cc1__tc0_body_skel
  unfold isFirst at hf
  simp only [k1_part3_eq_skeleton, k1_part4_eq_skeleton, k1_part1_eq_skeleton, k1_part2_eq_skeleton,
    k1_part3_skel, k1_part4_skel, k1_part1_skel, k1_part2_skel, dif_pos hf, dif_neg hl,
    Prog.lift, Prog.bind_op, Prog.bind_ret, Prog.bind_assoc, Prog.pure_eq_ret]
  unfold held
  iintro ⟨⟨H1, H2, H3, H4, H5, H6, H7, H8, H9⟩, ⟨H10, H11, H12, H13, H14, H15, H16, H17, H18⟩, Hk⟩
  iapply (wp_ld hz) $$ H1; iintro H1
  iapply (wp_ld hz) $$ H10; iintro H10
  iapply (wp_st hz) $$ H10; iintro H10
  iapply (wp_ld hz) $$ H11; iintro H11
  iapply (wp_st hz) $$ H11; iintro H11
  iapply (wp_ld hz) $$ H14; iintro H14
  iapply (wp_st hz) $$ H14; iintro H14
  iapply (wp_ld hz) $$ H16; iintro H16
  iapply (wp_st hz) $$ H16; iintro H16
  iapply (wp_ld hz) $$ H12; iintro H12
  iapply (wp_st hz) $$ H12; iintro H12
  iapply (wp_ld hz) $$ H15; iintro H15
  iapply (wp_st hz) $$ H15; iintro H15
  iapply (wp_ld hz) $$ H17; iintro H17
  iapply (wp_st hz) $$ H17; iintro H17
  iapply (wp_ld hz) $$ H13; iintro H13
  iapply (wp_st hz) $$ H13; iintro H13
  iapply (wp_ld hz) $$ H18; iintro H18
  iapply (wp_st hz) $$ H18; iintro H18
  iapply (wp_ld hz) $$ H2; iintro H2
  iapply (wp_ld hz) $$ H10; iintro H10
  iapply (wp_ld hz) $$ H3; iintro H3
  iapply (wp_ld hz) $$ H11; iintro H11
  iapply (wp_ld hz) $$ H12; iintro H12
  iapply (wp_ld hz) $$ H12; iintro H12
  iapply (wp_st hz) $$ H12; iintro H12
  iapply (wp_ld hz) $$ H11; iintro H11
  iapply (wp_st hz) $$ H11; iintro H11
  iapply (wp_ld hz) $$ H13; iintro H13
  iapply (wp_ld hz) $$ H13; iintro H13
  iapply (wp_st hz) $$ H13; iintro H13
  iapply (wp_ld hz) $$ H4; iintro H4
  iapply (wp_ld hz) $$ H14; iintro H14
  iapply (wp_ld hz) $$ H15; iintro H15
  iapply (wp_ld hz) $$ H15; iintro H15
  iapply (wp_st hz) $$ H15; iintro H15
  iapply (wp_ld hz) $$ H14; iintro H14
  iapply (wp_st hz) $$ H14; iintro H14
  iapply (wp_ld hz) $$ H18; iintro H18
  iapply (wp_ld hz) $$ H18; iintro H18
  iapply (wp_st hz) $$ H18; iintro H18
  iapply (wp_ld hz) $$ H5; iintro H5
  iapply (wp_ld hz) $$ H16; iintro H16
  iapply (wp_ld hz) $$ H17; iintro H17
  iapply (wp_ld hz) $$ H17; iintro H17
  iapply (wp_st hz) $$ H17; iintro H17
  iapply (wp_ld hz) $$ H16; iintro H16
  iapply (wp_st hz) $$ H16; iintro H16
  rw [wp_ret]; imodintro
  iapply Hk
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

set_option maxHeartbeats 4000000 in
/-- A point between the first and the last. -/
theorem run_mid (c : Dev nD) (i : grid1.Coords) (a1 : Memref sig .tc .vmem S512x2048 .f32) (ha1 : a1.IsWhole) (a2 : Memref sig .tc .vmem S512x1 .i32) (ha2 : a2.IsWhole) (a3 : Memref sig .tc .vmem S512x2048 .f32) (ha3 : a3.IsWhole) (a4 : Memref sig .tc .vmem S512x512 .f32) (ha4 : a4.IsWhole) (a5 : Memref sig .tc .vmem S512x512 .f32) (ha5 : a5.IsWhole) (a6 : Memref sig .tc .vmem S1x1 .f32) (ha6 : a6.IsWhole) (a7 : Memref sig .tc .vmem S512x1 .f32) (ha7 : a7.IsWhole) (a8 : Memref sig .tc .vmem S512x1 .f32) (ha8 : a8.IsWhole) (a9 : Memref sig .tc .vmem S1x1 .f32) (ha9 : a9.IsWhole)
    (X : Vec F S512x2048 .f32) (Tg : Vec F S512x1 .i32) (Ft : Vec F S512x2048 .f32) (L0 L1 : Vec F S512x512 .f32)
    (o5 : Vec F S1x1 .f32) (o6 o7 : Vec F S512x1 .f32) (o8 : Vec F S1x1 .f32) (s : St F)
    (hf : ¬isFirst i = 1#1) (hl : ¬k1_cond2 i = 1#1) (Q : PUnit → sProp 𝕄) :
    (iprop((owns (c.tc : Thread nD τ) a1 fullShare X ∗ owns (c.tc : Thread nD τ) a2 fullShare Tg ∗ owns (c.tc : Thread nD τ) a3 fullShare Ft ∗ owns (c.tc : Thread nD τ) a4 fullShare L0 ∗ owns (c.tc : Thread nD τ) a5 fullShare L1 ∗ owns (c.tc : Thread nD τ) a6 fullShare o5 ∗ owns (c.tc : Thread nD τ) a7 fullShare o6 ∗ owns (c.tc : Thread nD τ) a8 fullShare o7 ∗ owns (c.tc : Thread nD τ) a9 fullShare o8)
        ∗ held c s
        ∗ ((owns (c.tc : Thread nD τ) a1 fullShare X ∗ owns (c.tc : Thread nD τ) a2 fullShare Tg ∗ owns (c.tc : Thread nD τ) a3 fullShare Ft ∗ owns (c.tc : Thread nD τ) a4 fullShare L0 ∗ owns (c.tc : Thread nD τ) a5 fullShare L1 ∗ owns (c.tc : Thread nD τ) a6 fullShare o5 ∗ owns (c.tc : Thread nD τ) a7 fullShare o6 ∗ owns (c.tc : Thread nD τ) a8 fullShare o7 ∗ owns (c.tc : Thread nD τ) a9 fullShare o8)
            ∗ held c (step i Tg Ft L0 L1 s) -∗ Q ⟨⟩)) : sProp 𝕄)
      ⊢ wp frame (wpE (defs₀ (F := F)) 𝒱₀ (c.tc : Thread nD τ) none) Set.univ (cc1__tc0_body i a1 ha1 a2 ha2 a3 ha3 a4 ha4 a5 ha5 a6 ha6 a7 ha7 a8 ha8 a9 ha9 (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _)) Q := by
  rw [cc1__tc0_body_eq_skeleton]
  unfold cc1__tc0_body_skel
  unfold isFirst at hf
  simp only [k1_part3_eq_skeleton, k1_part4_eq_skeleton, k1_part1_eq_skeleton, k1_part2_eq_skeleton,
    k1_part3_skel, k1_part4_skel, k1_part1_skel, k1_part2_skel, dif_neg hf, dif_neg hl,
    Prog.lift, Prog.bind_op, Prog.bind_ret, Prog.bind_assoc, Prog.pure_eq_ret]
  unfold held
  iintro ⟨⟨H1, H2, H3, H4, H5, H6, H7, H8, H9⟩, ⟨H10, H11, H12, H13, H14, H15, H16, H17, H18⟩, Hk⟩
  iapply (wp_ld hz) $$ H2; iintro H2
  iapply (wp_ld hz) $$ H10; iintro H10
  iapply (wp_ld hz) $$ H3; iintro H3
  iapply (wp_ld hz) $$ H11; iintro H11
  iapply (wp_ld hz) $$ H12; iintro H12
  iapply (wp_ld hz) $$ H12; iintro H12
  iapply (wp_st hz) $$ H12; iintro H12
  iapply (wp_ld hz) $$ H11; iintro H11
  iapply (wp_st hz) $$ H11; iintro H11
  iapply (wp_ld hz) $$ H13; iintro H13
  iapply (wp_ld hz) $$ H13; iintro H13
  iapply (wp_st hz) $$ H13; iintro H13
  iapply (wp_ld hz) $$ H4; iintro H4
  iapply (wp_ld hz) $$ H14; iintro H14
  iapply (wp_ld hz) $$ H15; iintro H15
  iapply (wp_ld hz) $$ H15; iintro H15
  iapply (wp_st hz) $$ H15; iintro H15
  iapply (wp_ld hz) $$ H14; iintro H14
  iapply (wp_st hz) $$ H14; iintro H14
  iapply (wp_ld hz) $$ H18; iintro H18
  iapply (wp_ld hz) $$ H18; iintro H18
  iapply (wp_st hz) $$ H18; iintro H18
  iapply (wp_ld hz) $$ H5; iintro H5
  iapply (wp_ld hz) $$ H16; iintro H16
  iapply (wp_ld hz) $$ H17; iintro H17
  iapply (wp_ld hz) $$ H17; iintro H17
  iapply (wp_st hz) $$ H17; iintro H17
  iapply (wp_ld hz) $$ H16; iintro H16
  iapply (wp_st hz) $$ H16; iintro H16
  rw [wp_ret]; imodintro
  iapply Hk
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

set_option maxHeartbeats 4000000 in
/-- The last point. -/
theorem run_last (c : Dev nD) (i : grid1.Coords) (a1 : Memref sig .tc .vmem S512x2048 .f32) (ha1 : a1.IsWhole) (a2 : Memref sig .tc .vmem S512x1 .i32) (ha2 : a2.IsWhole) (a3 : Memref sig .tc .vmem S512x2048 .f32) (ha3 : a3.IsWhole) (a4 : Memref sig .tc .vmem S512x512 .f32) (ha4 : a4.IsWhole) (a5 : Memref sig .tc .vmem S512x512 .f32) (ha5 : a5.IsWhole) (a6 : Memref sig .tc .vmem S1x1 .f32) (ha6 : a6.IsWhole) (a7 : Memref sig .tc .vmem S512x1 .f32) (ha7 : a7.IsWhole) (a8 : Memref sig .tc .vmem S512x1 .f32) (ha8 : a8.IsWhole) (a9 : Memref sig .tc .vmem S1x1 .f32) (ha9 : a9.IsWhole)
    (X : Vec F S512x2048 .f32) (Tg : Vec F S512x1 .i32) (Ft : Vec F S512x2048 .f32) (L0 L1 : Vec F S512x512 .f32)
    (o5 : Vec F S1x1 .f32) (o6 o7 : Vec F S512x1 .f32) (o8 : Vec F S1x1 .f32) (s : St F)
    (hf : ¬isFirst i = 1#1) (hl : k1_cond2 i = 1#1) (Q : PUnit → sProp 𝕄) :
    (iprop((owns (c.tc : Thread nD τ) a1 fullShare X ∗ owns (c.tc : Thread nD τ) a2 fullShare Tg ∗ owns (c.tc : Thread nD τ) a3 fullShare Ft ∗ owns (c.tc : Thread nD τ) a4 fullShare L0 ∗ owns (c.tc : Thread nD τ) a5 fullShare L1 ∗ owns (c.tc : Thread nD τ) a6 fullShare o5 ∗ owns (c.tc : Thread nD τ) a7 fullShare o6 ∗ owns (c.tc : Thread nD τ) a8 fullShare o7 ∗ owns (c.tc : Thread nD τ) a9 fullShare o8)
        ∗ held c s
        ∗ ((owns (c.tc : Thread nD τ) a1 fullShare X ∗ owns (c.tc : Thread nD τ) a2 fullShare Tg ∗ owns (c.tc : Thread nD τ) a3 fullShare Ft ∗ owns (c.tc : Thread nD τ) a4 fullShare L0 ∗ owns (c.tc : Thread nD τ) a5 fullShare L1 ∗ owns (c.tc : Thread nD τ) a6 fullShare (out5 (step i Tg Ft L0 L1 s)) ∗ owns (c.tc : Thread nD τ) a7 fullShare (out6 (step i Tg Ft L0 L1 s)) ∗ owns (c.tc : Thread nD τ) a8 fullShare (out7 (step i Tg Ft L0 L1 s)) ∗ owns (c.tc : Thread nD τ) a9 fullShare (out8 (step i Tg Ft L0 L1 s)))
            ∗ held c (step i Tg Ft L0 L1 s) -∗ Q ⟨⟩)) : sProp 𝕄)
      ⊢ wp frame (wpE (defs₀ (F := F)) 𝒱₀ (c.tc : Thread nD τ) none) Set.univ (cc1__tc0_body i a1 ha1 a2 ha2 a3 ha3 a4 ha4 a5 ha5 a6 ha6 a7 ha7 a8 ha8 a9 ha9 (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _)) Q := by
  rw [cc1__tc0_body_eq_skeleton]
  unfold cc1__tc0_body_skel
  unfold isFirst at hf
  simp only [k1_part3_eq_skeleton, k1_part4_eq_skeleton, k1_part1_eq_skeleton, k1_part2_eq_skeleton,
    k1_part3_skel, k1_part4_skel, k1_part1_skel, k1_part2_skel, dif_neg hf, dif_pos hl,
    Prog.lift, Prog.bind_op, Prog.bind_ret, Prog.bind_assoc, Prog.pure_eq_ret]
  unfold held
  iintro ⟨⟨H1, H2, H3, H4, H5, H6, H7, H8, H9⟩, ⟨H10, H11, H12, H13, H14, H15, H16, H17, H18⟩, Hk⟩
  iapply (wp_ld hz) $$ H2; iintro H2
  iapply (wp_ld hz) $$ H10; iintro H10
  iapply (wp_ld hz) $$ H3; iintro H3
  iapply (wp_ld hz) $$ H11; iintro H11
  iapply (wp_ld hz) $$ H12; iintro H12
  iapply (wp_ld hz) $$ H12; iintro H12
  iapply (wp_st hz) $$ H12; iintro H12
  iapply (wp_ld hz) $$ H11; iintro H11
  iapply (wp_st hz) $$ H11; iintro H11
  iapply (wp_ld hz) $$ H13; iintro H13
  iapply (wp_ld hz) $$ H13; iintro H13
  iapply (wp_st hz) $$ H13; iintro H13
  iapply (wp_ld hz) $$ H4; iintro H4
  iapply (wp_ld hz) $$ H14; iintro H14
  iapply (wp_ld hz) $$ H15; iintro H15
  iapply (wp_ld hz) $$ H15; iintro H15
  iapply (wp_st hz) $$ H15; iintro H15
  iapply (wp_ld hz) $$ H14; iintro H14
  iapply (wp_st hz) $$ H14; iintro H14
  iapply (wp_ld hz) $$ H18; iintro H18
  iapply (wp_ld hz) $$ H18; iintro H18
  iapply (wp_st hz) $$ H18; iintro H18
  iapply (wp_ld hz) $$ H5; iintro H5
  iapply (wp_ld hz) $$ H16; iintro H16
  iapply (wp_ld hz) $$ H17; iintro H17
  iapply (wp_ld hz) $$ H17; iintro H17
  iapply (wp_st hz) $$ H17; iintro H17
  iapply (wp_ld hz) $$ H16; iintro H16
  iapply (wp_st hz) $$ H16; iintro H16
  iapply (wp_ld hz) $$ H14; iintro H14
  iapply (wp_ld hz) $$ H15; iintro H15
  iapply (wp_ld hz) $$ H16; iintro H16
  iapply (wp_ld hz) $$ H17; iintro H17
  iapply (wp_ld hz) $$ H7; iintro H7
  iapply (wp_st hz) $$ H7; iintro H7
  iapply (wp_ld hz) $$ H8; iintro H8
  iapply (wp_st hz) $$ H8; iintro H8
  iapply (wp_ld hz) $$ H11; iintro H11
  iapply (wp_ld hz) $$ H12; iintro H12
  iapply (wp_ld hz) $$ H13; iintro H13
  iapply (wp_ld hz) $$ H6; iintro H6
  iapply (wp_st hz) $$ H6; iintro H6
  iapply (wp_ld hz) $$ H18; iintro H18
  iapply (wp_ld hz) $$ H9; iintro H9
  iapply (wp_st hz) $$ H9; iintro H9
  rw [wp_ret]; imodintro
  iapply Hk
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

end Cert.Proof.Stats
-- ==== Proof.StatsData.lean ====
/-
  The first TensorCore call over its whole grid: the scratch buffers after every point as a recursion on the point, and
  the proof that each point carries them on.
-/
module

public import proofs.«01_k».proof.Proof.Stats
public import proofs.«01_k».proof.Proof.Gen.KernelIdeal.Launch
public import Idealize.ShloMosaic.Lib.Pipeline.FrameBody
public import Idealize.ShloMosaic.Lib.Pipeline.Regions

@[expose] public section

set_option maxRecDepth 16384

noncomputable section

namespace Cert.Proof.StatsData

open Cert.KernelIdeal Cert.KernelIdeal.Gen Cert.Proof.Setup Cert.Proof.Whole Cert.Proof.Stats
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation)

variable {F : FTy → Type} [FloatOps F] [Named F]

local notation "𝕄" => MM F

variable (V : (c : Dev nD) → (b : Ref sig .tc) → Buf (Elt F) ((c.tc : Thread nD τ).loc b))

/-- A window's block at a point, read out of the contents the call is entered with. -/
abbrev blk (c : Dev nD) (w : Fin 9) (t : Fin cfg1.N) : ((cfg1.win w).xblock (cfg1.grid.coords t)).Idx → Elt F (cfg1.win w).elt :=
  ((cfg1.win w).blk t).view.read (Elt F) (V c (Pipeline.arrRef spec1 w))

theorem N16 : cfg1.N = 16 := N_1

/-- The point of a number. -/
def pt (n : ℕ) : Fin cfg1.N := ⟨n % 16, by rw [N16]; omega⟩

theorem pt_val (t : Fin cfg1.N) : pt t.val = t := Fin.ext (by have := lt_of_lt_of_eq t.isLt N16; show t.val % 16 = t.val; omega)

/-- What point `t` makes of a state. -/
def stepAt (c : Dev nD) (t : Fin cfg1.N) (s : St F) : St F :=
  step (grid1.coords t) (blk V c 1 t) (blk V c 2 t) (blk V c 3 t) (blk V c 4 t) s

/-- The scratch buffers after point `n`. -/
def state (c : Dev nD) : ℕ → St F
  | 0 => stepAt V c (pt 0) (init (blk V c 0 (pt 0)))
  | n + 1 => stepAt V c (pt (n + 1)) (state c n)

/-- The buffers of the other call that stay untouched. -/
def others (c : Dev nD) : sProp 𝕄 :=
  iprop((∃ f : Buf (Elt F) ((c.tc : Thread nD τ).loc cc2_stg0_0), ((c.tc : Thread nD τ).loc cc2_stg0_0) ↦{fullShare} f) ∗ (∃ f : Buf (Elt F) ((c.tc : Thread nD τ).loc cc2_stg0_1), ((c.tc : Thread nD τ).loc cc2_stg0_1) ↦{fullShare} f) ∗ (∃ f : Buf (Elt F) ((c.tc : Thread nD τ).loc cc2_stg1_0), ((c.tc : Thread nD τ).loc cc2_stg1_0) ↦{fullShare} f) ∗ (∃ f : Buf (Elt F) ((c.tc : Thread nD τ).loc cc2_stg1_1), ((c.tc : Thread nD τ).loc cc2_stg1_1) ↦{fullShare} f) ∗ (∃ f : Buf (Elt F) ((c.tc : Thread nD τ).loc cc2_stg2_0), ((c.tc : Thread nD τ).loc cc2_stg2_0) ↦{fullShare} f) ∗ (∃ f : Buf (Elt F) ((c.tc : Thread nD τ).loc cc2_stg3_0), ((c.tc : Thread nD τ).loc cc2_stg3_0) ↦{fullShare} f) ∗ (∃ f : Buf (Elt F) ((c.tc : Thread nD τ).loc cc2_stg4_0), ((c.tc : Thread nD τ).loc cc2_stg4_0) ↦{fullShare} f) ∗ (∃ f : Buf (Elt F) ((c.tc : Thread nD τ).loc cc2_stg5_0), ((c.tc : Thread nD τ).loc cc2_stg5_0) ↦{fullShare} f) ∗ (∃ f : Buf (Elt F) ((c.tc : Thread nD τ).loc cc2_stg6_0), ((c.tc : Thread nD τ).loc cc2_stg6_0) ↦{fullShare} f) ∗ (∃ f : Buf (Elt F) ((c.tc : Thread nD τ).loc cc2_stg7_0), ((c.tc : Thread nD τ).loc cc2_stg7_0) ↦{fullShare} f) ∗ (∃ f : Buf (Elt F) ((c.tc : Thread nD τ).loc cc2_stg8_0), ((c.tc : Thread nD τ).loc cc2_stg8_0) ↦{fullShare} f) ∗ (∃ f : Buf (Elt F) ((c.tc : Thread nD τ).loc cc2_scratch0), ((c.tc : Thread nD τ).loc cc2_scratch0) ↦{fullShare} f))

/-- Before point `t` the scratch buffers hold what point `t - 1` left. -/
def Φc (c : Dev nD) (t : ℕ) : sProp 𝕄 := iprop((∃ s, ⌜t ≠ 0 → s = state V c (t - 1)⌝ ∗ held c s) ∗ others (F := F) c)

/-- The call's data: its arrays at the entry contents; every input window keeps its block; the result windows hold the
    results computed from the state. -/
def dat (c : Dev nD) : Dat τ (Elt F) (HIx 1) ℕ UU ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out5 (state V c t.val)
    | ⟨6, _⟩ => out6 (state V c t.val)
    | ⟨7, _⟩ => out7 (state V c t.val)
    | ⟨8, _⟩ => out8 (state V c t.val)
  Φ t := Φc V c t.val
  q _ := fullShare
  owed _ := 0
  recorded _ := {p | (K F).lev (c.tc, p.1) p.2 ≤ 8}

theorem before_0 (c : Dev nD) (t : Fin cfg1.N) (d) : (dat V c).before 0 t d = blk V c 0 t :=
  (dat V c).before_in_eq_fetched 0 rfl (fun _ => rfl) (fun _ _ _ => rfl) (fun _ => rfl) t d

theorem before_1 (c : Dev nD) (t : Fin cfg1.N) (d) : (dat V c).before 1 t d = blk V c 1 t :=
  (dat V c).before_in_eq_fetched 1 rfl (fun _ => rfl) (fun _ _ _ => rfl) (fun _ => rfl) t d

theorem before_2 (c : Dev nD) (t : Fin cfg1.N) (d) : (dat V c).before 2 t d = blk V c 2 t :=
  (dat V c).before_in_eq_fetched 2 rfl (fun _ => rfl) (fun _ _ _ => rfl) (fun _ => rfl) t d

theorem before_3 (c : Dev nD) (t : Fin cfg1.N) (d) : (dat V c).before 3 t d = blk V c 3 t :=
  (dat V c).before_in_eq_fetched 3 rfl (fun _ => rfl) (fun _ _ _ => rfl) (fun _ => rfl) t d

theorem before_4 (c : Dev nD) (t : Fin cfg1.N) (d) : (dat V c).before 4 t d = blk V c 4 t :=
  (dat V c).before_in_eq_fetched 4 rfl (fun _ => rfl) (fun _ _ _ => rfl) (fun _ => rfl) t d

theorem first_iff : ∀ t : Fin cfg1.N, Stats.isFirst (grid1.coords t) = 1#1 ↔ t.val = 0 := by decide +kernel
theorem last_iff : ∀ t : Fin cfg1.N, k1_cond2 (grid1.coords t) = 1#1 ↔ t.val = 15 := by decide +kernel

/-- Before the last point a result window is untouched. -/
theorem idle_of (t : Fin cfg1.N) (h : t.val ≠ 15) (w : Fin 9) (hw : 5 ≤ w.val) : idle1 w (grid1.coords t) = true := by
  have e : (k1_cond2 (grid1.coords t) == 1#1) = false := by
    rw [beq_eq_false_iff_ne]; exact fun he => h ((last_iff t).mp he)
  match w, hw with
  | ⟨5, _⟩, _ | ⟨6, _⟩, _ | ⟨7, _⟩, _ | ⟨8, _⟩, _ =>
    show (!(k1_cond2 (grid1.coords t) == 1#1)) = true
    rw [e]; rfl

theorem live_of (t : Fin cfg1.N) (h : t.val = 15) (w : Fin 9) (hw : 5 ≤ w.val) : idle1 w (grid1.coords t) = false := by
  have e : (k1_cond2 (grid1.coords t) == 1#1) = true := by
    rw [beq_iff_eq]; exact (last_iff t).mpr h
  match w, hw with
  | ⟨5, _⟩, _ | ⟨6, _⟩, _ | ⟨7, _⟩, _ | ⟨8, _⟩, _ =>
    show (!(k1_cond2 (grid1.coords t) == 1#1)) = false
    rw [e]; rfl

theorem noflush_of (t : Fin cfg1.N) (h : t.val ≠ 15) (w : Fin 9) (hw : 5 ≤ w.val) : (win1 w).flush t = false := by
  have ht := lt_of_lt_of_eq t.isLt N16
  rw [Bool.eq_false_iff]
  intro he
  match w, hw with
  | ⟨5, _⟩, _ => have := (flush1_5 t).mp he; omega
  | ⟨6, _⟩, _ => have := (flush1_6 t).mp he; omega
  | ⟨7, _⟩, _ => have := (flush1_7 t).mp he; omega
  | ⟨8, _⟩, _ => have := (flush1_8 t).mp he; omega

theorem state_zero (c : Dev nD) (t : Fin cfg1.N) (h : t.val = 0) : state V c t.val = stepAt V c t (init (blk V c 0 t)) := by
  have e : pt 0 = t := by rw [← h]; exact pt_val t
  rw [h, ← e]; rfl

theorem state_pos (c : Dev nD) (t : Fin cfg1.N) (h : t.val ≠ 0) : state V c t.val = stepAt V c t (state V c (t.val - 1)) := by
  obtain ⟨n, hn⟩ : ∃ n, t.val = n + 1 := ⟨t.val - 1, by omega⟩
  have e : pt (n + 1) = t := by rw [← hn]; exact pt_val t
  rw [hn, ← e]; rfl

set_option maxHeartbeats 4000000 in
/-- The first point. -/
theorem body_first (c : Dev nD) (t : Fin cfg1.N) (h : t.val = 0) (h15 : t.val ≠ 15) :
    (iprop((dat V c).Φ t.castSucc ∗ (dat V c).owesAt none t.castSucc
        ∗ bigSep Finset.univ fun w : Fin 9 => iprop(∃ d, owns (c.tc : Thread nD τ) ((cfg1.win w).stage (cfg1.slots t w)) fullShare ((dat V c).before w t d))) : sProp 𝕄)
      ⊢ wp frame (wpE (defs₀ (F := F)) 𝒱₀ (c.tc : Thread nD τ) none) Set.univ (bodyAt1 t) fun _ =>
          iprop((dat V c).Φ t.succ ∗ (dat V c).owesAt none t.succ
            ∗ bigSep Finset.univ fun w : Fin 9 =>
                match cfg1.idle w (cfg1.grid.coords t) with
                | true => match (cfg1.win w).flush t with
                  | false => iprop(∃ d, owns (c.tc : Thread nD τ) ((cfg1.win w).stage (cfg1.slots t w)) fullShare ((dat V c).before w t d))
                  | true => owns (c.tc : Thread nD τ) ((cfg1.win w).stage (cfg1.slots t w)) fullShare ((dat V c).after w t)
                | false => owns (c.tc : Thread nD τ) ((cfg1.win w).stage (cfg1.slots t w)) fullShare ((dat V c).after w t)) := by
  rw [bigSep_W1, bigSep_W1]
  simp only [show ∀ i, cfg1.idle 0 i = false from fun _ => rfl, show ∀ i, cfg1.idle 1 i = false from fun _ => rfl,
    show ∀ i, cfg1.idle 2 i = false from fun _ => rfl, show ∀ i, cfg1.idle 3 i = false from fun _ => rfl, show ∀ i, cfg1.idle 4 i = false from fun _ => rfl,
    idle_of t h15 5 (by decide), noflush_of t h15 5 (by decide), idle_of t h15 6 (by decide), noflush_of t h15 6 (by decide), idle_of t h15 7 (by decide), noflush_of t h15 7 (by decide), idle_of t h15 8 (by decide), noflush_of t h15 8 (by decide), before_0, before_1, before_2, before_3, before_4]
  rw [show (dat V c).Φ t.castSucc = Φc V c t.val from rfl, show (dat V c).Φ t.succ = Φc V c (t.val + 1) from rfl,
    show (dat V c).owesAt none t.succ = (dat V c).owesAt none t.castSucc from rfl]
  unfold Φc
  iintro ⟨⟨⟨%s, %hs, Hs⟩, Hrest⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (Stats.run_first c (grid1.coords t) _ _ _ _ _ _ _ _ _ _ _ _ _ _ _ _ _ _ (blk V c 0 t) (blk V c 1 t) (blk V c 2 t) (blk V c 3 t) (blk V c 4 t) _ _ _ _ s ((first_iff t).mpr h) (fun he => h15 ((last_iff t).mp he)))
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [Hs]; · iexact Hs
  iintro ⟨⟨H0, H1, H2, H3, H4, H5, H6, H7, H8⟩, Hs⟩
  rw [show step (grid1.coords t) (blk V c 1 t) (blk V c 2 t) (blk V c 3 t) (blk V c 4 t) (init (blk V c 0 t)) = state V c t.val from (state_zero V c t h).symm]
  isplitl [Hs Hrest]
  · isplitl [Hs]
    · iexists (state V c t.val)
      isplitr
      · ipureintro; intro _; rfl
      · iexact Hs
    · iexact Hrest
  isplitl [Howes]; · iexact Howes
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  isplitl [H7]; · iexists d7; iexact H7
  iexists d8; iexact H8

set_option maxHeartbeats 4000000 in
/-- A point between. -/
theorem body_mid (c : Dev nD) (t : Fin cfg1.N) (h : t.val ≠ 0) (h15 : t.val ≠ 15) :
    (iprop((dat V c).Φ t.castSucc ∗ (dat V c).owesAt none t.castSucc
        ∗ bigSep Finset.univ fun w : Fin 9 => iprop(∃ d, owns (c.tc : Thread nD τ) ((cfg1.win w).stage (cfg1.slots t w)) fullShare ((dat V c).before w t d))) : sProp 𝕄)
      ⊢ wp frame (wpE (defs₀ (F := F)) 𝒱₀ (c.tc : Thread nD τ) none) Set.univ (bodyAt1 t) fun _ =>
          iprop((dat V c).Φ t.succ ∗ (dat V c).owesAt none t.succ
            ∗ bigSep Finset.univ fun w : Fin 9 =>
                match cfg1.idle w (cfg1.grid.coords t) with
                | true => match (cfg1.win w).flush t with
                  | false => iprop(∃ d, owns (c.tc : Thread nD τ) ((cfg1.win w).stage (cfg1.slots t w)) fullShare ((dat V c).before w t d))
                  | true => owns (c.tc : Thread nD τ) ((cfg1.win w).stage (cfg1.slots t w)) fullShare ((dat V c).after w t)
                | false => owns (c.tc : Thread nD τ) ((cfg1.win w).stage (cfg1.slots t w)) fullShare ((dat V c).after w t)) := by
  rw [bigSep_W1, bigSep_W1]
  simp only [show ∀ i, cfg1.idle 0 i = false from fun _ => rfl, show ∀ i, cfg1.idle 1 i = false from fun _ => rfl,
    show ∀ i, cfg1.idle 2 i = false from fun _ => rfl, show ∀ i, cfg1.idle 3 i = false from fun _ => rfl, show ∀ i, cfg1.idle 4 i = false from fun _ => rfl,
    idle_of t h15 5 (by decide), noflush_of t h15 5 (by decide), idle_of t h15 6 (by decide), noflush_of t h15 6 (by decide), idle_of t h15 7 (by decide), noflush_of t h15 7 (by decide), idle_of t h15 8 (by decide), noflush_of t h15 8 (by decide), before_0, before_1, before_2, before_3, before_4]
  rw [show (dat V c).Φ t.castSucc = Φc V c t.val from rfl, show (dat V c).Φ t.succ = Φc V c (t.val + 1) from rfl,
    show (dat V c).owesAt none t.succ = (dat V c).owesAt none t.castSucc from rfl]
  unfold Φc
  iintro ⟨⟨⟨%s, %hs, Hs⟩, Hrest⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := hs (by omega)
  iapply (Stats.run_mid c (grid1.coords t) _ _ _ _ _ _ _ _ _ _ _ _ _ _ _ _ _ _ (blk V c 0 t) (blk V c 1 t) (blk V c 2 t) (blk V c 3 t) (blk V c 4 t) _ _ _ _ (state V c (t.val - 1)) (fun he => h ((first_iff t).mp he)) (fun he => h15 ((last_iff t).mp he)))
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [Hs]; · iexact Hs
  iintro ⟨⟨H0, H1, H2, H3, H4, H5, H6, H7, H8⟩, Hs⟩
  rw [show step (grid1.coords t) (blk V c 1 t) (blk V c 2 t) (blk V c 3 t) (blk V c 4 t) (state V c (t.val - 1)) = state V c t.val from (state_pos V c t (by omega)).symm]
  isplitl [Hs Hrest]
  · isplitl [Hs]
    · iexists (state V c t.val)
      isplitr
      · ipureintro; intro _; rfl
      · iexact Hs
    · iexact Hrest
  isplitl [Howes]; · iexact Howes
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  isplitl [H7]; · iexists d7; iexact H7
  iexists d8; iexact H8

set_option maxHeartbeats 4000000 in
/-- The last point. -/
theorem body_last (c : Dev nD) (t : Fin cfg1.N) (h : t.val = 15) :
    (iprop((dat V c).Φ t.castSucc ∗ (dat V c).owesAt none t.castSucc
        ∗ bigSep Finset.univ fun w : Fin 9 => iprop(∃ d, owns (c.tc : Thread nD τ) ((cfg1.win w).stage (cfg1.slots t w)) fullShare ((dat V c).before w t d))) : sProp 𝕄)
      ⊢ wp frame (wpE (defs₀ (F := F)) 𝒱₀ (c.tc : Thread nD τ) none) Set.univ (bodyAt1 t) fun _ =>
          iprop((dat V c).Φ t.succ ∗ (dat V c).owesAt none t.succ
            ∗ bigSep Finset.univ fun w : Fin 9 =>
                match cfg1.idle w (cfg1.grid.coords t) with
                | true => match (cfg1.win w).flush t with
                  | false => iprop(∃ d, owns (c.tc : Thread nD τ) ((cfg1.win w).stage (cfg1.slots t w)) fullShare ((dat V c).before w t d))
                  | true => owns (c.tc : Thread nD τ) ((cfg1.win w).stage (cfg1.slots t w)) fullShare ((dat V c).after w t)
                | false => owns (c.tc : Thread nD τ) ((cfg1.win w).stage (cfg1.slots t w)) fullShare ((dat V c).after w t)) := by
  rw [bigSep_W1, bigSep_W1]
  simp only [show ∀ i, cfg1.idle 0 i = false from fun _ => rfl, show ∀ i, cfg1.idle 1 i = false from fun _ => rfl,
    show ∀ i, cfg1.idle 2 i = false from fun _ => rfl, show ∀ i, cfg1.idle 3 i = false from fun _ => rfl, show ∀ i, cfg1.idle 4 i = false from fun _ => rfl,
    live_of t h 5 (by decide), live_of t h 6 (by decide), live_of t h 7 (by decide), live_of t h 8 (by decide), before_0, before_1, before_2, before_3, before_4]
  rw [show (dat V c).Φ t.castSucc = Φc V c t.val from rfl, show (dat V c).Φ t.succ = Φc V c (t.val + 1) from rfl,
    show (dat V c).owesAt none t.succ = (dat V c).owesAt none t.castSucc from rfl]
  unfold Φc
  iintro ⟨⟨⟨%s, %hs, Hs⟩, Hrest⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := hs (by omega)
  iapply (Stats.run_last c (grid1.coords t) _ _ _ _ _ _ _ _ _ _ _ _ _ _ _ _ _ _ (blk V c 0 t) (blk V c 1 t) (blk V c 2 t) (blk V c 3 t) (blk V c 4 t) _ _ _ _ (state V c (t.val - 1)) (fun he => by have := (first_iff t).mp he; omega) ((last_iff t).mpr h))
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [Hs]; · iexact Hs
  iintro ⟨⟨H0, H1, H2, H3, H4, H5, H6, H7, H8⟩, Hs⟩
  rw [show step (grid1.coords t) (blk V c 1 t) (blk V c 2 t) (blk V c 3 t) (blk V c 4 t) (state V c (t.val - 1)) = state V c t.val from (state_pos V c t (by omega)).symm]
  isplitl [Hs Hrest]
  · isplitl [Hs]
    · iexists (state V c t.val)
      isplitr
      · ipureintro; intro _; rfl
      · iexact Hs
    · iexact Hrest
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- Every point carries the state on. -/
theorem body_obligation (c : Dev nD) : BodyObligation (dat V c) (defs₀ (F := F)) 𝒱₀ none Set.univ := fun t => by
  by_cases h : t.val = 0
  · exact body_first V c t h (by omega)
  · by_cases h15 : t.val = 15
    · exact body_last V c t h15
    · exact body_mid V c t h h15

end Cert.Proof.StatsData
-- ==== Proof.StatsRegion.lean ====
/-
  The first TensorCore call as one segment of the main program: from every buffer of the program at given contents to the
  same with the call's result arrays at what the call leaves.
-/
module

public import proofs.«01_k».proof.Proof.StatsData
public import Idealize.ShloMosaic.Lib.Pipeline.RegionsLoop

@[expose] public section

set_option maxRecDepth 16384

noncomputable section

namespace Cert.Proof.StatsRegion

open Cert.KernelIdeal Cert.KernelIdeal.Gen Cert.Proof.Setup Cert.Proof.Whole Cert.Proof.Stats Cert.Proof.StatsData
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation)

variable {F : FTy → Type} [FloatOps F] [Named F]

local notation "𝕄" => MM F

/-- The contents of the prefetched tables: there is none. -/
abbrev adm : (p : Fin 2) → (pcfgs (F := F) p).Adm := fun p => (cfgs p).toPCfg_adm

/-- Data for the call not at hand. -/
def otherDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

variable (V : (c : Dev nD) → (b : Ref sig .tc) → Buf (Elt F) ((c.tc : Thread nD τ).loc b))

/-- Both calls' data, this call's at its place. -/
def pdats : (p : Fin 2) → (c : Dev nD) → Dat τ (Elt F) (HIx 1) ℕ UU ℕ (Pipeline.pin (pcfgs (F := F)) adm p) c
  | ⟨0, _⟩ => fun c => dat V c
  | ⟨1, _⟩ => fun c => otherDat c

variable (Vp : (c : Dev nD) → (b : Ref sig .tc) → Buf (Elt F) ((c.tc : Thread nD τ).loc b))

/-- What the core owes around the call: nothing, its recorded waits all low. -/
def owesLow (c : Dev nD) : sProp 𝕄 :=
  iprop(∃ W, ⌜(K F).WBelow (c.tc : Thread nD τ) W 8⌝ ∗ owes (c.tc : Thread nD τ) (0 : CellTallies nD τ sig (HIx 1)) W)

theorem owes_in (c : Dev nD) : owesLow (F := F) c ⊢ (dat V c).owesAt none 0 := by
  unfold owesLow Pipeline.Dat.owesAt Pipeline.owesWithin
  iintro ⟨%W, %hW, HO⟩
  iexists W
  isplitr
  · ipureintro; exact fun p hp => Or.inl (hW p hp)
  iexact HO

theorem owes_out (c : Dev nD) : (dat V c).owesAt none (Fin.last cfg1.N) ⊢ owesLow (F := F) c := by
  unfold owesLow Pipeline.Dat.owesAt Pipeline.owesWithin
  iintro ⟨%W, %hW, HO⟩
  iexists W
  isplitr
  · ipureintro
    intro p hp
    rcases hW hp with h | ⟨w, s, rfl⟩
    · exact h
    · exact Nat.zero_le _
  iexact HO

/-- The buffers no window stages, at the call's start. -/
theorem start (c : Dev nD) :
    (Pipeline.scopedRest (Ix := HIx 1) (Name := ℕ) (U := UU) (Lvl := ℕ) (Val := Elt F) spec1 c : sProp 𝕄) ⊢ Φc V c 0 := by
  rw [scopedRest1_eq]
  unfold Φc others held
  simp only [owns_whole]
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, H9, H10, H11, H12, H13, H14, H15, H16, H17, H18, H19, H20⟩
  isplitl [H0 H1 H2 H3 H4 H5 H6 H7 H8]
  · iexists (St.mk f0 f1 f2 f3 f4 f5 f6 f7 f8)
    isplitr
    · ipureintro; intro h; exact absurd rfl h
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The same buffers at the call's end. -/
theorem finish (c : Dev nD) (n : ℕ) :
    Φc V c n ⊢ (Pipeline.scopedRest (Ix := HIx 1) (Name := ℕ) (U := UU) (Lvl := ℕ) (Val := Elt F) spec1 c : sProp 𝕄) := by
  rw [scopedRest1_eq]
  unfold Φc others held
  simp only [owns_whole]
  iintro ⟨⟨%s, -, H0, H1, H2, H3, H4, H5, H6, H7, H8⟩, H9, H10, H11, H12, H13, H14, H15, H16, H17, H18, H19, H20⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

set_option backward.isDefEq.respectTransparency.types false in
/-- The call as a segment: `Vp` is `V` with the result arrays at what the call leaves. -/
def reg (hout : ∀ c, Vp c main_v10_0 = (dat V c).arrAt 5 cfg1.N ∧ Vp c main_v10_1 = (dat V c).arrAt 6 cfg1.N ∧ Vp c main_v10_2 = (dat V c).arrAt 7 cfg1.N ∧ Vp c main_v10_3 = (dat V c).arrAt 8 cfg1.N)
    (hne : ∀ c (b : Ref sig .tc), b ≠ main_v10_0 → b ≠ main_v10_1 → b ≠ main_v10_2 → b ≠ main_v10_3 → Vp c b = V c b) :
    Pipeline.RegionSeg (pcfgs (F := F)) adm (pdats V) none defs₀ 𝒱₀ (K F).L (K F).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K F).L (K F).lev 0 fun _ _ => rfl
  pre c := iprop(unscopedBufs c (V c) ∗ owesLow (F := F) c)
  post c := iprop(unscopedBufs c (Vp c) ∗ owesLow (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) (launch1).win (launch1).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in V c); iexact HO
    isplitr; · iempintro
    iexact Hrest
  hin c := by
    rw [show (pdats V 0 c).Φ 0 = Φc V c 0 from rfl]
    iintro ⟨-, -, Hr⟩; iapply (start V c); iexact Hr
  hout c := by
    rw [Pipeline.ownSems0_none, show (pdats V 0 c).Φ (Fin.last _) = Φc V c cfg1.N from rfl]
    iintro Hr
    isplitr; · iempintro
    isplitr; · iempintro
    iapply (finish V c cfg1.N); iexact Hr
  hexit c := by
    have hjoin := Pipeline.unscopedBufs_of_arrays (p := 0) (pcfgs (F := F)) adm (Ix := HIx 1) (Name := ℕ) (U := UU) (Lvl := ℕ) (launch1).win (launch1).arr_whole c
      (pdats V) ((pdats V 0 c).share_full fun _ => rfl) (V c) (Vp c) ((pdats V 0 c).arrAt · cfg1.N)
      (fun w => by
        fin_cases w
        · exact ((pdats V 0 c).arrAt_in 0 rfl _).trans (hne c main_arg0 (by decide) (by decide) (by decide) (by decide)).symm
        · exact ((pdats V 0 c).arrAt_in 1 rfl _).trans (hne c main_v0 (by decide) (by decide) (by decide) (by decide)).symm
        · exact ((pdats V 0 c).arrAt_in 2 rfl _).trans (hne c main_arg8 (by decide) (by decide) (by decide) (by decide)).symm
        · exact ((pdats V 0 c).arrAt_in 3 rfl _).trans (hne c main_arg1 (by decide) (by decide) (by decide) (by decide)).symm
        · exact ((pdats V 0 c).arrAt_in 4 rfl _).trans (hne c main_arg2 (by decide) (by decide) (by decide) (by decide)).symm
        · exact (hout c).1.symm
        · exact (hout c).2.1.symm
        · exact (hout c).2.2.1.symm
        · exact (hout c).2.2.2.symm)
      (fun b hb => hne c b (fun h => hb (h ▸ Finset.mem_image.mpr ⟨5, Finset.mem_univ _, rfl⟩)) (fun h => hb (h ▸ Finset.mem_image.mpr ⟨6, Finset.mem_univ _, rfl⟩)) (fun h => hb (h ▸ Finset.mem_image.mpr ⟨7, Finset.mem_univ _, rfl⟩)) (fun h => hb (h ▸ Finset.mem_image.mpr ⟨8, Finset.mem_univ _, rfl⟩)))
    iintro ⟨Ha, HO, -, Hrest⟩
    imodintro
    isplitl [Ha Hrest]
    · iapply hjoin; isplitl [Ha] <;> iassumption
    iapply (owes_out V c); iexact HO

end Cert.Proof.StatsRegion
-- ==== Proof.Losses.lean ====
/-
  One grid point of the second TensorCore call: what it does to its scratch word and to its two result windows.
-/
module

public import proofs.«01_k».proof.Proof.Whole
public import proofs.«01_k».proof.Proof.Gen.KernelIdeal.Skeleton
public import proofs.«01_k».proof.Proof.Gen.KernelIdeal.Points

@[expose] public section

set_option maxRecDepth 16384

noncomputable section

namespace Cert.Proof.Losses

open Cert.KernelIdeal Cert.KernelIdeal.Gen Cert.Proof.Setup Cert.Proof.Whole
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MM F

/-- The two running words: the scratch word (the weighted sum of the first log-probabilities) and the result window
    accumulated in place (the sum of the divergence terms). -/
structure Acc (F : FTy → Type) [FloatOps F] where
  ce : Vec F S1x1 .f32
  kl : Vec F S1x1 .f32

/-- What the first point sets up. -/
def zero : Acc F where
  ce := k2_pay5
  kl := k2_pay6

/-- What a point adds, from the two column blocks, the two neighbour matrices and the two log-sums. -/
def add (L0 L1 : Vec F S512x512 .f32) (A M : Vec F S512x512 .f32) (l0 l1 : Vec F S512x1 .f32) (s : Acc F) : Acc F where
  ce := k2_pay2 (k2_pay7 L0 l0) (k2_pay10 L0 l0 L1 l1 A) s.ce
  kl := k2_pay1 (k2_pay11 L0 l0 L1 l1 M) s.kl

/-- The two results of the last point. -/
def outCe (ct : Vec F S1x1 .f32) (s : Acc F) : Vec F S1x1 .f32 := k2_pay3 ct s.ce
def outKl (s : Acc F) : Vec F S1x1 .f32 := k2_pay4 s.kl

/-- The condition of the first point's set-up. -/
def isFirst (i : grid2.Coords) : BitVec 1 := Scalar.cmpi .ne (Scalar.extui (Scalar.cmpi .eq (BitVec.ofNat 32 (i 0).val) 0#32) : BitVec 32) 0#32

set_option maxHeartbeats 4000000 in
/-- The first point. -/
theorem run_first (c : Dev nD) (i : grid2.Coords) (a1 : Memref sig .tc .vmem S512x512 .f32) (ha1 : a1.IsWhole) (a2 : Memref sig .tc .vmem S512x512 .f32) (ha2 : a2.IsWhole) (a3 : Memref sig .tc .vmem S512x512 .f32) (ha3 : a3.IsWhole) (a4 : Memref sig .tc .vmem S512x512 .f32) (ha4 : a4.IsWhole) (a5 : Memref sig .tc .vmem S512x1 .f32) (ha5 : a5.IsWhole) (a6 : Memref sig .tc .vmem S512x1 .f32) (ha6 : a6.IsWhole) (a7 : Memref sig .tc .vmem S1x1 .f32) (ha7 : a7.IsWhole) (a8 : Memref sig .tc .vmem S1x1 .f32) (ha8 : a8.IsWhole) (a9 : Memref sig .tc .vmem S1x1 .f32) (ha9 : a9.IsWhole)
    (L0 L1 A M : Vec F S512x512 .f32) (l0 l1 : Vec F S512x1 .f32) (ct o7 : Vec F S1x1 .f32) (s : Acc F)
    (hf : isFirst i = 1#1) (hl : ¬k2_cond2 i = 1#1) (Q : PUnit → sProp 𝕄) :
    (iprop((owns (c.tc : Thread nD τ) a1 fullShare L0 ∗ owns (c.tc : Thread nD τ) a2 fullShare L1 ∗ owns (c.tc : Thread nD τ) a3 fullShare A ∗ owns (c.tc : Thread nD τ) a4 fullShare M ∗ owns (c.tc : Thread nD τ) a5 fullShare l0 ∗ owns (c.tc : Thread nD τ) a6 fullShare l1 ∗ owns (c.tc : Thread nD τ) a7 fullShare ct ∗ owns (c.tc : Thread nD τ) a8 fullShare o7 ∗ owns (c.tc : Thread nD τ) a9 fullShare s.kl ∗ owns (c.tc : Thread nD τ) (Memref.whole cc2_scratch0) fullShare s.ce)
        ∗ ((owns (c.tc : Thread nD τ) a1 fullShare L0 ∗ owns (c.tc : Thread nD τ) a2 fullShare L1 ∗ owns (c.tc : Thread nD τ) a3 fullShare A ∗ owns (c.tc : Thread nD τ) a4 fullShare M ∗ owns (c.tc : Thread nD τ) a5 fullShare l0 ∗ owns (c.tc : Thread nD τ) a6 fullShare l1 ∗ owns (c.tc : Thread nD τ) a7 fullShare ct ∗ owns (c.tc : Thread nD τ) a8 fullShare o7 ∗ owns (c.tc : Thread nD τ) a9 fullShare (add L0 L1 A M l0 l1 zero).kl ∗ owns (c.tc : Thread nD τ) (Memref.whole cc2_scratch0) fullShare (add L0 L1 A M l0 l1 zero).ce) -∗ Q ⟨⟩)) : sProp 𝕄)
      ⊢ wp frame (wpE (defs₀ (F := F)) 𝒱₀ (c.tc : Thread nD τ) none) Set.univ (cc2__tc1_body i a1 ha1 a2 ha2 a3 ha3 a4 ha4 a5 ha5 a6 ha6 a7 ha7 a8 ha8 a9 ha9 (Memref.whole cc2_scratch0) (Memref.isWhole_whole _)) Q := by
  rw [cc2__tc1_body_eq_skeleton]
  unfold cc2__tc1_body_skel
  unfold isFirst at hf
  simp only [k2_part1_eq_skeleton, k2_part1_skel, dif_pos hf, dif_neg hl,
    Prog.lift, Prog.bind_op, Prog.bind_ret, Prog.bind_assoc, Prog.pure_eq_ret]
  iintro ⟨⟨H1, H2, H3, H4, H5, H6, H7, H8, H9, H10⟩, Hk⟩
  iapply (wp_ld hz) $$ H10; iintro H10
  iapply (wp_st hz) $$ H10; iintro H10
  iapply (wp_ld hz) $$ H9; iintro H9
  iapply (wp_st hz) $$ H9; iintro H9
  iapply (wp_ld hz) $$ H1; iintro H1
  iapply (wp_ld hz) $$ H5; iintro H5
  iapply (wp_ld hz) $$ H2; iintro H2
  iapply (wp_ld hz) $$ H6; iintro H6
  iapply (wp_ld hz) $$ H4; iintro H4
  iapply (wp_ld hz) $$ H3; iintro H3
  iapply (wp_ld hz) $$ H9; iintro H9
  iapply (wp_ld hz) $$ H9; iintro H9
  iapply (wp_st hz) $$ H9; iintro H9
  iapply (wp_ld hz) $$ H10; iintro H10
  iapply (wp_ld hz) $$ H10; iintro H10
  iapply (wp_st hz) $$ H10; iintro H10
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 4000000 in
/-- A point between the first and the last. -/
theorem run_mid (c : Dev nD) (i : grid2.Coords) (a1 : Memref sig .tc .vmem S512x512 .f32) (ha1 : a1.IsWhole) (a2 : Memref sig .tc .vmem S512x512 .f32) (ha2 : a2.IsWhole) (a3 : Memref sig .tc .vmem S512x512 .f32) (ha3 : a3.IsWhole) (a4 : Memref sig .tc .vmem S512x512 .f32) (ha4 : a4.IsWhole) (a5 : Memref sig .tc .vmem S512x1 .f32) (ha5 : a5.IsWhole) (a6 : Memref sig .tc .vmem S512x1 .f32) (ha6 : a6.IsWhole) (a7 : Memref sig .tc .vmem S1x1 .f32) (ha7 : a7.IsWhole) (a8 : Memref sig .tc .vmem S1x1 .f32) (ha8 : a8.IsWhole) (a9 : Memref sig .tc .vmem S1x1 .f32) (ha9 : a9.IsWhole)
    (L0 L1 A M : Vec F S512x512 .f32) (l0 l1 : Vec F S512x1 .f32) (ct o7 : Vec F S1x1 .f32) (s : Acc F)
    (hf : ¬isFirst i = 1#1) (hl : ¬k2_cond2 i = 1#1) (Q : PUnit → sProp 𝕄) :
    (iprop((owns (c.tc : Thread nD τ) a1 fullShare L0 ∗ owns (c.tc : Thread nD τ) a2 fullShare L1 ∗ owns (c.tc : Thread nD τ) a3 fullShare A ∗ owns (c.tc : Thread nD τ) a4 fullShare M ∗ owns (c.tc : Thread nD τ) a5 fullShare l0 ∗ owns (c.tc : Thread nD τ) a6 fullShare l1 ∗ owns (c.tc : Thread nD τ) a7 fullShare ct ∗ owns (c.tc : Thread nD τ) a8 fullShare o7 ∗ owns (c.tc : Thread nD τ) a9 fullShare s.kl ∗ owns (c.tc : Thread nD τ) (Memref.whole cc2_scratch0) fullShare s.ce)
        ∗ ((owns (c.tc : Thread nD τ) a1 fullShare L0 ∗ owns (c.tc : Thread nD τ) a2 fullShare L1 ∗ owns (c.tc : Thread nD τ) a3 fullShare A ∗ owns (c.tc : Thread nD τ) a4 fullShare M ∗ owns (c.tc : Thread nD τ) a5 fullShare l0 ∗ owns (c.tc : Thread nD τ) a6 fullShare l1 ∗ owns (c.tc : Thread nD τ) a7 fullShare ct ∗ owns (c.tc : Thread nD τ) a8 fullShare o7 ∗ owns (c.tc : Thread nD τ) a9 fullShare (add L0 L1 A M l0 l1 s).kl ∗ owns (c.tc : Thread nD τ) (Memref.whole cc2_scratch0) fullShare (add L0 L1 A M l0 l1 s).ce) -∗ Q ⟨⟩)) : sProp 𝕄)
      ⊢ wp frame (wpE (defs₀ (F := F)) 𝒱₀ (c.tc : Thread nD τ) none) Set.univ (cc2__tc1_body i a1 ha1 a2 ha2 a3 ha3 a4 ha4 a5 ha5 a6 ha6 a7 ha7 a8 ha8 a9 ha9 (Memref.whole cc2_scratch0) (Memref.isWhole_whole _)) Q := by
  rw [cc2__tc1_body_eq_skeleton]
  unfold cc2__tc1_body_skel
  unfold isFirst at hf
  simp only [k2_part1_eq_skeleton, k2_part1_skel, dif_neg hf, dif_neg hl,
    Prog.lift, Prog.bind_op, Prog.bind_ret, Prog.bind_assoc, Prog.pure_eq_ret]
  iintro ⟨⟨H1, H2, H3, H4, H5, H6, H7, H8, H9, H10⟩, Hk⟩
  iapply (wp_ld hz) $$ H1; iintro H1
  iapply (wp_ld hz) $$ H5; iintro H5
  iapply (wp_ld hz) $$ H2; iintro H2
  iapply (wp_ld hz) $$ H6; iintro H6
  iapply (wp_ld hz) $$ H4; iintro H4
  iapply (wp_ld hz) $$ H3; iintro H3
  iapply (wp_ld hz) $$ H9; iintro H9
  iapply (wp_ld hz) $$ H9; iintro H9
  iapply (wp_st hz) $$ H9; iintro H9
  iapply (wp_ld hz) $$ H10; iintro H10
  iapply (wp_ld hz) $$ H10; iintro H10
  iapply (wp_st hz) $$ H10; iintro H10
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 4000000 in
/-- The last point. -/
theorem run_last (c : Dev nD) (i : grid2.Coords) (a1 : Memref sig .tc .vmem S512x512 .f32) (ha1 : a1.IsWhole) (a2 : Memref sig .tc .vmem S512x512 .f32) (ha2 : a2.IsWhole) (a3 : Memref sig .tc .vmem S512x512 .f32) (ha3 : a3.IsWhole) (a4 : Memref sig .tc .vmem S512x512 .f32) (ha4 : a4.IsWhole) (a5 : Memref sig .tc .vmem S512x1 .f32) (ha5 : a5.IsWhole) (a6 : Memref sig .tc .vmem S512x1 .f32) (ha6 : a6.IsWhole) (a7 : Memref sig .tc .vmem S1x1 .f32) (ha7 : a7.IsWhole) (a8 : Memref sig .tc .vmem S1x1 .f32) (ha8 : a8.IsWhole) (a9 : Memref sig .tc .vmem S1x1 .f32) (ha9 : a9.IsWhole)
    (L0 L1 A M : Vec F S512x512 .f32) (l0 l1 : Vec F S512x1 .f32) (ct o7 : Vec F S1x1 .f32) (s : Acc F)
    (hf : ¬isFirst i = 1#1) (hl : k2_cond2 i = 1#1) (Q : PUnit → sProp 𝕄) :
    (iprop((owns (c.tc : Thread nD τ) a1 fullShare L0 ∗ owns (c.tc : Thread nD τ) a2 fullShare L1 ∗ owns (c.tc : Thread nD τ) a3 fullShare A ∗ owns (c.tc : Thread nD τ) a4 fullShare M ∗ owns (c.tc : Thread nD τ) a5 fullShare l0 ∗ owns (c.tc : Thread nD τ) a6 fullShare l1 ∗ owns (c.tc : Thread nD τ) a7 fullShare ct ∗ owns (c.tc : Thread nD τ) a8 fullShare o7 ∗ owns (c.tc : Thread nD τ) a9 fullShare s.kl ∗ owns (c.tc : Thread nD τ) (Memref.whole cc2_scratch0) fullShare s.ce)
        ∗ ((owns (c.tc : Thread nD τ) a1 fullShare L0 ∗ owns (c.tc : Thread nD τ) a2 fullShare L1 ∗ owns (c.tc : Thread nD τ) a3 fullShare A ∗ owns (c.tc : Thread nD τ) a4 fullShare M ∗ owns (c.tc : Thread nD τ) a5 fullShare l0 ∗ owns (c.tc : Thread nD τ) a6 fullShare l1 ∗ owns (c.tc : Thread nD τ) a7 fullShare ct ∗ owns (c.tc : Thread nD τ) a8 fullShare (outCe ct (add L0 L1 A M l0 l1 s)) ∗ owns (c.tc : Thread nD τ) a9 fullShare (outKl (add L0 L1 A M l0 l1 s)) ∗ owns (c.tc : Thread nD τ) (Memref.whole cc2_scratch0) fullShare (add L0 L1 A M l0 l1 s).ce) -∗ Q ⟨⟩)) : sProp 𝕄)
      ⊢ wp frame (wpE (defs₀ (F := F)) 𝒱₀ (c.tc : Thread nD τ) none) Set.univ (cc2__tc1_body i a1 ha1 a2 ha2 a3 ha3 a4 ha4 a5 ha5 a6 ha6 a7 ha7 a8 ha8 a9 ha9 (Memref.whole cc2_scratch0) (Memref.isWhole_whole _)) Q := by
  rw [cc2__tc1_body_eq_skeleton]
  unfold cc2__tc1_body_skel
  unfold isFirst at hf
  simp only [k2_part1_eq_skeleton, k2_part1_skel, dif_neg hf, dif_pos hl,
    Prog.lift, Prog.bind_op, Prog.bind_ret, Prog.bind_assoc, Prog.pure_eq_ret]
  iintro ⟨⟨H1, H2, H3, H4, H5, H6, H7, H8, H9, H10⟩, Hk⟩
  iapply (wp_ld hz) $$ H1; iintro H1
  iapply (wp_ld hz) $$ H5; iintro H5
  iapply (wp_ld hz) $$ H2; iintro H2
  iapply (wp_ld hz) $$ H6; iintro H6
  iapply (wp_ld hz) $$ H4; iintro H4
  iapply (wp_ld hz) $$ H3; iintro H3
  iapply (wp_ld hz) $$ H9; iintro H9
  iapply (wp_ld hz) $$ H9; iintro H9
  iapply (wp_st hz) $$ H9; iintro H9
  iapply (wp_ld hz) $$ H10; iintro H10
  iapply (wp_ld hz) $$ H10; iintro H10
  iapply (wp_st hz) $$ H10; iintro H10
  iapply (wp_ld hz) $$ H7; iintro H7
  iapply (wp_ld hz) $$ H10; iintro H10
  iapply (wp_ld hz) $$ H8; iintro H8
  iapply (wp_st hz) $$ H8; iintro H8
  iapply (wp_ld hz) $$ H9; iintro H9
  iapply (wp_ld hz) $$ H9; iintro H9
  iapply (wp_st hz) $$ H9; iintro H9
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Proof.Losses
-- ==== Proof.LossesData.lean ====
/-
  The second TensorCore call over its whole grid: the two running words after every point as a recursion on the point,
  and the proof that each point carries them on.
-/
module

public import proofs.«01_k».proof.Proof.Losses
public import proofs.«01_k».proof.Proof.Gen.KernelIdeal.Launch
public import Idealize.ShloMosaic.Lib.Pipeline.FrameBody
public import Idealize.ShloMosaic.Lib.Pipeline.Regions

@[expose] public section

set_option maxRecDepth 16384

noncomputable section

namespace Cert.Proof.LossesData

open Cert.KernelIdeal Cert.KernelIdeal.Gen Cert.Proof.Setup Cert.Proof.Whole Cert.Proof.Losses
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation)

variable {F : FTy → Type} [FloatOps F] [Named F]

local notation "𝕄" => MM F

variable (V : (c : Dev nD) → (b : Ref sig .tc) → Buf (Elt F) ((c.tc : Thread nD τ).loc b))

/-- A window's block at a point, read out of the contents the call is entered with. -/
abbrev blk (c : Dev nD) (w : Fin 9) (t : Fin cfg2.N) : ((cfg2.win w).xblock (cfg2.grid.coords t)).Idx → Elt F (cfg2.win w).elt :=
  ((cfg2.win w).blk t).view.read (Elt F) (V c (Pipeline.arrRef spec2 w))

theorem N16 : cfg2.N = 16 := N_2

/-- The point of a number. -/
def pt (n : ℕ) : Fin cfg2.N := ⟨n % 16, by rw [N16]; omega⟩

theorem pt_val (t : Fin cfg2.N) : pt t.val = t := Fin.ext (by have := lt_of_lt_of_eq t.isLt N16; show t.val % 16 = t.val; omega)

/-- What point `t` makes of the running words. -/
def stepAt (c : Dev nD) (t : Fin cfg2.N) (s : Acc F) : Acc F :=
  add (blk V c 0 t) (blk V c 1 t) (blk V c 2 t) (blk V c 3 t) (blk V c 4 t) (blk V c 5 t) s

/-- The running words after point `n`. -/
def state (c : Dev nD) : ℕ → Acc F
  | 0 => stepAt V c (pt 0) zero
  | n + 1 => stepAt V c (pt (n + 1)) (state c n)

/-- The scratch buffers and staging buffers of the other call, which stay untouched. -/
def others (c : Dev nD) : sProp 𝕄 :=
  iprop((∃ f : Buf (Elt F) ((c.tc : Thread nD τ).loc cc1_stg0_0), ((c.tc : Thread nD τ).loc cc1_stg0_0) ↦{fullShare} f) ∗ (∃ f : Buf (Elt F) ((c.tc : Thread nD τ).loc cc1_stg1_0), ((c.tc : Thread nD τ).loc cc1_stg1_0) ↦{fullShare} f) ∗ (∃ f : Buf (Elt F) ((c.tc : Thread nD τ).loc cc1_stg2_0), ((c.tc : Thread nD τ).loc cc1_stg2_0) ↦{fullShare} f) ∗ (∃ f : Buf (Elt F) ((c.tc : Thread nD τ).loc cc1_stg2_1), ((c.tc : Thread nD τ).loc cc1_stg2_1) ↦{fullShare} f) ∗ (∃ f : Buf (Elt F) ((c.tc : Thread nD τ).loc cc1_stg3_0), ((c.tc : Thread nD τ).loc cc1_stg3_0) ↦{fullShare} f) ∗ (∃ f : Buf (Elt F) ((c.tc : Thread nD τ).loc cc1_stg3_1), ((c.tc : Thread nD τ).loc cc1_stg3_1) ↦{fullShare} f) ∗ (∃ f : Buf (Elt F) ((c.tc : Thread nD τ).loc cc1_stg4_0), ((c.tc : Thread nD τ).loc cc1_stg4_0) ↦{fullShare} f) ∗ (∃ f : Buf (Elt F) ((c.tc : Thread nD τ).loc cc1_stg4_1), ((c.tc : Thread nD τ).loc cc1_stg4_1) ↦{fullShare} f) ∗ (∃ f : Buf (Elt F) ((c.tc : Thread nD τ).loc cc1_stg5_0), ((c.tc : Thread nD τ).loc cc1_stg5_0) ↦{fullShare} f) ∗ (∃ f : Buf (Elt F) ((c.tc : Thread nD τ).loc cc1_stg6_0), ((c.tc : Thread nD τ).loc cc1_stg6_0) ↦{fullShare} f) ∗ (∃ f : Buf (Elt F) ((c.tc : Thread nD τ).loc cc1_stg7_0), ((c.tc : Thread nD τ).loc cc1_stg7_0) ↦{fullShare} f) ∗ (∃ f : Buf (Elt F) ((c.tc : Thread nD τ).loc cc1_stg8_0), ((c.tc : Thread nD τ).loc cc1_stg8_0) ↦{fullShare} f) ∗ (∃ f : Buf (Elt F) ((c.tc : Thread nD τ).loc cc1_scratch0), ((c.tc : Thread nD τ).loc cc1_scratch0) ↦{fullShare} f) ∗ (∃ f : Buf (Elt F) ((c.tc : Thread nD τ).loc cc1_scratch1), ((c.tc : Thread nD τ).loc cc1_scratch1) ↦{fullShare} f) ∗ (∃ f : Buf (Elt F) ((c.tc : Thread nD τ).loc cc1_scratch2), ((c.tc : Thread nD τ).loc cc1_scratch2) ↦{fullShare} f) ∗ (∃ f : Buf (Elt F) ((c.tc : Thread nD τ).loc cc1_scratch3), ((c.tc : Thread nD τ).loc cc1_scratch3) ↦{fullShare} f) ∗ (∃ f : Buf (Elt F) ((c.tc : Thread nD τ).loc cc1_scratch4), ((c.tc : Thread nD τ).loc cc1_scratch4) ↦{fullShare} f) ∗ (∃ f : Buf (Elt F) ((c.tc : Thread nD τ).loc cc1_scratch5), ((c.tc : Thread nD τ).loc cc1_scratch5) ↦{fullShare} f) ∗ (∃ f : Buf (Elt F) ((c.tc : Thread nD τ).loc cc1_scratch6), ((c.tc : Thread nD τ).loc cc1_scratch6) ↦{fullShare} f) ∗ (∃ f : Buf (Elt F) ((c.tc : Thread nD τ).loc cc1_scratch7), ((c.tc : Thread nD τ).loc cc1_scratch7) ↦{fullShare} f) ∗ (∃ f : Buf (Elt F) ((c.tc : Thread nD τ).loc cc1_scratch8), ((c.tc : Thread nD τ).loc cc1_scratch8) ↦{fullShare} f))

/-- Before point `t` the scratch word holds what point `t - 1` left. -/
def Φc (c : Dev nD) (t : ℕ) : sProp 𝕄 :=
  iprop((∃ x, ⌜t ≠ 0 → x = (state V c (t - 1)).ce⌝ ∗ owns (c.tc : Thread nD τ) (Memref.whole cc2_scratch0) fullShare x) ∗ others (F := F) c)

/-- The call's data: its arrays at the entry contents; every input window keeps its block; the last window holds the
    running word it accumulates, at the last point its final value. -/
def dat (c : Dev nD) : Dat τ (Elt F) (HIx 1) ℕ UU ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outCe (blk V c 6 t) (state V c t.val)
    | ⟨8, _⟩ => if t.val = 15 then outKl (state V c t.val) else (state V c t.val).kl
  Φ t := Φc V c t.val
  q _ := fullShare
  owed _ := 0
  recorded _ := {p | (K F).lev (c.tc, p.1) p.2 ≤ 8}

theorem before_0 (c : Dev nD) (t : Fin cfg2.N) (d) : (dat V c).before 0 t d = blk V c 0 t :=
  (dat V c).before_in_eq_fetched 0 rfl (fun _ => rfl) (fun _ _ _ => rfl) (fun _ => rfl) t d

theorem before_1 (c : Dev nD) (t : Fin cfg2.N) (d) : (dat V c).before 1 t d = blk V c 1 t :=
  (dat V c).before_in_eq_fetched 1 rfl (fun _ => rfl) (fun _ _ _ => rfl) (fun _ => rfl) t d

theorem before_2 (c : Dev nD) (t : Fin cfg2.N) (d) : (dat V c).before 2 t d = blk V c 2 t :=
  (dat V c).before_in_eq_fetched 2 rfl (fun _ => rfl) (fun _ _ _ => rfl) (fun _ => rfl) t d

theorem before_3 (c : Dev nD) (t : Fin cfg2.N) (d) : (dat V c).before 3 t d = blk V c 3 t :=
  (dat V c).before_in_eq_fetched 3 rfl (fun _ => rfl) (fun _ _ _ => rfl) (fun _ => rfl) t d

theorem before_4 (c : Dev nD) (t : Fin cfg2.N) (d) : (dat V c).before 4 t d = blk V c 4 t :=
  (dat V c).before_in_eq_fetched 4 rfl (fun _ => rfl) (fun _ _ _ => rfl) (fun _ => rfl) t d

theorem before_5 (c : Dev nD) (t : Fin cfg2.N) (d) : (dat V c).before 5 t d = blk V c 5 t :=
  (dat V c).before_in_eq_fetched 5 rfl (fun _ => rfl) (fun _ _ _ => rfl) (fun _ => rfl) t d

theorem before_6 (c : Dev nD) (t : Fin cfg2.N) (d) : (dat V c).before 6 t d = blk V c 6 t :=
  (dat V c).before_in_eq_fetched 6 rfl (fun _ => rfl) (fun _ _ _ => rfl) (fun _ => rfl) t d

theorem first_iff : ∀ t : Fin cfg2.N, Losses.isFirst (grid2.coords t) = 1#1 ↔ t.val = 0 := by decide +kernel
theorem last_iff : ∀ t : Fin cfg2.N, k2_cond2 (grid2.coords t) = 1#1 ↔ t.val = 15 := by decide +kernel

/-- After the first point the last window holds the running word. -/
theorem before_8 (c : Dev nD) (t : Fin cfg2.N) (h : t.val ≠ 0) (d) : (dat V c).before 8 t d = (state V c (t.val - 1)).kl := by
  have ht := lt_of_lt_of_eq t.isLt N16
  have e := (dat V c).before_out_kept 8 rfl t h
    (by rw [Bool.eq_false_iff]; intro he; have := (flush2_8 _).mp he; simp only at this; omega)
    (fun _ => rfl) (fun _ _ => rfl) d
  rw [e]
  exact if_neg (show ¬ (t.val - 1 = 15) by omega)

/-- Before the last point the window of the first loss is untouched. -/
theorem idle_of (t : Fin cfg2.N) (h : t.val ≠ 15) : idle2 7 (grid2.coords t) = true := by
  have e : (k2_cond2 (grid2.coords t) == 1#1) = false := by
    rw [beq_eq_false_iff_ne]; exact fun he => h ((last_iff t).mp he)
  show (!(k2_cond2 (grid2.coords t) == 1#1)) = true
  rw [e]; rfl

theorem live_of (t : Fin cfg2.N) (h : t.val = 15) : idle2 7 (grid2.coords t) = false := by
  have e : (k2_cond2 (grid2.coords t) == 1#1) = true := by
    rw [beq_iff_eq]; exact (last_iff t).mpr h
  show (!(k2_cond2 (grid2.coords t) == 1#1)) = false
  rw [e]; rfl

theorem noflush_of (t : Fin cfg2.N) (h : t.val ≠ 15) : (win2 7).flush t = false := by
  have ht := lt_of_lt_of_eq t.isLt N16
  rw [Bool.eq_false_iff]
  intro he
  have := (flush2_7 t).mp he; omega

theorem state_zero (c : Dev nD) (t : Fin cfg2.N) (h : t.val = 0) : state V c t.val = stepAt V c t zero := by
  have e : pt 0 = t := by rw [← h]; exact pt_val t
  rw [h, ← e]; rfl

theorem state_pos (c : Dev nD) (t : Fin cfg2.N) (h : t.val ≠ 0) : state V c t.val = stepAt V c t (state V c (t.val - 1)) := by
  obtain ⟨n, hn⟩ : ∃ n, t.val = n + 1 := ⟨t.val - 1, by omega⟩
  have e : pt (n + 1) = t := by rw [← hn]; exact pt_val t
  rw [hn, ← e]; rfl

set_option maxHeartbeats 4000000 in
/-- The first point. -/
theorem body_first (c : Dev nD) (t : Fin cfg2.N) (h : t.val = 0) (h15 : t.val ≠ 15) :
    (iprop((dat V c).Φ t.castSucc ∗ (dat V c).owesAt none t.castSucc
        ∗ bigSep Finset.univ fun w : Fin 9 => iprop(∃ d, owns (c.tc : Thread nD τ) ((cfg2.win w).stage (cfg2.slots t w)) fullShare ((dat V c).before w t d))) : sProp 𝕄)
      ⊢ wp frame (wpE (defs₀ (F := F)) 𝒱₀ (c.tc : Thread nD τ) none) Set.univ (bodyAt2 t) fun _ =>
          iprop((dat V c).Φ t.succ ∗ (dat V c).owesAt none t.succ
            ∗ bigSep Finset.univ fun w : Fin 9 =>
                match cfg2.idle w (cfg2.grid.coords t) with
                | true => match (cfg2.win w).flush t with
                  | false => iprop(∃ d, owns (c.tc : Thread nD τ) ((cfg2.win w).stage (cfg2.slots t w)) fullShare ((dat V c).before w t d))
                  | true => owns (c.tc : Thread nD τ) ((cfg2.win w).stage (cfg2.slots t w)) fullShare ((dat V c).after w t)
                | false => owns (c.tc : Thread nD τ) ((cfg2.win w).stage (cfg2.slots t w)) fullShare ((dat V c).after w t)) := by
  rw [bigSep_W2, bigSep_W2]
  simp only [show ∀ i, cfg2.idle 0 i = false from fun _ => rfl, show ∀ i, cfg2.idle 1 i = false from fun _ => rfl, show ∀ i, cfg2.idle 2 i = false from fun _ => rfl, show ∀ i, cfg2.idle 3 i = false from fun _ => rfl, show ∀ i, cfg2.idle 4 i = false from fun _ => rfl, show ∀ i, cfg2.idle 5 i = false from fun _ => rfl, show ∀ i, cfg2.idle 6 i = false from fun _ => rfl, show ∀ i, cfg2.idle 8 i = false from fun _ => rfl,
    idle_of t h15, noflush_of t h15, before_0, before_1, before_2, before_3, before_4, before_5, before_6]
  rw [show (dat V c).Φ t.castSucc = Φc V c t.val from rfl, show (dat V c).Φ t.succ = Φc V c (t.val + 1) from rfl,
    show (dat V c).owesAt none t.succ = (dat V c).owesAt none t.castSucc from rfl,
    show (dat V c).after 8 t = (state V c t.val).kl from if_neg h15]
  unfold Φc
  iintro ⟨⟨⟨%x, %hx, Hs⟩, Hrest⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (Losses.run_first c (grid2.coords t) _ _ _ _ _ _ _ _ _ _ _ _ _ _ _ _ _ _ (blk V c 0 t) (blk V c 1 t) (blk V c 2 t) (blk V c 3 t) (blk V c 4 t) (blk V c 5 t) (blk V c 6 t) _ ⟨x, (dat V c).before 8 t d8⟩ ((first_iff t).mpr h) (fun he => h15 ((last_iff t).mp he)))
  isplitl [H0 H1 H2 H3 H4 H5 H6 H7 H8 Hs]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hs
  iintro ⟨H0, H1, H2, H3, H4, H5, H6, H7, H8, Hs⟩
  rw [show add (blk V c 0 t) (blk V c 1 t) (blk V c 2 t) (blk V c 3 t) (blk V c 4 t) (blk V c 5 t) zero = state V c t.val from (state_zero V c t h).symm]
  isplitl [Hs Hrest]
  · isplitl [Hs]
    · iexists (state V c t.val).ce
      isplitr
      · ipureintro; intro _; rfl
      · iexact Hs
    · iexact Hrest
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  iexact H8

set_option maxHeartbeats 4000000 in
/-- A point between. -/
theorem body_mid (c : Dev nD) (t : Fin cfg2.N) (h : t.val ≠ 0) (h15 : t.val ≠ 15) :
    (iprop((dat V c).Φ t.castSucc ∗ (dat V c).owesAt none t.castSucc
        ∗ bigSep Finset.univ fun w : Fin 9 => iprop(∃ d, owns (c.tc : Thread nD τ) ((cfg2.win w).stage (cfg2.slots t w)) fullShare ((dat V c).before w t d))) : sProp 𝕄)
      ⊢ wp frame (wpE (defs₀ (F := F)) 𝒱₀ (c.tc : Thread nD τ) none) Set.univ (bodyAt2 t) fun _ =>
          iprop((dat V c).Φ t.succ ∗ (dat V c).owesAt none t.succ
            ∗ bigSep Finset.univ fun w : Fin 9 =>
                match cfg2.idle w (cfg2.grid.coords t) with
                | true => match (cfg2.win w).flush t with
                  | false => iprop(∃ d, owns (c.tc : Thread nD τ) ((cfg2.win w).stage (cfg2.slots t w)) fullShare ((dat V c).before w t d))
                  | true => owns (c.tc : Thread nD τ) ((cfg2.win w).stage (cfg2.slots t w)) fullShare ((dat V c).after w t)
                | false => owns (c.tc : Thread nD τ) ((cfg2.win w).stage (cfg2.slots t w)) fullShare ((dat V c).after w t)) := by
  rw [bigSep_W2, bigSep_W2]
  simp only [show ∀ i, cfg2.idle 0 i = false from fun _ => rfl, show ∀ i, cfg2.idle 1 i = false from fun _ => rfl, show ∀ i, cfg2.idle 2 i = false from fun _ => rfl, show ∀ i, cfg2.idle 3 i = false from fun _ => rfl, show ∀ i, cfg2.idle 4 i = false from fun _ => rfl, show ∀ i, cfg2.idle 5 i = false from fun _ => rfl, show ∀ i, cfg2.idle 6 i = false from fun _ => rfl, show ∀ i, cfg2.idle 8 i = false from fun _ => rfl,
    idle_of t h15, noflush_of t h15, before_0, before_1, before_2, before_3, before_4, before_5, before_6]
  simp only [before_8 V c t h]
  rw [show (dat V c).Φ t.castSucc = Φc V c t.val from rfl, show (dat V c).Φ t.succ = Φc V c (t.val + 1) from rfl,
    show (dat V c).owesAt none t.succ = (dat V c).owesAt none t.castSucc from rfl,
    show (dat V c).after 8 t = (state V c t.val).kl from if_neg h15]
  unfold Φc
  iintro ⟨⟨⟨%x, %hx, Hs⟩, Hrest⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := hx (by omega)
  iapply (Losses.run_mid c (grid2.coords t) _ _ _ _ _ _ _ _ _ _ _ _ _ _ _ _ _ _ (blk V c 0 t) (blk V c 1 t) (blk V c 2 t) (blk V c 3 t) (blk V c 4 t) (blk V c 5 t) (blk V c 6 t) _ (state V c (t.val - 1)) (fun he => h ((first_iff t).mp he)) (fun he => h15 ((last_iff t).mp he)))
  isplitl [H0 H1 H2 H3 H4 H5 H6 H7 H8 Hs]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hs
  iintro ⟨H0, H1, H2, H3, H4, H5, H6, H7, H8, Hs⟩
  rw [show add (blk V c 0 t) (blk V c 1 t) (blk V c 2 t) (blk V c 3 t) (blk V c 4 t) (blk V c 5 t) (state V c (t.val - 1)) = state V c t.val from (state_pos V c t (by omega)).symm]
  isplitl [Hs Hrest]
  · isplitl [Hs]
    · iexists (state V c t.val).ce
      isplitr
      · ipureintro; intro _; rfl
      · iexact Hs
    · iexact Hrest
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  iexact H8

set_option maxHeartbeats 4000000 in
/-- The last point. -/
theorem body_last (c : Dev nD) (t : Fin cfg2.N) (h : t.val = 15) :
    (iprop((dat V c).Φ t.castSucc ∗ (dat V c).owesAt none t.castSucc
        ∗ bigSep Finset.univ fun w : Fin 9 => iprop(∃ d, owns (c.tc : Thread nD τ) ((cfg2.win w).stage (cfg2.slots t w)) fullShare ((dat V c).before w t d))) : sProp 𝕄)
      ⊢ wp frame (wpE (defs₀ (F := F)) 𝒱₀ (c.tc : Thread nD τ) none) Set.univ (bodyAt2 t) fun _ =>
          iprop((dat V c).Φ t.succ ∗ (dat V c).owesAt none t.succ
            ∗ bigSep Finset.univ fun w : Fin 9 =>
                match cfg2.idle w (cfg2.grid.coords t) with
                | true => match (cfg2.win w).flush t with
                  | false => iprop(∃ d, owns (c.tc : Thread nD τ) ((cfg2.win w).stage (cfg2.slots t w)) fullShare ((dat V c).before w t d))
                  | true => owns (c.tc : Thread nD τ) ((cfg2.win w).stage (cfg2.slots t w)) fullShare ((dat V c).after w t)
                | false => owns (c.tc : Thread nD τ) ((cfg2.win w).stage (cfg2.slots t w)) fullShare ((dat V c).after w t)) := by
  rw [bigSep_W2, bigSep_W2]
  simp only [show ∀ i, cfg2.idle 0 i = false from fun _ => rfl, show ∀ i, cfg2.idle 1 i = false from fun _ => rfl, show ∀ i, cfg2.idle 2 i = false from fun _ => rfl, show ∀ i, cfg2.idle 3 i = false from fun _ => rfl, show ∀ i, cfg2.idle 4 i = false from fun _ => rfl, show ∀ i, cfg2.idle 5 i = false from fun _ => rfl, show ∀ i, cfg2.idle 6 i = false from fun _ => rfl, show ∀ i, cfg2.idle 8 i = false from fun _ => rfl,
    live_of t h, before_0, before_1, before_2, before_3, before_4, before_5, before_6]
  simp only [before_8 V c t (by omega)]
  rw [show (dat V c).Φ t.castSucc = Φc V c t.val from rfl, show (dat V c).Φ t.succ = Φc V c (t.val + 1) from rfl,
    show (dat V c).owesAt none t.succ = (dat V c).owesAt none t.castSucc from rfl,
    show (dat V c).after 8 t = outKl (state V c t.val) from if_pos h]
  unfold Φc
  iintro ⟨⟨⟨%x, %hx, Hs⟩, Hrest⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := hx (by omega)
  iapply (Losses.run_last c (grid2.coords t) _ _ _ _ _ _ _ _ _ _ _ _ _ _ _ _ _ _ (blk V c 0 t) (blk V c 1 t) (blk V c 2 t) (blk V c 3 t) (blk V c 4 t) (blk V c 5 t) (blk V c 6 t) _ (state V c (t.val - 1)) (fun he => by have := (first_iff t).mp he; omega) ((last_iff t).mpr h))
  isplitl [H0 H1 H2 H3 H4 H5 H6 H7 H8 Hs]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hs
  iintro ⟨H0, H1, H2, H3, H4, H5, H6, H7, H8, Hs⟩
  rw [show add (blk V c 0 t) (blk V c 1 t) (blk V c 2 t) (blk V c 3 t) (blk V c 4 t) (blk V c 5 t) (state V c (t.val - 1)) = state V c t.val from (state_pos V c t (by omega)).symm]
  isplitl [Hs Hrest]
  · isplitl [Hs]
    · iexists (state V c t.val).ce
      isplitr
      · ipureintro; intro _; rfl
      · iexact Hs
    · iexact Hrest
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- Every point carries the running words on. -/
theorem body_obligation (c : Dev nD) : BodyObligation (dat V c) (defs₀ (F := F)) 𝒱₀ none Set.univ := fun t => by
  by_cases h : t.val = 0
  · exact body_first V c t h (by omega)
  · by_cases h15 : t.val = 15
    · exact body_last V c t h15
    · exact body_mid V c t h h15

end Cert.Proof.LossesData
-- ==== Proof.LossesRegion.lean ====
/-
  The second TensorCore call as one segment of the main program: from every buffer of the program at given contents to the
  same with the call's result arrays at what the call leaves.
-/
module

public import proofs.«01_k».proof.Proof.LossesData
public import Idealize.ShloMosaic.Lib.Pipeline.RegionsLoop

@[expose] public section

set_option maxRecDepth 16384

noncomputable section

namespace Cert.Proof.LossesRegion

open Cert.KernelIdeal Cert.KernelIdeal.Gen Cert.Proof.Setup Cert.Proof.Whole Cert.Proof.Losses Cert.Proof.LossesData
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation)

variable {F : FTy → Type} [FloatOps F] [Named F]

local notation "𝕄" => MM F

/-- The contents of the prefetched tables: there is none. -/
abbrev adm : (p : Fin 2) → (pcfgs (F := F) p).Adm := fun p => (cfgs p).toPCfg_adm

/-- Data for the call not at hand. -/
def otherDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

variable (V : (c : Dev nD) → (b : Ref sig .tc) → Buf (Elt F) ((c.tc : Thread nD τ).loc b))

/-- Both calls' data, this call's at its place. -/
def pdats : (p : Fin 2) → (c : Dev nD) → Dat τ (Elt F) (HIx 1) ℕ UU ℕ (Pipeline.pin (pcfgs (F := F)) adm p) c
  | ⟨0, _⟩ => fun c => otherDat c
  | ⟨1, _⟩ => fun c => dat V c

variable (Vp : (c : Dev nD) → (b : Ref sig .tc) → Buf (Elt F) ((c.tc : Thread nD τ).loc b))

/-- What the core owes around the call: nothing, its recorded waits all low. -/
def owesLow (c : Dev nD) : sProp 𝕄 :=
  iprop(∃ W, ⌜(K F).WBelow (c.tc : Thread nD τ) W 8⌝ ∗ owes (c.tc : Thread nD τ) (0 : CellTallies nD τ sig (HIx 1)) W)

theorem owes_in (c : Dev nD) : owesLow (F := F) c ⊢ (dat V c).owesAt none 0 := by
  unfold owesLow Pipeline.Dat.owesAt Pipeline.owesWithin
  iintro ⟨%W, %hW, HO⟩
  iexists W
  isplitr
  · ipureintro; exact fun p hp => Or.inl (hW p hp)
  iexact HO

theorem owes_out (c : Dev nD) : (dat V c).owesAt none (Fin.last cfg2.N) ⊢ owesLow (F := F) c := by
  unfold owesLow Pipeline.Dat.owesAt Pipeline.owesWithin
  iintro ⟨%W, %hW, HO⟩
  iexists W
  isplitr
  · ipureintro
    intro p hp
    rcases hW hp with h | ⟨w, s, rfl⟩
    · exact h
    · exact Nat.zero_le _
  iexact HO

/-- The buffers no window stages, at the call's start. -/
theorem start (c : Dev nD) :
    (Pipeline.scopedRest (Ix := HIx 1) (Name := ℕ) (U := UU) (Lvl := ℕ) (Val := Elt F) spec2 c : sProp 𝕄) ⊢ Φc V c 0 := by
  rw [scopedRest2_eq]
  unfold Φc others
  simp only [owns_whole]
  iintro ⟨H0, H1, H2, H3, H4, H5, H6, H7, H8, H9, H10, H11, H12, H13, H14, H15, H16, H17, H18, H19, H20, ⟨%x, H21⟩⟩
  isplitl [H21]
  · iexists x
    isplitr
    · ipureintro; intro h; exact absurd rfl h
    iexact H21
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The same buffers at the call's end. -/
theorem finish (c : Dev nD) (n : ℕ) :
    Φc V c n ⊢ (Pipeline.scopedRest (Ix := HIx 1) (Name := ℕ) (U := UU) (Lvl := ℕ) (Val := Elt F) spec2 c : sProp 𝕄) := by
  rw [scopedRest2_eq]
  unfold Φc others
  simp only [owns_whole]
  iintro ⟨⟨%x, -, H21⟩, H0, H1, H2, H3, H4, H5, H6, H7, H8, H9, H10, H11, H12, H13, H14, H15, H16, H17, H18, H19, H20⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexists x; iexact H21

set_option backward.isDefEq.respectTransparency.types false in
/-- The call as a segment: `Vp` is `V` with the result arrays at what the call leaves. -/
def reg (hout : ∀ c, Vp c main_v11_0 = (dat V c).arrAt 7 cfg2.N ∧ Vp c main_v11_1 = (dat V c).arrAt 8 cfg2.N)
    (hne : ∀ c (b : Ref sig .tc), b ≠ main_v11_0 → b ≠ main_v11_1 → Vp c b = V c b) :
    Pipeline.RegionSeg (pcfgs (F := F)) adm (pdats V) none defs₀ 𝒱₀ (K F).L (K F).lev 1 where
  win := (launch2).win.to₀
  block_pos := (launch2).block_pos
  stage_whole := (launch2).stage_whole
  K := PEmpty
  osem k := k.elim
  ho := Pipeline.OwnSemFacts.none _
  hbody c := (body_obligation V c).loose
  hwaits := Pipeline.hwaits_of_owed_zero _ _ _ _ (K F).L (K F).lev 1 fun _ _ => rfl
  pre c := iprop(unscopedBufs c (V c) ∗ owesLow (F := F) c)
  post c := iprop(unscopedBufs c (Vp c) ∗ owesLow (F := F) c)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V) (launch2).win (launch2).arr_whole c
      ((pdats V 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in V c); iexact HO
    isplitr; · iempintro
    iexact Hrest
  hin c := by
    rw [show (pdats V 1 c).Φ 0 = Φc V c 0 from rfl]
    iintro ⟨-, -, Hr⟩; iapply (start V c); iexact Hr
  hout c := by
    rw [Pipeline.ownSems0_none, show (pdats V 1 c).Φ (Fin.last _) = Φc V c cfg2.N from rfl]
    iintro Hr
    isplitr; · iempintro
    isplitr; · iempintro
    iapply (finish V c cfg2.N); iexact Hr
  hexit c := by
    have hjoin := Pipeline.unscopedBufs_of_arrays (p := 1) (pcfgs (F := F)) adm (Ix := HIx 1) (Name := ℕ) (U := UU) (Lvl := ℕ) (launch2).win (launch2).arr_whole c
      (pdats V) ((pdats V 1 c).share_full fun _ => rfl) (V c) (Vp c) ((pdats V 1 c).arrAt · cfg2.N)
      (fun w => by
        fin_cases w
        · exact ((pdats V 1 c).arrAt_in 0 rfl _).trans (hne c main_arg1 (by decide) (by decide)).symm
        · exact ((pdats V 1 c).arrAt_in 1 rfl _).trans (hne c main_arg2 (by decide) (by decide)).symm
        · exact ((pdats V 1 c).arrAt_in 2 rfl _).trans (hne c main_v8 (by decide) (by decide)).symm
        · exact ((pdats V 1 c).arrAt_in 3 rfl _).trans (hne c main_v9 (by decide) (by decide)).symm
        · exact ((pdats V 1 c).arrAt_in 4 rfl _).trans (hne c main_v10_1 (by decide) (by decide)).symm
        · exact ((pdats V 1 c).arrAt_in 5 rfl _).trans (hne c main_v10_2 (by decide) (by decide)).symm
        · exact ((pdats V 1 c).arrAt_in 6 rfl _).trans (hne c main_v10_3 (by decide) (by decide)).symm
        · exact (hout c).1.symm
        · exact (hout c).2.symm)
      (fun b hb => hne c b (fun h => hb (h ▸ Finset.mem_image.mpr ⟨7, Finset.mem_univ _, rfl⟩)) (fun h => hb (h ▸ Finset.mem_image.mpr ⟨8, Finset.mem_univ _, rfl⟩)))
    iintro ⟨Ha, HO, -, Hrest⟩
    imodintro
    isplitl [Ha Hrest]
    · iapply hjoin; isplitl [Ha] <;> iassumption
    iapply (owes_out V c); iexact HO

end Cert.Proof.LossesRegion
-- ==== Proof.Values.lean ====
/-
  The contents of every array of the program between the steps of its main part: before and after the rearrangements of
  the operands, after the SparseCore call, before and after each TensorCore call, and at the end.
-/
module

public import proofs.«01_k».proof.Proof.Split
public import proofs.«01_k».proof.Proof.StatsRegion
public import proofs.«01_k».proof.Proof.LossesRegion
public import Idealize.ShloMosaic.Lib.StableHlo.RunRead

@[expose] public section

set_option maxRecDepth 16384

noncomputable section

namespace Cert.Proof.Values

open Cert.KernelIdeal Cert.KernelIdeal.Gen Cert.Proof.Setup Cert.Proof.Tile
open Idealize.ShloMosaic
open Idealize.ShloMosaic.StableHlo (after seq)

variable {F : FTy → Type} [FloatOps F] [Named F]

/-- The rearrangements of the operands before the SparseCore call. -/
def ops1 : List (HloOp τ sig (Elt F)) :=
  [StableHlo.reshape main_arg3 main_v0 (rfl : (.i32 : EltTy) = .i32) shapeCasts_S512_S512x1,
   StableHlo.unary main_arg5 main_v1 ((transpose S20x512 [1, 0] · transposes_S512x20_S20x512_1_0) : (⟨S512x20, .i32⟩ : BufTy).Contents (Elt F) → (⟨S20x512, .i32⟩ : BufTy).Contents (Elt F)),
   StableHlo.reshape main_v1 main_v2 (rfl : (.i32 : EltTy) = .i32) shapeCasts_S20x512_S20x32x16,
   StableHlo.unary main_v2 main_v3 ((transpose S32x20x16 [1, 0, 2] · transposes_S20x32x16_S32x20x16_1_0_2) : (⟨S20x32x16, .i32⟩ : BufTy).Contents (Elt F) → (⟨S32x20x16, .i32⟩ : BufTy).Contents (Elt F)),
   StableHlo.unary main_arg6 main_v4 ((transpose S20x512 [1, 0] · transposes_S512x20_S20x512_1_0) : (⟨S512x20, .f32⟩ : BufTy).Contents (Elt F) → (⟨S20x512, .f32⟩ : BufTy).Contents (Elt F)),
   StableHlo.reshape main_v4 main_v5 (rfl : (.f32 : EltTy) = .f32) shapeCasts_S20x512_S20x32x16,
   StableHlo.unary main_v5 main_v6 ((transpose S32x20x16 [1, 0, 2] · transposes_S20x32x16_S32x20x16_1_0_2) : (⟨S20x32x16, .f32⟩ : BufTy).Contents (Elt F) → (⟨S32x20x16, .f32⟩ : BufTy).Contents (Elt F))]

/-- The SparseCore call's results laid out as matrices. -/
def ops2 : List (HloOp τ sig (Elt F)) :=
  [StableHlo.reshape main_v7_0 main_v8 (rfl : (.f32 : EltTy) = .f32) shapeCasts_S262144_S512x512,
   StableHlo.reshape main_v7_1 main_v9 (rfl : (.f32 : EltTy) = .f32) shapeCasts_S262144_S512x512]

/-- The three results read off the TensorCore calls' one-element arrays. -/
def ops3 : List (HloOp τ sig (Elt F)) :=
  [StableHlo.reshape main_v10_0 main_v12 (rfl : (.f32 : EltTy) = .f32) shapeCasts_S1x1_S_,
   StableHlo.reshape main_v11_0 main_v13 (rfl : (.f32 : EltTy) = .f32) shapeCasts_S1x1_S_,
   StableHlo.reshape main_v11_1 main_v14 (rfl : (.f32 : EltTy) = .f32) shapeCasts_S1x1_S_,
   StableHlo.binary main_arg7 main_v14 main_v15 (mulf : (⟨S_, .f32⟩ : BufTy).Contents (Elt F) → (⟨S_, .f32⟩ : BufTy).Contents (Elt F) → (⟨S_, .f32⟩ : BufTy).Contents (Elt F))]

variable (m : (ℓ : Loc nD τ sig) → Buf (Elt F) ℓ)

/-- An array of the device, as the TensorCore names it. -/
abbrev r (b : Ref sig .tc) : DevRef τ sig := Proc.devRef .tc b

/-- At the start. -/
def V0 (d : Dev nD) : Valuation τ sig (Elt F) := fun b => m (d, b)
/-- Before the SparseCore call. -/
def V1 (d : Dev nD) : Valuation τ sig (Elt F) := after ops1 (V0 m d)
/-- The neighbour indices as the SparseCore call takes them. -/
def fN (d : Dev nD) : Vec F S32x20x16 .i32 := V1 m d (r main_v3)
/-- The neighbour distances as the SparseCore call takes them. -/
def fD (d : Dev nD) : Vec F S32x20x16 .f32 := V1 m d (r main_v6)
/-- After the SparseCore call. -/
def V2 (d : Dev nD) : Valuation τ sig (Elt F) :=
  Function.update (Function.update (V1 m d) (r main_v7_0) (arrA (fN m d) (fD m d))) (r main_v7_1) (arrM (fN m d))
/-- Before the first TensorCore call. -/
def V3 (d : Dev nD) : Valuation τ sig (Elt F) := after ops2 (V2 m d)

/-- A valuation as the regions take one: by the TensorCore's own names. -/
abbrev byRef (V : Dev nD → Valuation τ sig (Elt F)) : (c : Dev nD) → (b : Ref sig .tc) → Buf (Elt F) ((c.tc : Thread nD τ).loc b) :=
  fun c b => V c (r b)

/-- After the first TensorCore call. -/
def V4 (d : Dev nD) : Valuation τ sig (Elt F) :=
  Function.update (Function.update (Function.update (Function.update (V3 m d)
    (r main_v10_0) ((StatsData.dat (byRef (V3 m)) d).arrAt 5 cfg1.N))
    (r main_v10_1) ((StatsData.dat (byRef (V3 m)) d).arrAt 6 cfg1.N))
    (r main_v10_2) ((StatsData.dat (byRef (V3 m)) d).arrAt 7 cfg1.N))
    (r main_v10_3) ((StatsData.dat (byRef (V3 m)) d).arrAt 8 cfg1.N)
/-- After the second TensorCore call. -/
def V5 (d : Dev nD) : Valuation τ sig (Elt F) :=
  Function.update (Function.update (V4 m d)
    (r main_v11_0) ((LossesData.dat (byRef (V4 m)) d).arrAt 7 cfg2.N))
    (r main_v11_1) ((LossesData.dat (byRef (V4 m)) d).arrAt 8 cfg2.N)
/-- At the end. -/
def V6 (d : Dev nD) : Valuation τ sig (Elt F) := after ops3 (V5 m d)

/-- Different names are different arrays. -/
theorem r_ne {a b : Ref sig .tc} (h : a ≠ b) : r a ≠ r b := fun e => h (Proc.devRef_injective _ e)

theorem V2_m (d : Dev nD) : V2 m d (r main_v7_1) = arrM (fN m d) := by unfold V2; rw [Function.update_self]
theorem V2_a (d : Dev nD) : V2 m d (r main_v7_0) = arrA (fN m d) (fD m d) := by
  unfold V2; rw [Function.update_of_ne (r_ne (by decide)), Function.update_self]
theorem V2_ne (d : Dev nD) (b : DevRef τ sig) (h0 : b ≠ r main_v7_0) (h1 : b ≠ r main_v7_1) : V2 m d b = V1 m d b := by
  unfold V2; rw [Function.update_of_ne h1, Function.update_of_ne h0]

/-- The first TensorCore call's results. -/
theorem V4_out (d : Dev nD) : byRef (V4 m) d main_v10_0 = (StatsData.dat (byRef (V3 m)) d).arrAt 5 cfg1.N
    ∧ byRef (V4 m) d main_v10_1 = (StatsData.dat (byRef (V3 m)) d).arrAt 6 cfg1.N
    ∧ byRef (V4 m) d main_v10_2 = (StatsData.dat (byRef (V3 m)) d).arrAt 7 cfg1.N
    ∧ byRef (V4 m) d main_v10_3 = (StatsData.dat (byRef (V3 m)) d).arrAt 8 cfg1.N := by
  unfold byRef V4
  refine ⟨?_, ?_, ?_, ?_⟩
  · rw [Function.update_of_ne (r_ne (by decide)), Function.update_of_ne (r_ne (by decide)), Function.update_of_ne (r_ne (by decide)), Function.update_self]
  · rw [Function.update_of_ne (r_ne (by decide)), Function.update_of_ne (r_ne (by decide)), Function.update_self]
  · rw [Function.update_of_ne (r_ne (by decide)), Function.update_self]
  · rw [Function.update_self]

theorem V4_ne (d : Dev nD) (b : Ref sig .tc) (h0 : b ≠ main_v10_0) (h1 : b ≠ main_v10_1) (h2 : b ≠ main_v10_2) (h3 : b ≠ main_v10_3) :
    byRef (V4 m) d b = byRef (V3 m) d b := by
  unfold byRef V4
  rw [Function.update_of_ne (r_ne h3), Function.update_of_ne (r_ne h2), Function.update_of_ne (r_ne h1), Function.update_of_ne (r_ne h0)]

/-- The second TensorCore call's results. -/
theorem V5_out (d : Dev nD) : byRef (V5 m) d main_v11_0 = (LossesData.dat (byRef (V4 m)) d).arrAt 7 cfg2.N
    ∧ byRef (V5 m) d main_v11_1 = (LossesData.dat (byRef (V4 m)) d).arrAt 8 cfg2.N := by
  unfold byRef V5
  refine ⟨?_, ?_⟩
  · rw [Function.update_of_ne (r_ne (by decide)), Function.update_self]
  · rw [Function.update_self]

theorem V5_ne (d : Dev nD) (b : Ref sig .tc) (h0 : b ≠ main_v11_0) (h1 : b ≠ main_v11_1) : byRef (V5 m) d b = byRef (V4 m) d b := by
  unfold byRef V5
  rw [Function.update_of_ne (r_ne h1), Function.update_of_ne (r_ne h0)]

/-- No step writes an array of this list. -/
theorem V6_arg (d : Dev nD) (b : Ref sig .tc) (hb : b ∉ [main_v0, main_v1, main_v2, main_v3, main_v4, main_v5, main_v6, main_v7_0, main_v7_1, main_v8, main_v9,
      main_v10_0, main_v10_1, main_v10_2, main_v10_3, main_v11_0, main_v11_1, main_v12, main_v13, main_v14, main_v15]) :
    V6 m d (r b) = m (d, r b) := by
  simp only [List.mem_cons, not_or, List.not_mem_nil, not_false_eq_true, and_true] at hb
  obtain ⟨h0, h1, h2, h3, h4, h5, h6, h70, h71, h8, h9, ha0, ha1, ha2, ha3, hb0, hb1, h12, h13, h14, h15⟩ := hb
  have e6 : V6 m d (r b) = V5 m d (r b) :=
    StableHlo.after_unwritten [main_v12, main_v13, main_v14, main_v15] rfl
      (by simp only [List.mem_cons, not_or, List.not_mem_nil, not_false_eq_true, and_true]; exact ⟨h12, h13, h14, h15⟩) _
  have e3 : V3 m d (r b) = V2 m d (r b) :=
    StableHlo.after_unwritten [main_v8, main_v9] rfl
      (by simp only [List.mem_cons, not_or, List.not_mem_nil, not_false_eq_true, and_true]; exact ⟨h8, h9⟩) _
  have e1 : V1 m d (r b) = V0 m d (r b) :=
    StableHlo.after_unwritten [main_v0, main_v1, main_v2, main_v3, main_v4, main_v5, main_v6] rfl
      (by simp only [List.mem_cons, not_or, List.not_mem_nil, not_false_eq_true, and_true]; exact ⟨h0, h1, h2, h3, h4, h5, h6⟩) _
  rw [e6, show V5 m d (r b) = V4 m d (r b) from V5_ne m d b hb0 hb1, show V4 m d (r b) = V3 m d (r b) from V4_ne m d b ha0 ha1 ha2 ha3, e3,
    V2_ne m d (r b) (r_ne h70) (r_ne h71), e1]
  rfl

end Cert.Proof.Values

end
-- ==== Proof.Ghost.lean ====
/-
  The bookkeeping the launch starts from: the SparseCore handshakes' rounds and the two TensorCore calls' rounds, and how
  the whole is dealt to the threads.
-/
module

public import proofs.«01_k».proof.Proof.Split
public import proofs.«01_k».proof.Proof.StatsRegion
public import proofs.«01_k».proof.Proof.LossesRegion

@[expose] public section

set_option maxRecDepth 16384

noncomputable section

namespace Cert.Proof.Ghost

open Cert.KernelIdeal Cert.KernelIdeal.Gen Cert.Proof.Setup Cert.Proof.Split
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (pin cells launchToks cellsGhost toksInit fund_ghost cellOf)

variable {F : FTy → Type} [FloatOps F] [Named F]

local notation "𝕄" => MM F

/-- The handshakes' rounds inside the proof's resources. -/
def EH : Emb UH (MT nD τ sig (HIx 1) (Elt F) ℕ UU ℕ) := embL
/-- The TensorCore calls' rounds inside the proof's resources. -/
def EP : Emb UP (MT nD τ sig (HIx 1) (Elt F) ℕ UU ℕ) := (Emb.inl : Emb UP (UP × Counters)).trans embR

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-- The whole resource in its parts. -/
theorem ownU_split (a : UH) (b : UP) (c : Counters) : (ownU (a, (b, c)) : sProp 𝕄) ⊢ iprop(BI.own (EH a) ∗ BI.own (EP b)) := by
  unfold EH EP
  iintro Hu
  ihave H := (ownU_pair _ _) $$ Hu
  icases H with ⟨HH, HR⟩
  ihave H := (own_pair_emb _ _ _) $$ HR
  icases H with ⟨HP, -⟩
  isplitl [HH] <;> iassumption

/-- The two TensorCore calls. -/
abbrev pc : (p : Fin 2) → Pipeline.Cfg sig Λ₀ := pin (pcfgs (F := F)) StatsRegion.adm

/-- The two calls' staging cells are all different. -/
theorem hinj : Function.Injective (cellOf (nD := nD) (τ := τ) (pc (F := F))) := cellOf_inj

/-- The resources the launch starts from. -/
def u₀ : UU := (initOf (K F).hsCells (K F).hsToks, (initOf (cells (pc (F := F)) hinj) (launchToks (pc (F := F)) hinj), 1))

/-- What the launch deals one TensorCore: both calls' cells and tokens. -/
def G (c : Dev nD) : sProp 𝕄 :=
  iprop((bigSep Finset.univ fun p : Fin 2 => cellsGhost (pc (F := F)) EP p c) ∗ bigSep Finset.univ fun p : Fin 2 => toksInit (pc (F := F)) EP p c)

/-- One thing for each of the two calls. -/
theorem bigSep_two (Φ : Fin 2 → sProp 𝕄) : bigSep Finset.univ Φ = iprop(Φ 0 ∗ Φ 1) := by
  rw [show (Finset.univ : Finset (Fin 2)) = {0, 1} from rfl, bigSep_insert (by decide), bigSep_singleton]; rfl

/-- Call by call. -/
theorem G_split (c : Dev nD) : G (F := F) c ⊢ iprop((cellsGhost (pc (F := F)) EP 0 c ∗ toksInit (pc (F := F)) EP 0 c)
    ∗ (cellsGhost (pc (F := F)) EP 1 c ∗ toksInit (pc (F := F)) EP 1 c)) := by
  unfold G
  rw [bigSep_two, bigSep_two]
  iintro ⟨⟨H0, H1⟩, H2, H3⟩
  isplitl [H0 H2]
  · isplitl [H0] <;> iassumption
  · isplitl [H1] <;> iassumption

variable (fN : Dev nD → Vec F S32x20x16 .i32) (fD : Dev nD → Vec F S32x20x16 .f32)

/-- The starting resources, dealt. -/
theorem hu₀ : (ownU (u₀ (F := F)) : sProp 𝕄)
    ⊢ |={Set.univ}=> iprop(BI.own (EH (initOf (K F).hsCells (K F).hsToks)) ∗ (bigSep Finset.univ fun c : Dev nD => G (F := F) c)
        ∗ bigSep Finset.univ fun t : Thread nD τ => bigSep Finset.univ fun q : Fin 1 => (P (F := F) fN fD).x q t) := by
  unfold u₀
  iintro Hu
  ihave H := (ownU_split _ _ _) $$ Hu
  icases H with ⟨HH, HP⟩
  imod (fund_ghost (pc (F := F)) (EP (F := F)) hinj) $$ HP with ⟨Hg, Ht⟩
  imodintro
  isplitl [HH]; · iexact HH
  isplitl [Hg Ht]
  · unfold G
    rw [bigSep_sep']
    isplitl [Hg] <;> iassumption
  · rw [show (bigSep Finset.univ fun t : Thread nD τ => bigSep Finset.univ fun q : Fin 1 => (P (F := F) fN fD).x q t) = bigSep Finset.univ fun _ : Thread nD τ => BI.emp from
      bigSep_congr fun _ _ => bigSep_univ_of_subsingleton (0 : Fin 1), bigSep_emp_const]
    iempintro

end Cert.Proof.Ghost

end
-- ==== Proof.Launch.lean ====
/-
  The whole run: the main part of the program through its three calls, with every array's contents, and the run of all
  threads from the launch.
-/
module

public import proofs.«01_k».proof.Proof.Values
public import proofs.«01_k».proof.Proof.Ghost

@[expose] public section

set_option maxRecDepth 16384

noncomputable section

namespace Cert.Proof.Launch

open Cert.KernelIdeal Cert.KernelIdeal.Gen Cert.Proof.Setup Cert.Proof.Tile Cert.Proof.Split Cert.Proof.Values Cert.Proof.Ghost
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (cellsGhost toksInit)
open Idealize.ShloMosaic.StableHlo (held held_sub_split held_congr after seq)

variable {F : FTy → Type} [FloatOps F] [Named F]

local notation "𝕄" => MM F

/-- The arrays the main part holds throughout. -/
def ucRefs : Finset (DevRef τ sig) := (StableHlo.tcRefs τ sig).filter fun b => ¬ b.isScoped

/-- Every array of the device held whole, as the main part's steps take them and as the calls take them. -/
theorem uc_held (c : Dev nD) (W : Valuation τ sig (Elt F)) :
    (unscopedBufs c (fun b => W (r b)) : sProp 𝕄) = held (c.tc : Thread nD τ) ucRefs W := by
  unfold unscopedBufs StableHlo.held ucRefs StableHlo.tcRefs
  rw [Finset.filter_map, bigSep_map]
  rfl

theorem mem_uc (b : Ref sig .tc) (h : (r b).isScoped = false) : r b ∈ ucRefs :=
  Finset.mem_filter.mpr ⟨Finset.mem_map.mpr ⟨b, Finset.mem_univ _, rfl⟩, by rw [h]; decide⟩

/-- The main part, its steps grouped. -/
theorem main_eq (d : Dev nD) : main (F := F) d = (seq ops1 >>= fun _ => (K F).run d 0 >>= fun _ => seq ops2 >>= fun _ =>
    SparseCore.liftProg (Prog.lift (.customCall (Pipeline.entry 0) ())) >>= fun _ =>
    SparseCore.liftProg (Prog.lift (.customCall (Pipeline.entry 1) ())) >>= fun _ => seq ops3) := by
  rfl

variable (m : (ℓ : Loc nD τ sig) → Buf (Elt F) ℓ)

/-- The first TensorCore call as a segment. -/
def reg1 : Pipeline.RegionSeg (pcfgs (F := F)) StatsRegion.adm (StatsRegion.pdats (byRef (V3 m))) none defs₀ 𝒱₀ (K F).L (K F).lev 0 :=
  StatsRegion.reg (byRef (V3 m)) (byRef (V4 m)) (fun c => V4_out m c) (fun c b h0 h1 h2 h3 => V4_ne m c b h0 h1 h2 h3)
theorem reg1_pre (d : Dev nD) : (reg1 m).pre d = iprop(unscopedBufs d (fun b => V3 m d (r b)) ∗ StatsRegion.owesLow (F := F) d) := rfl
theorem reg1_post (d : Dev nD) : (reg1 m).post d = iprop(unscopedBufs d (fun b => V4 m d (r b)) ∗ StatsRegion.owesLow (F := F) d) := rfl

/-- The first TensorCore call, as a step of the main part. -/
theorem region1 [∀ e, Nonempty (Elt F e)] (d : Dev nD) {α : Type} (k : PUnit → Prog (TpuEff nD τ sig (Elt F) _ .tc) α) (Q : α → sProp 𝕄) :
    (iprop((boundary (d.tc : Thread nD τ) ∗ held (d.tc : Thread nD τ) ucRefs (V3 m d) ∗ StatsRegion.owesLow (F := F) d)
        ∗ levAts (K F).L (K F).lev ∗ (cellsGhost (pc (F := F)) EP 0 d ∗ toksInit (pc (F := F)) EP 0 d)
        ∗ ((boundary (d.tc : Thread nD τ) ∗ held (d.tc : Thread nD τ) ucRefs (V4 m d) ∗ StatsRegion.owesLow (F := F) d)
            -∗ wp frame (wpE ((K F).defs (D F)) 𝒱 (d.tc : Thread nD τ) none) Set.univ (k ⟨⟩) Q)) : sProp 𝕄)
      ⊢ wp frame (wpE ((K F).defs (D F)) 𝒱 (d.tc : Thread nD τ) none) Set.univ
          (SparseCore.liftProg (Prog.lift (.customCall (Pipeline.entry 0) ())) >>= k) Q := by
  rw [wp_bind]
  iintro ⟨⟨Hb, Hh, HO⟩, Hlev, ⟨Hg, Ht⟩, Hk⟩
  iapply ((K F).wp_liftProg (D F) 𝒱 (d.tc : Thread nD τ) Set.univ none _ _)
  ihave Hh' := (Entails.of_eq (uc_held d (V3 m d)).symm) $$ Hh
  iapply (Pipeline.RegionSeg.wp pcfgs StatsRegion.adm (StatsRegion.pdats (byRef (V3 m))) none (hinj (F := F)) EP defs₀ 𝒱₀ (K F).L (K F).lev
    (reg1 m) d none (fun u h => nomatch h) _ _) $$ [Hb Hh' HO Hlev Hg Ht Hk]
  isplitl [Hk]
  · iintro ⟨Hb, HR⟩
    ihave HR' := (Entails.of_eq (reg1_post m d)) $$ HR
    icases HR' with ⟨Hh, HO⟩
    rw [wp_ret]; imodintro
    iapply Hk
    isplitl [Hb]; · iexact Hb
    isplitl [Hh]
    · ihave Hh' := (Entails.of_eq (uc_held d (V4 m d))) $$ Hh
      iexact Hh'
    iexact HO
  isplitl [Hb]; · iexact Hb
  isplitl [Hh' HO]
  · iapply (Entails.of_eq (reg1_pre m d).symm)
    isplitl [Hh'] <;> iassumption
  isplitl [Hlev]; · iexact Hlev
  isplitl [Hg] <;> iassumption

/-- The second TensorCore call as a segment. -/
def reg2 : Pipeline.RegionSeg (pcfgs (F := F)) LossesRegion.adm (LossesRegion.pdats (byRef (V4 m))) none defs₀ 𝒱₀ (K F).L (K F).lev 1 :=
  LossesRegion.reg (byRef (V4 m)) (byRef (V5 m)) (fun c => V5_out m c) (fun c b h0 h1 => V5_ne m c b h0 h1)
theorem reg2_pre (d : Dev nD) : (reg2 m).pre d = iprop(unscopedBufs d (fun b => V4 m d (r b)) ∗ LossesRegion.owesLow (F := F) d) := rfl
theorem reg2_post (d : Dev nD) : (reg2 m).post d = iprop(unscopedBufs d (fun b => V5 m d (r b)) ∗ LossesRegion.owesLow (F := F) d) := rfl

/-- The second TensorCore call, as a step of the main part. -/
theorem region2 [∀ e, Nonempty (Elt F e)] (d : Dev nD) {α : Type} (k : PUnit → Prog (TpuEff nD τ sig (Elt F) _ .tc) α) (Q : α → sProp 𝕄) :
    (iprop((boundary (d.tc : Thread nD τ) ∗ held (d.tc : Thread nD τ) ucRefs (V4 m d) ∗ LossesRegion.owesLow (F := F) d)
        ∗ levAts (K F).L (K F).lev ∗ (cellsGhost (pc (F := F)) EP 1 d ∗ toksInit (pc (F := F)) EP 1 d)
        ∗ ((boundary (d.tc : Thread nD τ) ∗ held (d.tc : Thread nD τ) ucRefs (V5 m d) ∗ LossesRegion.owesLow (F := F) d)
            -∗ wp frame (wpE ((K F).defs (D F)) 𝒱 (d.tc : Thread nD τ) none) Set.univ (k ⟨⟩) Q)) : sProp 𝕄)
      ⊢ wp frame (wpE ((K F).defs (D F)) 𝒱 (d.tc : Thread nD τ) none) Set.univ
          (SparseCore.liftProg (Prog.lift (.customCall (Pipeline.entry 1) ())) >>= k) Q := by
  rw [wp_bind]
  iintro ⟨⟨Hb, Hh, HO⟩, Hlev, ⟨Hg, Ht⟩, Hk⟩
  iapply ((K F).wp_liftProg (D F) 𝒱 (d.tc : Thread nD τ) Set.univ none _ _)
  ihave Hh' := (Entails.of_eq (uc_held d (V4 m d)).symm) $$ Hh
  iapply (Pipeline.RegionSeg.wp pcfgs LossesRegion.adm (LossesRegion.pdats (byRef (V4 m))) none (hinj (F := F)) EP defs₀ 𝒱₀ (K F).L (K F).lev
    (reg2 m) d none (fun u h => nomatch h) _ _) $$ [Hb Hh' HO Hlev Hg Ht Hk]
  isplitl [Hk]
  · iintro ⟨Hb, HR⟩
    ihave HR' := (Entails.of_eq (reg2_post m d)) $$ HR
    icases HR' with ⟨Hh, HO⟩
    rw [wp_ret]; imodintro
    iapply Hk
    isplitl [Hb]; · iexact Hb
    isplitl [Hh]
    · ihave Hh' := (Entails.of_eq (uc_held d (V5 m d))) $$ Hh
      iexact Hh'
    iexact HO
  isplitl [Hb]; · iexact Hb
  isplitl [Hh' HO]
  · iapply (Entails.of_eq (reg2_pre m d).symm)
    isplitl [Hh'] <;> iassumption
  isplitl [Hlev]; · iexact Hlev
  isplitl [Hg] <;> iassumption

/-- After the SparseCore call the core owes nothing, and may be given that back. -/
theorem tcSt_one (d : Dev nD) : ((K F).tcSt EH d 1 : sProp 𝕄)
    ⊢ iprop(StatsRegion.owesLow (F := F) d ∗ (LossesRegion.owesLow (F := F) d -∗ (K F).tcSt EH d 1)) := by
  unfold SparseCore.Cfg.tcSt StatsRegion.owesLow LossesRegion.owesLow
  rw [(K F).Otc_end d (le_refl 1)]
  iintro ⟨HO, Hr⟩
  isplitl [HO]; · iexact HO
  iintro HO
  isplitl [HO]; · iexact HO
  iexact Hr

theorem owes_same (d : Dev nD) : (StatsRegion.owesLow (F := F) d : sProp 𝕄) ⊢ LossesRegion.owesLow (F := F) d := BI.Entails.refl _

/-- What the launch hands the TensorCore. -/
theorem res_start (d : Dev nD) (ρ : Dev nD → PrngReg) : ((K F).tcRes m ρ d : sProp 𝕄)
    ⊢ iprop(boundary (d.tc : Thread nD τ) ∗ held (d.tc : Thread nD τ) ucRefs (V0 m d) ∗ (K F).tcSems0 d) := by
  unfold SparseCore.Cfg.tcRes
  iintro ⟨Hb, Hu, Hs, -⟩
  isplitl [Hb]; · iexact Hb
  isplitl [Hu]
  · iapply (Entails.of_eq (uc_held d (V0 m d)))
    iexact Hu
  iexact Hs

/-- The arrays of the SparseCore call. -/
def S4 : Finset (DevRef τ sig) := {r main_v3, r main_v6, r main_v7_0, r main_v7_1}

theorem S4_sub : S4 ⊆ ucRefs := by
  unfold S4
  intro b hb
  simp only [Finset.mem_insert, Finset.mem_singleton] at hb
  rcases hb with rfl | rfl | rfl | rfl <;> exact mem_uc _ rfl

theorem held_S4 (d : Dev nD) (W : Valuation τ sig (Elt F)) : (held (d.tc : Thread nD τ) S4 W : sProp 𝕄)
    = iprop((nLoc d ↦{fullShare} W (r main_v3)) ∗ (dLoc d ↦{fullShare} W (r main_v6)) ∗ (aLoc d ↦{fullShare} W (r main_v7_0)) ∗ (mLoc d ↦{fullShare} W (r main_v7_1))) := by
  unfold held S4
  rw [bigSep_insert (by simp only [Finset.mem_insert, Finset.mem_singleton, not_or]; exact ⟨r_ne (by decide), r_ne (by decide), r_ne (by decide)⟩),
    bigSep_insert (by simp only [Finset.mem_insert, Finset.mem_singleton, not_or]; exact ⟨r_ne (by decide), r_ne (by decide)⟩),
    bigSep_insert (by simp only [Finset.mem_singleton]; exact r_ne (by decide)), bigSep_singleton]
  rfl

/-- The SparseCore call's operands out of the arrays held, and its results back among them. -/
theorem sc_io (d : Dev nD) : (held (d.tc : Thread nD τ) ucRefs (V1 m d) : sProp 𝕄)
    ⊢ iprop((bigSep Finset.univ fun c : Fin ((K F).nCore 0) => (P (fN m) (fD m)).st 0 d c)
      ∗ ((bigSep Finset.univ fun c : Fin ((K F).nCore 0) => (P (fN m) (fD m)).dn 0 d c) -∗ held (d.tc : Thread nD τ) ucRefs (V2 m d))) := by
  have e3 : V2 m d (r main_v3) = fN m d := V2_ne m d _ (r_ne (by decide)) (r_ne (by decide))
  have e6 : V2 m d (r main_v6) = fD m d := V2_ne m d _ (r_ne (by decide)) (r_ne (by decide))
  have er : (held (d.tc : Thread nD τ) (ucRefs \ S4) (V1 m d) : sProp 𝕄) = held (d.tc : Thread nD τ) (ucRefs \ S4) (V2 m d) :=
    held_congr _ fun b hb => by
      have hb' := (Finset.mem_sdiff.mp hb).2
      unfold S4 at hb'
      simp only [Finset.mem_insert, Finset.mem_singleton, not_or] at hb'
      exact (V2_ne m d b hb'.2.2.1 hb'.2.2.2).symm
  rw [held_sub_split _ S4_sub (V1 m d), held_sub_split _ S4_sub (V2 m d), er, held_S4, held_S4, e3, e6, V2_a, V2_m, st_eq, dn_eq]
  iintro ⟨H4, Hr⟩
  isplitl [H4]
  · iapply (go_split (fN m) (fD m) d (V1 m d (r main_v7_0)) (V1 m d (r main_v7_1)))
    iexact H4
  iintro Hdn
  isplitl [Hdn]
  · iapply (td_join (fN m) (fD m) d)
    iexact Hdn
  iexact Hr

/-- What the main part leaves. -/
abbrev FIN (d : Dev nD) : sProp 𝕄 := held (d.tc : Thread nD τ) ucRefs (V6 m d)

theorem ops_sub (ops : List (HloOp τ sig (Elt F))) (h : ops.Forall fun op => op.bufs ⊆ StableHlo.tcRefs τ sig ∧ ∀ b ∈ op.bufs, b.isScoped = false) :
    ∀ op ∈ ops, op.bufs ⊆ ucRefs := fun op ho b hb =>
  have h' := List.forall_iff_forall_mem.mp h op ho
  Finset.mem_filter.mpr ⟨h'.1 hb, by rw [h'.2 b hb]; decide⟩

theorem ops1_sub : ∀ op ∈ ops1 (F := F), op.bufs ⊆ ucRefs := ops_sub _ (by
  unfold ops1
  simp only [List.Forall, StableHlo.unary_bufs, StableHlo.reshape_bufs]
  refine ⟨?_, ?_, ?_, ?_, ?_, ?_, ?_⟩ <;> exact ⟨by decide, by decide⟩)
theorem ops2_sub : ∀ op ∈ ops2 (F := F), op.bufs ⊆ ucRefs := ops_sub _ (by
  unfold ops2
  simp only [List.Forall, StableHlo.unary_bufs, StableHlo.reshape_bufs]
  refine ⟨?_, ?_⟩ <;> exact ⟨by decide, by decide⟩)
theorem ops3_sub : ∀ op ∈ ops3 (F := F), op.bufs ⊆ ucRefs := ops_sub _ (by
  unfold ops3
  simp only [List.Forall, StableHlo.unary_bufs, StableHlo.reshape_bufs, StableHlo.binary_bufs]
  refine ⟨?_, ?_, ?_, ?_⟩ <;> exact ⟨by decide, by decide⟩)
theorem ops_fresh {ops : List (HloOp τ sig (Elt F))} (h : ops.map HloOp.fresh = ops.map fun _ => ∅) : ∀ op ∈ ops, op.fresh = ∅ :=
  List.map_inj_left.mp h

set_option backward.isDefEq.respectTransparency.types false in
/-- The main part on one device: from every array at the launch contents to every array at the final contents. -/
theorem hmain [∀ e, Nonempty (Elt F e)] (ρ : Dev nD → PrngReg) (κ : GSem nD τ sig → ℕ) (d : Dev nD) :
    (iprop((K F).ctx EH (P (fN m) (fD m)) κ ∗ (K F).tcSt EH d 0 ∗ (K F).tcRes m ρ d ∗ G (F := F) d) : sProp 𝕄)
      ⊢ wp frame (wpE ((K F).defs (D F)) 𝒱 (SparseCore.T d) none) Set.univ (main d)
          fun _ => iprop((K F).tcSt EH d 1 ∗ FIN m d ∗ (K F).tcEnd d) := by
  rw [main_eq d]
  unfold SparseCore.Cfg.tcEnd
  iintro ⟨#Hctx, Hst, Hres, HG⟩
  ihave Hres' := (res_start m d ρ) $$ Hres
  icases Hres' with ⟨Hb, Hh, Hts⟩
  ihave HG' := (G_split (F := F) d) $$ HG
  icases HG' with ⟨HG0, HG1⟩
  iapply (StableHlo.wp_seq 𝒱 (bd := none) (E := Set.univ) d ucRefs _ ops1 ops1_sub (ops_fresh rfl) (V0 m d)) $$ [Hb Hh]
  · isplitl [Hb] <;> iassumption
  rw [show after ops1 (V0 m d) = V1 m d from rfl]
  iintro ⟨Hb, Hh⟩
  ihave Hio := (sc_io m d) $$ Hh
  icases Hio with ⟨Hgo, Hback⟩
  rw [wp_bind]
  iapply ((K F).wp_run (D F) 𝒱 (EH := EH) (P := P (fN m) (fD m)) κ d 0)
  isplitr; · iexact Hctx
  isplitl [Hst]; · iexact Hst
  isplitl [Hgo]; · iexact Hgo
  rw [show ((0 : Fin 1) : ℕ) + 1 = 1 from rfl]
  iintro ⟨Hst, Hdn⟩
  ihave Hh := Hback $$ Hdn
  iapply (StableHlo.wp_seq 𝒱 (bd := none) (E := Set.univ) d ucRefs _ ops2 ops2_sub (ops_fresh rfl) (V2 m d)) $$ [Hb Hh]
  · isplitl [Hb] <;> iassumption
  rw [show after ops2 (V2 m d) = V3 m d from rfl]
  iintro ⟨Hb, Hh⟩
  ihave Hst' := (tcSt_one (F := F) d) $$ Hst
  icases Hst' with ⟨HO, Hst⟩
  ihave #Hlev := ((K F).ctx_levAts κ) $$ Hctx
  iapply (region1 m d)
  isplitl [Hb Hh HO]
  · isplitl [Hb]; · iexact Hb
    isplitl [Hh]; · iexact Hh
    iexact HO
  isplitr; · iexact Hlev
  isplitl [HG0]; · iexact HG0
  iintro ⟨Hb, Hh, HO⟩
  ihave HO := (owes_same (F := F) d) $$ HO
  iapply (region2 m d)
  isplitl [Hb Hh HO]
  · isplitl [Hb]; · iexact Hb
    isplitl [Hh]; · iexact Hh
    iexact HO
  isplitr; · iexact Hlev
  isplitl [HG1]; · iexact HG1
  iintro ⟨Hb, Hh, HO⟩
  rw [show (seq (ops3 (F := F)) : Prog (TpuEff nD τ sig (Elt F) _ .tc) PUnit) = (seq ops3 >>= fun _ => pure ⟨⟩) from (bind_pure _).symm]
  iapply (StableHlo.wp_seq 𝒱 (bd := none) (E := Set.univ) d ucRefs _ ops3 ops3_sub (ops_fresh rfl) (V5 m d)) $$ [Hb Hh]
  · isplitl [Hb] <;> iassumption
  rw [show after ops3 (V5 m d) = V6 m d from rfl]
  iintro ⟨Hb, Hh⟩
  rw [wp_pure]; imodintro
  isplitl [Hst HO]; · iapply Hst; iexact HO
  isplitl [Hh]; · iexact Hh
  isplitl [Hb] <;> iassumption

/-- What the claims read of one device's final memory: every array the main part holds, at its final contents. -/
def fq (d : Dev nD) (s' : Phys nD τ sig (Elt F)) : Prop := ∀ b : Ref sig .tc, (r b).isScoped = false → s'.mem.mem (d, r b) = V6 m d (r b)

/-- One array's final contents. -/
theorem hfin_one (d : Dev nD) (s' : Phys nD τ sig (Elt F)) (b : Ref sig .tc) :
    iprop(FIN m d ∗ SI s') ⊢ (⌜(r b).isScoped = false → s'.mem.mem (d, r b) = V6 m d (r b)⌝ : sProp 𝕄) := by
  by_cases hb : (r b).isScoped = false
  · have hs : ({r b} : Finset (DevRef τ sig)) ⊆ ucRefs := Finset.singleton_subset_iff.mpr (mem_uc b hb)
    unfold FIN
    rw [held_sub_split _ hs (V6 m d)]
    iintro ⟨⟨Hx, -⟩, HSI⟩
    ihave Hx' := (Entails.of_eq (show (held (d.tc : Thread nD τ) {r b} (V6 m d) : sProp 𝕄) = ((d, r b) ↦{fullShare} V6 m d (r b)) from bigSep_singleton)) $$ Hx
    ihave H := (SI_pointsTo_agree (st := s') (ℓ := (d, r b)) (I := Finset.univ) (q := fullShare) (f := V6 m d (r b))) $$ [HSI Hx']
    · isplitl [HSI] <;> iassumption
    icases H with %hr
    ipureintro; exact fun _ => funext fun i => hr i (Finset.mem_univ i)
  · iintro -
    ipureintro; exact fun h => absurd h hb

theorem hfin (d : Dev nD) (s' : Phys nD τ sig (Elt F)) : iprop(FIN m d ∗ SI s') ⊢ (⌜fq m d s'⌝ : sProp 𝕄) :=
  (Laws.forall_intro fun b => hfin_one m d s' b).trans Laws.pure_forall.2

/-- Every array of every device at its final contents, and no signal left. -/
def QC : PUnit × MemSt nD τ sig (Elt F) → Prop := fun x =>
  (∀ (c : Dev nD) (b : Ref sig .tc), (r b).isScoped = false → x.2.mem (c, r b) = V6 m c (r b)) ∧ x.2.sem = fun _ => 0

/-- The whole program's run. -/
theorem run_main [∀ e, Nonempty (Elt F e)] (ρ : Dev nD → PrngReg) (hin : ∀ d L, TileSteps.InRange (F := F) (planeN L (fN m d))) :
    θ_run (Cert.KernelIdeal.defs (F := F)) (Cert.KernelIdeal.threads (F := F)) ⟨m, fun _ => 0, ρ⟩ (QC m) :=
  SparseCore.Cfg.θ_run_sc_quiescent (K := K F) (D := D F) (𝒱 := 𝒱) (EH := EH) (P := P (fN m) (fD m)) (A := ∅) facts v₀
    (fun q hq => match q with | 0 => nomatch hq)
    (fun q _ => match q with | 0 => tileObl (fN m) (fD m) hin)
    (fun q _ => match q with | 0 => SparseCore.Cfg.VecSplit.of_plain (vecSplit (fN m) (fD m)))
    m ρ main (fun d => G (F := F) d) (FIN m) (u₀ (F := F)) (sep_elim_left.trans (hu₀ (fN m) (fD m))) (hmain m ρ) (fq m) (hfin m) (QC m) (fun _ h hz => ⟨h, hz⟩)

end Cert.Proof.Launch

end
-- ==== Proof.SameText.lean ====
/-
  The kernel and its copy with named constants are one program text: over words, with each name read as its word, they are the
  same definitions.
-/
module

public import proofs.«01_k».proof.Defs
public import proofs.«01_k».proof.Proof.Gen.Kernel
public import proofs.«01_k».proof.Proof.Gen.KernelIdeal

@[expose] public section

set_option maxRecDepth 200000

noncomputable section

namespace Cert.Proof.SameText

open Idealize.ShloMosaic Idealize.SL.Sem

/-- A named constant at words is its word. -/
instance namedBits : Named Bits := ⟨fun _ _ φ bits => FloatOps.ofBits φ bits⟩

theorem body0_eq : Cert.Kernel.cc0__am_sc_body (F := Bits) = Cert.KernelIdeal.cc0__am_sc_body (F := Bits) := rfl
theorem body1_eq : Cert.Kernel.cc1__tc0_body (F := Bits) = Cert.KernelIdeal.cc1__tc0_body (F := Bits) := rfl
theorem body2_eq : Cert.Kernel.cc2__tc1_body (F := Bits) = Cert.KernelIdeal.cc2__tc1_body (F := Bits) := rfl

theorem tc1_eq (a : Cert.Kernel.Λ₀.Args 1) : Cert.Kernel.defs₀ (F := Bits) .tc 1 a = Cert.KernelIdeal.defs₀ (F := Bits) .tc 1 a := by
  obtain ⟨t, s⟩ := a
  simp only [Cert.Kernel.defs₀, Cert.KernelIdeal.defs₀]
  rw [body1_eq]
  rfl

theorem tc2_eq (a : Cert.Kernel.Λ₀.Args 2) : Cert.Kernel.defs₀ (F := Bits) .tc 2 a = Cert.KernelIdeal.defs₀ (F := Bits) .tc 2 a := by
  obtain ⟨t, s⟩ := a
  simp only [Cert.Kernel.defs₀, Cert.KernelIdeal.defs₀]
  rw [body2_eq]
  rfl

theorem sc0_eq (c : Fin Cert.Kernel.τ.nSC) (s : Fin Cert.Kernel.τ.nSub) (a : Cert.Kernel.Λ₀.Args 0) :
    Cert.Kernel.defs₀ (F := Bits) (.scVector c s) 0 a = Cert.KernelIdeal.defs₀ (F := Bits) (.scVector c s) 0 a := by
  simp only [Cert.Kernel.defs₀, Cert.KernelIdeal.defs₀]
  rw [body0_eq]
  rfl

/-- A label on a processor that never runs it. -/
theorem idle_tc (a : Cert.Kernel.Λ₀.Args 0) : Cert.Kernel.defs₀ (F := Bits) .tc 0 a = Cert.KernelIdeal.defs₀ (F := Bits) .tc 0 a := by
  simp only [Cert.Kernel.defs₀, Cert.KernelIdeal.defs₀]
  rfl

theorem idle_scalar (c : Fin Cert.Kernel.τ.nSC) (ℓ : Cert.Kernel.Λ₀.Label) (a : Cert.Kernel.Λ₀.Args ℓ) :
    Cert.Kernel.defs₀ (F := Bits) (.scScalar c) ℓ a = Cert.KernelIdeal.defs₀ (F := Bits) (.scScalar c) ℓ a := by
  simp only [Cert.Kernel.defs₀, Cert.KernelIdeal.defs₀]
  rfl

theorem idle_vector1 (c : Fin Cert.Kernel.τ.nSC) (s : Fin Cert.Kernel.τ.nSub) (a : Cert.Kernel.Λ₀.Args 1) :
    Cert.Kernel.defs₀ (F := Bits) (.scVector c s) 1 a = Cert.KernelIdeal.defs₀ (F := Bits) (.scVector c s) 1 a := by
  simp only [Cert.Kernel.defs₀, Cert.KernelIdeal.defs₀]
  rfl

theorem idle_vector2 (c : Fin Cert.Kernel.τ.nSC) (s : Fin Cert.Kernel.τ.nSub) (a : Cert.Kernel.Λ₀.Args 2) :
    Cert.Kernel.defs₀ (F := Bits) (.scVector c s) 2 a = Cert.KernelIdeal.defs₀ (F := Bits) (.scVector c s) 2 a := by
  simp only [Cert.Kernel.defs₀, Cert.KernelIdeal.defs₀]
  rfl

theorem tc_eq (ℓ : Fin 3) : Cert.Kernel.defs₀ (F := Bits) .tc ℓ = Cert.KernelIdeal.defs₀ (F := Bits) .tc ℓ := by
  match ℓ with
  | ⟨0, _⟩ => exact funext idle_tc
  | ⟨1, _⟩ => exact funext tc1_eq
  | ⟨2, _⟩ => exact funext tc2_eq

theorem scalar_eq (c : Fin Cert.Kernel.τ.nSC) (ℓ : Fin 3) : Cert.Kernel.defs₀ (F := Bits) (.scScalar c) ℓ = Cert.KernelIdeal.defs₀ (F := Bits) (.scScalar c) ℓ :=
  funext (idle_scalar c ℓ)

theorem vector_eq (c : Fin Cert.Kernel.τ.nSC) (s : Fin Cert.Kernel.τ.nSub) (ℓ : Fin 3) :
    Cert.Kernel.defs₀ (F := Bits) (.scVector c s) ℓ = Cert.KernelIdeal.defs₀ (F := Bits) (.scVector c s) ℓ := by
  match ℓ with
  | ⟨0, _⟩ => exact funext (sc0_eq c s)
  | ⟨1, _⟩ => exact funext (idle_vector1 c s)
  | ⟨2, _⟩ => exact funext (idle_vector2 c s)

theorem defs₀_eq : Cert.Kernel.defs₀ (F := Bits) = Cert.KernelIdeal.defs₀ (F := Bits) := by
  funext p ℓ
  cases p with
  | tc => exact tc_eq ℓ
  | scScalar c => exact scalar_eq c ℓ
  | scVector c s => exact vector_eq c s ℓ

theorem defs_eq : Cert.Kernel.defs (F := Bits) = Cert.KernelIdeal.defs (F := Bits) :=
  congrArg (fun d => Cert.KernelIdeal.sc.defs (Pipeline.defs Cert.KernelIdeal.pcfgs d)) defs₀_eq

theorem threads_eq : Cert.Kernel.threads (F := Bits) = Cert.KernelIdeal.threads (F := Bits) := rfl

end Cert.Proof.SameText
end
-- ==== Proof.Range.lean ====
/-
  The neighbour indices stay in range: from the stated condition on the operand to what the SparseCore kernel's
  indexed stores ask.
-/
module

public import proofs.«01_k».proof.Proof.Values
public import Idealize.ShloMosaic.Lib.Pipeline.Value

@[expose] public section

set_option maxRecDepth 16384

noncomputable section

namespace Cert.Proof.Range

open Cert.KernelIdeal Cert.KernelIdeal.Gen Cert.Proof.Setup Cert.Proof.BodyText Cert.Proof.TileSteps Cert.Proof.Tile Cert.Proof.Values
open Idealize.ShloMosaic
open Idealize.ShloMosaic.StableHlo (after)

variable {F : FTy → Type} [FloatOps F] [Named F]

/-- A lane as a place of a one-row vector. -/
def lane1 (x : S16.Idx) : S1x16.Idx := fun a => match a with | ⟨0, _⟩ => ⟨0, Nat.zero_lt_one⟩ | ⟨1, _⟩ => x 0

/-- A row's flat index, one lane. -/
theorem flat_apply (n : Vec F S1x16 .i32) (x : S16.Idx) :
    flat (F := F) n x = BitVec.ofNat 32 (x 0).val * 512#32 + n (lane1 x) := by
  have e1 : shapeCast S16 n shapeCasts_S1x16_S16 x = n (lane1 x) :=
    shapeCast_apply n shapeCasts_S1x16_S16 x (lane1 x) (by rw [Shape.rowMajor_val_two, Shape.rowMajor_val_one]; show 0 * 16 + (x 0).val = (x 0).val; omega)
  have e2 : iota .scVector S16 32 [0] iota_S16_d0_w32_scVector x = BitVec.ofNat 32 (x 0).val := by
    show BitVec.ofNat 32 (0 * 16 + (x 0).val) = _
    rw [Nat.zero_mul, Nat.zero_add]
  show IntOp.addi (IntOp.muli (iota .scVector S16 32 [0] iota_S16_d0_w32_scVector x) 512#32) (shapeCast S16 n shapeCasts_S1x16_S16 x) = _
  rw [e1, e2]
  rfl

theorem flat_lt (n : Vec F S1x16 .i32) (hn : ∀ y, (n y : BitVec 32).toNat < 512) (x : S16.Idx) : (flat (F := F) n x : BitVec 32).toNat < 8192 := by
  rw [flat_apply]
  have h1 := hn (lane1 x)
  have h2 : (x 0).val < 16 := (x 0).isLt
  generalize (n (lane1 x) : BitVec 32) = v at h1 ⊢
  generalize (x 0).val = i at h2 ⊢
  rw [BitVec.toNat_add, BitVec.toNat_mul, BitVec.toNat_ofNat, BitVec.toNat_ofNat]
  omega

variable (m : (ℓ : Loc nD τ sig) → Buf (Elt F) ℓ)

/-- Every index the call takes is one of the operand's. -/
theorem fN_mem (d : Dev nD) (x : S32x20x16.Idx) : ∃ y : S512x20.Idx, fN m d x = (m (d, r main_arg5) : Vec F S512x20 .i32) y := by
  unfold fN V1 ops1
  after_results_simp
  exact ⟨_, rfl⟩

theorem inRange (d : Dev nD) (h : ∀ y : S512x20.Idx, ((m (d, r main_arg5) : Vec F S512x20 .i32) y : BitVec 32).toNat < 512) (L : grid0.Coords) :
    InRange (F := F) (planeN L (fN m d)) := by
  intro k hk
  have hf : ∀ x, (flat (F := F) (rowOf k hk (planeN L (fN m d))) x : BitVec 32).toNat < 8192 := flat_lt _ fun y => by
    obtain ⟨z, hz⟩ := fN_mem m d ((nK L).view.emb ((row k hk).emb y))
    have e : (rowOf k hk (planeN L (fN m d)) y : BitVec 32) = (m (d, r main_arg5) : Vec F S512x20 .i32) z := hz
    rw [e]; exact h z
  exact ⟨fun a x => match a with | ⟨0, _⟩ => hf x, fun a x => match a with | ⟨0, _⟩ => hf x⟩

/-- A word between zero and 512 as a signed number is one below 512. -/
theorem lt_of_checks (v : BitVec 32) (e : IntOp.andi (IntOp.cmpi .sge v 0#32) (IntOp.cmpi .slt v 512#32) = 1#1) : v.toNat < 512 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

end Cert.Proof.Range

end
-- ==== Proof.InBatch.lean ====
/-
  What the condition on the neighbours says, read off the boolean function that states it.
-/
module

public import proofs.«01_k».proof.Pre_neighbors_in_batch
public import proofs.«01_k».proof.Proof.Range
public import Idealize.ShloMosaic.Lib.ReduceAll

@[expose] public section

set_option maxRecDepth 16384

noncomputable section

namespace Cert.Proof.Regular

open Idealize.ShloMosaic

/-- The shape facts the condition on the neighbours takes. -/
theorem factsN : Cert.Pre_neighbors_in_batch.Facts := ⟨by decide⟩

/-- A word that passes both signed comparisons lies below the bound. -/
theorem below_of_checks (b : ℕ) (hb : b < 2 ^ 31) (v : BitVec 32) (e : IntOp.andi (IntOp.cmpi .sge v 0#32) (IntOp.cmpi .slt v (BitVec.ofNat 32 b)) = 1#1) :
    v.toNat < b := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

section neighbors
open Cert.Pre_neighbors_in_batch
variable {F : FTy → Type} [FloatOps F] [hN : Cert.Pre_neighbors_in_batch.Facts]

/-- Under the first condition every neighbour is a row of the batch. -/
theorem neighbors (a0 : FVec F S512x2048 .f32) (a1 a2 : FVec F S512x8192 .f32) (a3 a4 : IVec S512 32) (a5 : IVec S512x20 32)
    (a6 : FVec F S512x20 .f32) (a7 : FVec F S_ .f32) (a8 : FVec F S8192x2048 .f32)
    (h : fn (F := F) a0 a1 a2 a3 a4 a5 a6 a7 a8 = fun _ => 1#1) (y : S512x20.Idx) : (a5 y : BitVec 32).toNat < 512 :=
  below_of_checks 512 (by norm_num) _ (congrFun h y)

end neighbors

end Cert.Proof.Regular

end
-- ==== Proof.Frames.lean ====
/-
  The frames: the kernel and the reference run to their ends, leave their operands as they were and every counter at
  zero.
-/
module

public import proofs.«01_k».proof.Defs
public import proofs.«01_k».proof.Proof.Launch
public import proofs.«01_k».proof.Proof.SameText
public import proofs.«01_k».proof.Proof.InBatch
public import proofs.«01_k».proof.Proof.Gen.ReferenceIdeal.Run
public import Idealize.ShloMosaic.Lib.Claim

@[expose] public section

set_option maxRecDepth 16384

noncomputable section

namespace Cert.Proof.Frames

open Idealize.ShloMosaic Idealize.SL.Sem
open Cert.Proof.Values Cert.Proof.Launch Cert.Proof.Range Cert.Proof.Regular

variable {F : FTy → Type} [FloatOps F] [Named F]

/-- What the frame of the kernel says of the final memory. -/
def Kept (m : (ℓ : Loc Cert.KernelIdeal.nD Cert.KernelIdeal.τ Cert.KernelIdeal.sig) → Buf (Elt F) ℓ)
    (μ : (ℓ : Loc Cert.KernelIdeal.nD Cert.KernelIdeal.τ Cert.KernelIdeal.sig) → Buf (Elt F) ℓ) (c : Dev Cert.KernelIdeal.nD) : Prop :=
  μ (c, r Cert.KernelIdeal.main_arg0) = m (c, r Cert.KernelIdeal.main_arg0)
  ∧ μ (c, r Cert.KernelIdeal.main_arg1) = m (c, r Cert.KernelIdeal.main_arg1)
  ∧ μ (c, r Cert.KernelIdeal.main_arg2) = m (c, r Cert.KernelIdeal.main_arg2)
  ∧ μ (c, r Cert.KernelIdeal.main_arg3) = m (c, r Cert.KernelIdeal.main_arg3)
  ∧ μ (c, r Cert.KernelIdeal.main_arg4) = m (c, r Cert.KernelIdeal.main_arg4)
  ∧ μ (c, r Cert.KernelIdeal.main_arg5) = m (c, r Cert.KernelIdeal.main_arg5)
  ∧ μ (c, r Cert.KernelIdeal.main_arg6) = m (c, r Cert.KernelIdeal.main_arg6)
  ∧ μ (c, r Cert.KernelIdeal.main_arg7) = m (c, r Cert.KernelIdeal.main_arg7)
  ∧ μ (c, r Cert.KernelIdeal.main_arg8) = m (c, r Cert.KernelIdeal.main_arg8)

theorem kept (m μ : (ℓ : Loc Cert.KernelIdeal.nD Cert.KernelIdeal.τ Cert.KernelIdeal.sig) → Buf (Elt F) ℓ) (c : Dev Cert.KernelIdeal.nD)
    (h : ∀ (b : Ref Cert.KernelIdeal.sig .tc), (r b).isScoped = false → μ (c, r b) = V6 m c (r b)) : Kept m μ c :=
  ⟨(h _ rfl).trans (V6_arg m c _ (by decide)), (h _ rfl).trans (V6_arg m c _ (by decide)), (h _ rfl).trans (V6_arg m c _ (by decide)),
    (h _ rfl).trans (V6_arg m c _ (by decide)), (h _ rfl).trans (V6_arg m c _ (by decide)), (h _ rfl).trans (V6_arg m c _ (by decide)),
    (h _ rfl).trans (V6_arg m c _ (by decide)), (h _ rfl).trans (V6_arg m c _ (by decide)), (h _ rfl).trans (V6_arg m c _ (by decide))⟩

/-- The kernel's frame from neighbours in range, at any float instance. -/
theorem frame [∀ e, Nonempty (Elt F e)] (m : (ℓ : Loc Cert.KernelIdeal.nD Cert.KernelIdeal.τ Cert.KernelIdeal.sig) → Buf (Elt F) ℓ)
    (ρ : Dev Cert.KernelIdeal.nD → PrngReg)
    (h : ∀ d (y : Cert.KernelIdeal.S512x20.Idx), ((m (d, r Cert.KernelIdeal.main_arg5) : Vec F Cert.KernelIdeal.S512x20 .i32) y : BitVec 32).toNat < 512) :
    θ_run (Cert.KernelIdeal.defs (F := F)) (Cert.KernelIdeal.threads (F := F)) ⟨m, fun _ => 0, ρ⟩
      (fun x => (∀ c, Kept m x.2.mem c) ∧ x.2.sem = fun _ => 0) :=
  (θ_run _ _ _).mono (fun x hx => ⟨fun c => kept m x.2.mem c (hx.1 c), hx.2⟩)
    (run_main (F := F) m ρ fun d L => inRange m d (h d) L)

end Cert.Proof.Frames

namespace Cert.Proof

open Idealize.ShloMosaic Idealize.SL.Sem
open Cert.Proof.Frames Cert.Proof.Regular

/-- The kernel as written: its arguments unchanged, no semaphore count left. -/
theorem quiescent_kernel : Cert.quiescent_Kernel (hKernel := Cert.Kernel.Gen.facts) (hPre_neighbors_in_batch := factsN) := by
  intro m g hm
  have h := frame (F := Bits) m g fun d y => neighbors (hN := factsN) _ _ _ _ _ _ _ _ _ (hm d) y
  rw [← Cert.Proof.SameText.defs_eq, ← Cert.Proof.SameText.threads_eq] at h
  exact h

/-- The same of the kernel over the reals. -/
theorem quiescent_kernelIdeal : Cert.quiescent_KernelIdeal (hKernelIdeal := Cert.KernelIdeal.Gen.facts) (hPre_neighbors_in_batch := factsN) := by
  intro m g hm
  exact frame (F := Ideal) m g fun d y => neighbors (hN := factsN) _ _ _ _ _ _ _ _ _ (hm d) y

/-- A run of the reference changes no argument and leaves no semaphore count. -/
theorem quiescent_referenceIdeal : Cert.quiescent_ReferenceIdeal (hReferenceIdeal := Cert.ReferenceIdeal.Gen.facts) := by
  intro m g _
  exact (θ_run Cert.ReferenceIdeal.defs _ _).mono (fun r h => ⟨fun c => (h c).2.2.2, sem_eq_zero_of_no_sems (by decide) r.2⟩)
    (Cert.ReferenceIdeal.Value.run m g)

/-- The two constants named in the kernel over the reals keep their printed words. -/
theorem preserves : Cert.preserves_Kernel_KernelIdeal :=
  ⟨IdealRules.named_const.statement Cert.KernelIdeal.κ "inv_temp" .f32 0x41A00000#32 ((268435456 / 13421773 : ℝ) : EReal) rfl,
    IdealRules.named_const.statement Cert.KernelIdeal.κ "one_neighbor" .f32 0x3D4CCCCD#32 ((1 / 20 : ℝ) : EReal) rfl⟩

end Cert.Proof

end
-- ==== Proof.Regular.lean ====
/-
  What the condition on all operands says, read off the boolean function that states it.
-/
module

public import proofs.«01_k».proof.Pre_regular_inputs
public import proofs.«01_k».proof.Proof.InBatch
public import Idealize.ShloMosaic.Lib.ReduceAll

@[expose] public section

set_option maxRecDepth 16384

noncomputable section

namespace Cert.Proof.Regular

open Idealize.ShloMosaic

/-- The shape facts the condition on all operands takes. -/
theorem factsR : Cert.Pre_regular_inputs.Facts :=
  ⟨by decide, by decide, by decide, by decide, by decide, by decide, by decide, by decide, by decide, by decide, by decide, by decide⟩

/-- A fold by `or` that ends at one started at one or met a one. -/
theorem foldl_ori {ι : Type} (f : ι → BitVec 1) : ∀ (l : List ι) (init : BitVec 1),
    l.foldl (fun r n => IntOp.ori r (f n)) init = 1#1 → init = 1#1 ∨ ∃ n ∈ l, f n = 1#1
  | [], _, h => .inl h
  | a :: l, init, h => by
    rcases foldl_ori f l _ h with h | ⟨n, hn, e⟩
    · rcases IntOp.ori_eq_one.1 h with h | h
      exacts [.inl h, .inr ⟨a, List.mem_cons_self .., h⟩]
    · exact .inr ⟨n, List.mem_cons_of_mem _ hn, e⟩

/-- A reduce by `or` from zero that is one at `j` met a one among the elements reducing to `j`. -/
theorem reduce_ori {s t u : Shape} {axes : List (Fin s.rank)} (x : s.Idx → BitVec 1) (init : u.Idx → BitVec 1) (h : s.ReducesTo axes t)
    (hu : 0 < u.numel) (j : t.Idx) (hi : init (Shape.Idx.first hu) = 0#1) (e : Host.reduce IntOp.ori x init h hu j = 1#1) :
    ∃ i, h.drop i = j ∧ x i = 1#1 := by
  rw [Host.reduce_eq_foldl] at e
  rcases foldl_ori x _ _ e with h | ⟨n, hn, e⟩
  · rw [hi] at h; exact absurd h (by decide)
  · rw [List.mem_filter] at hn
    exact ⟨n, by simpa using hn.2, e⟩

/-- An extended real whose absolute value compares below the pattern of infinity is a real number. -/
theorem finite_of_lt (x : Ideal .f32) (e : Ideal.cmp .olt (max x (-x)) (FloatOps.ofBits (F := Ideal) .f32 0x7F800000#32) = 1#1) :
    ∃ v : ℝ, x = (v : EReal) := by
  have inf : FloatOps.ofBits (F := Ideal) .f32 0x7F800000#32 = (⊤ : EReal) := by
    show Ideal.ofBits .f32 _ = _
    simp [Ideal.ofBits, Ideal.ieee]
  rw [inf] at e
  have h : max x (-x) < (⊤ : EReal) := by
    by_contra h
    simp [Ideal.cmp, h] at e
  cases x using EReal.rec with
  | bot => exact absurd h (by simp )
  | top => exact absurd h (by simp )
  | coe v => exact ⟨v, rfl⟩

section regular
open Cert.Pre_regular_inputs
variable [hR : Cert.Pre_regular_inputs.Facts]

/-- What the second condition says of the operands: indices in range, real logits, distances and features, no row of the inputs all zero. -/
structure Says (a0 : FVec Ideal S512x2048 .f32) (a1 a2 : FVec Ideal S512x8192 .f32) (a3 : IVec S512 32) (a5 : IVec S512x20 32)
    (a6 : FVec Ideal S512x20 .f32) (a8 : FVec Ideal S8192x2048 .f32) : Prop where
  neighbors : ∀ y, (a5 y : BitVec 32).toNat < 512
  targets : ∀ y, (a3 y : BitVec 32).toNat < 8192
  logits0 : ∀ y, ∃ v : ℝ, a1 y = (v : EReal)
  logits1 : ∀ y, ∃ v : ℝ, a2 y = (v : EReal)
  dists : ∀ y, ∃ v : ℝ, a6 y = (v : EReal)
  features : ∀ y, ∃ v : ℝ, a8 y = (v : EReal)
  row : ∀ i : Fin 512, ∃ y : S512x2048.Idx, y 0 = i ∧ a0 y ≠ 0

/-- The second condition says it. -/
theorem regular (a0 : FVec Ideal S512x2048 .f32) (a1 a2 : FVec Ideal S512x8192 .f32) (a3 a4 : IVec S512 32) (a5 : IVec S512x20 32)
    (a6 : FVec Ideal S512x20 .f32) (a7 : FVec Ideal S_ .f32) (a8 : FVec Ideal S8192x2048 .f32)
    (h : fn (F := Ideal) a0 a1 a2 a3 a4 a5 a6 a7 a8 = fun _ => 1#1) : Says a0 a1 a2 a3 a5 a6 a8 := by
  have h := congrFun h (fun a => a.elim0)
  unfold fn fn_part1 fn_part2 at h
  haveI : Subsingleton S_.Idx := ⟨fun x y => funext fun a => a.elim0⟩
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h1, h2⟩ := IntOp.andi_eq_one.1 h
  refine ⟨fun y => below_of_checks 512 (by norm_num) _ (Host.reduce_andi_all _ _ _ _ _ h1 y),
    fun y => below_of_checks 8192 (by norm_num) _ (Host.reduce_andi_all _ _ _ _ _ h2 y),
    fun y => finite_of_lt _ (Host.reduce_andi_all _ _ _ _ _ h4 y),
    fun y => finite_of_lt _ (Host.reduce_andi_all _ _ _ _ _ h5 y),
    fun y => finite_of_lt _ (Host.reduce_andi_all _ _ _ _ _ h6 y),
    fun y => finite_of_lt _ (Host.reduce_andi_all _ _ _ _ _ h7 y), fun i => ?_⟩
  have h := Host.reduce_andi_all _ _ _ _ _ h8 (fun a => match a with | ⟨0, _⟩ => i)
  obtain ⟨y, hy, e⟩ := reduce_ori _ _ _ _ _ rfl h
  refine ⟨y, congrFun hy 0, ?_⟩
  intro h0
  have e' : Ideal.cmp .une (a0 y) (FloatOps.ofBits (F := Ideal) .f32 0x00000000#32) = 1#1 := e
  have z : FloatOps.ofBits (F := Ideal) .f32 0x00000000#32 = (0 : EReal) := by
    show Ideal.ofBits .f32 _ = _
    simp [Ideal.ofBits, Ideal.ieee]
  rw [h0, z] at e'
  simp [Ideal.cmp] at e'

end regular

end Cert.Proof.Regular

end
-- ==== Proof.Blocks.lean ====
/-
  What the windows of the two TensorCore calls read out of their arrays, and the arrays the calls leave.
-/
module

public import Idealize.ShloMosaic.Lib.Pointwise
public import proofs.«01_k».proof.Proof.Values

@[expose] public section

set_option maxRecDepth 16384

noncomputable section

namespace Cert.Proof.Blocks

open Cert.KernelIdeal Cert.KernelIdeal.Gen Cert.Proof.Setup
open Idealize.ShloMosaic
open Idealize.ShloMosaic.Pipeline (Dat)

variable {F : FTy → Type} [FloatOps F] [Named F]
variable (V : (c : Dev nD) → (b : Ref sig .tc) → Buf (Elt F) ((c.tc : Thread nD τ).loc b))

/-- The grid coordinate of a point is its number. -/
theorem coord1 : ∀ t : Fin cfg1.N, ((grid1.coords t) 0).val = t.val := by decide +kernel

theorem blk1_0 (c : Dev nD) (t : Fin cfg1.N) (a : Fin 512) (b : Fin 2048) :
    StatsData.blk V c 0 t (ix2 a b) = V c main_arg0 (ix2 a b) := by
  have hi : ∀ t : Fin cfg1.N, win1_0.index t 0 = 0 ∧ win1_0.index t 1 = 0 := by decide +kernel
  show V c main_arg0 _ = V c main_arg0 _
  congr 1
  funext x
  apply Fin.ext
  match x with
  | ⟨0, _⟩ => show win1_0.index t 0 * 512 + 1 * a.val = a.val; rw [(hi t).1]; omega
  | ⟨1, _⟩ => show win1_0.index t 1 * 2048 + 1 * b.val = b.val; rw [(hi t).2]; omega

theorem blk1_1 (c : Dev nD) (t : Fin cfg1.N) (a : Fin 512) (b : Fin 1) :
    StatsData.blk V c 1 t (ix2 a b) = V c main_v0 (ix2 a b) := by
  have hi : ∀ t : Fin cfg1.N, win1_1.index t 0 = 0 ∧ win1_1.index t 1 = 0 := by decide +kernel
  show V c main_v0 _ = V c main_v0 _
  congr 1
  funext x
  apply Fin.ext
  match x with
  | ⟨0, _⟩ => show win1_1.index t 0 * 512 + 1 * a.val = a.val; rw [(hi t).1]; omega
  | ⟨1, _⟩ => show win1_1.index t 1 * 1 + 1 * b.val = b.val; rw [(hi t).2]; omega

theorem blk1_2 (c : Dev nD) (t : Fin cfg1.N) (a : Fin 512) (b : Fin 2048) (h : 512 * t.val + a.val < 8192) :
    StatsData.blk V c 2 t (ix2 a b) = V c main_arg8 (ix2 (⟨512 * t.val + a.val, h⟩ : Fin 8192) b) := by
  have hi : ∀ t : Fin cfg1.N, win1_2.index t 0 = t.val ∧ win1_2.index t 1 = 0 := by decide +kernel
  show V c main_arg8 _ = V c main_arg8 _
  congr 1
  funext x
  apply Fin.ext
  match x with
  | ⟨0, _⟩ => show win1_2.index t 0 * 512 + 1 * a.val = 512 * t.val + a.val; rw [(hi t).1]; omega
  | ⟨1, _⟩ => show win1_2.index t 1 * 2048 + 1 * b.val = b.val; rw [(hi t).2]; omega

theorem blk1_3 (c : Dev nD) (t : Fin cfg1.N) (a : Fin 512) (b : Fin 512) (h : 512 * t.val + b.val < 8192) :
    StatsData.blk V c 3 t (ix2 a b) = V c main_arg1 (ix2 a (⟨512 * t.val + b.val, h⟩ : Fin 8192)) := by
  have hi : ∀ t : Fin cfg1.N, win1_3.index t 0 = 0 ∧ win1_3.index t 1 = t.val := by decide +kernel
  show V c main_arg1 _ = V c main_arg1 _
  congr 1
  funext x
  apply Fin.ext
  match x with
  | ⟨0, _⟩ => show win1_3.index t 0 * 512 + 1 * a.val = a.val; rw [(hi t).1]; omega
  | ⟨1, _⟩ => show win1_3.index t 1 * 512 + 1 * b.val = 512 * t.val + b.val; rw [(hi t).2]; omega

theorem blk1_4 (c : Dev nD) (t : Fin cfg1.N) (a : Fin 512) (b : Fin 512) (h : 512 * t.val + b.val < 8192) :
    StatsData.blk V c 4 t (ix2 a b) = V c main_arg2 (ix2 a (⟨512 * t.val + b.val, h⟩ : Fin 8192)) := by
  have hi : ∀ t : Fin cfg1.N, win1_4.index t 0 = 0 ∧ win1_4.index t 1 = t.val := by decide +kernel
  show V c main_arg2 _ = V c main_arg2 _
  congr 1
  funext x
  apply Fin.ext
  match x with
  | ⟨0, _⟩ => show win1_4.index t 0 * 512 + 1 * a.val = a.val; rw [(hi t).1]; omega
  | ⟨1, _⟩ => show win1_4.index t 1 * 512 + 1 * b.val = 512 * t.val + b.val; rw [(hi t).2]; omega

theorem blk2_0 (c : Dev nD) (t : Fin cfg2.N) (a : Fin 512) (b : Fin 512) (h : 512 * t.val + b.val < 8192) :
    LossesData.blk V c 0 t (ix2 a b) = V c main_arg1 (ix2 a (⟨512 * t.val + b.val, h⟩ : Fin 8192)) := by
  have hi : ∀ t : Fin cfg2.N, win2_0.index t 0 = 0 ∧ win2_0.index t 1 = t.val := by decide +kernel
  show V c main_arg1 _ = V c main_arg1 _
  congr 1
  funext x
  apply Fin.ext
  match x with
  | ⟨0, _⟩ => show win2_0.index t 0 * 512 + 1 * a.val = a.val; rw [(hi t).1]; omega
  | ⟨1, _⟩ => show win2_0.index t 1 * 512 + 1 * b.val = 512 * t.val + b.val; rw [(hi t).2]; omega

theorem blk2_1 (c : Dev nD) (t : Fin cfg2.N) (a : Fin 512) (b : Fin 512) (h : 512 * t.val + b.val < 8192) :
    LossesData.blk V c 1 t (ix2 a b) = V c main_arg2 (ix2 a (⟨512 * t.val + b.val, h⟩ : Fin 8192)) := by
  have hi : ∀ t : Fin cfg2.N, win2_1.index t 0 = 0 ∧ win2_1.index t 1 = t.val := by decide +kernel
  show V c main_arg2 _ = V c main_arg2 _
  congr 1
  funext x
  apply Fin.ext
  match x with
  | ⟨0, _⟩ => show win2_1.index t 0 * 512 + 1 * a.val = a.val; rw [(hi t).1]; omega
  | ⟨1, _⟩ => show win2_1.index t 1 * 512 + 1 * b.val = 512 * t.val + b.val; rw [(hi t).2]; omega

theorem blk2_2 (c : Dev nD) (t : Fin cfg2.N) (a : Fin 512) (b : Fin 512) :
    LossesData.blk V c 2 t (ix2 a b) = V c main_v8 (ix2 a b) := by
  have hi : ∀ t : Fin cfg2.N, win2_2.index t 0 = 0 ∧ win2_2.index t 1 = 0 := by decide +kernel
  show V c main_v8 _ = V c main_v8 _
  congr 1
  funext x
  apply Fin.ext
  match x with
  | ⟨0, _⟩ => show win2_2.index t 0 * 512 + 1 * a.val = a.val; rw [(hi t).1]; omega
  | ⟨1, _⟩ => show win2_2.index t 1 * 512 + 1 * b.val = b.val; rw [(hi t).2]; omega

theorem blk2_3 (c : Dev nD) (t : Fin cfg2.N) (a : Fin 512) (b : Fin 512) :
    LossesData.blk V c 3 t (ix2 a b) = V c main_v9 (ix2 a b) := by
  have hi : ∀ t : Fin cfg2.N, win2_3.index t 0 = 0 ∧ win2_3.index t 1 = 0 := by decide +kernel
  show V c main_v9 _ = V c main_v9 _
  congr 1
  funext x
  apply Fin.ext
  match x with
  | ⟨0, _⟩ => show win2_3.index t 0 * 512 + 1 * a.val = a.val; rw [(hi t).1]; omega
  | ⟨1, _⟩ => show win2_3.index t 1 * 512 + 1 * b.val = b.val; rw [(hi t).2]; omega

theorem blk2_4 (c : Dev nD) (t : Fin cfg2.N) (a : Fin 512) (b : Fin 1) :
    LossesData.blk V c 4 t (ix2 a b) = V c main_v10_1 (ix2 a b) := by
  have hi : ∀ t : Fin cfg2.N, win2_4.index t 0 = 0 ∧ win2_4.index t 1 = 0 := by decide +kernel
  show V c main_v10_1 _ = V c main_v10_1 _
  congr 1
  funext x
  apply Fin.ext
  match x with
  | ⟨0, _⟩ => show win2_4.index t 0 * 512 + 1 * a.val = a.val; rw [(hi t).1]; omega
  | ⟨1, _⟩ => show win2_4.index t 1 * 1 + 1 * b.val = b.val; rw [(hi t).2]; omega

theorem blk2_5 (c : Dev nD) (t : Fin cfg2.N) (a : Fin 512) (b : Fin 1) :
    LossesData.blk V c 5 t (ix2 a b) = V c main_v10_2 (ix2 a b) := by
  have hi : ∀ t : Fin cfg2.N, win2_5.index t 0 = 0 ∧ win2_5.index t 1 = 0 := by decide +kernel
  show V c main_v10_2 _ = V c main_v10_2 _
  congr 1
  funext x
  apply Fin.ext
  match x with
  | ⟨0, _⟩ => show win2_5.index t 0 * 512 + 1 * a.val = a.val; rw [(hi t).1]; omega
  | ⟨1, _⟩ => show win2_5.index t 1 * 1 + 1 * b.val = b.val; rw [(hi t).2]; omega

theorem blk2_6 (c : Dev nD) (t : Fin cfg2.N) (a : Fin 1) (b : Fin 1) :
    LossesData.blk V c 6 t (ix2 a b) = V c main_v10_3 (ix2 a b) := by
  have hi : ∀ t : Fin cfg2.N, win2_6.index t 0 = 0 ∧ win2_6.index t 1 = 0 := by decide +kernel
  show V c main_v10_3 _ = V c main_v10_3 _
  congr 1
  funext x
  apply Fin.ext
  match x with
  | ⟨0, _⟩ => show win2_6.index t 0 * 1 + 1 * a.val = a.val; rw [(hi t).1]; omega
  | ⟨1, _⟩ => show win2_6.index t 1 * 1 + 1 * b.val = b.val; rw [(hi t).2]; omega

/-- The arrays the first call leaves: the results of its last point. -/
theorem final1_5 (c : Dev nD) : (StatsData.dat V c).arrAt 5 cfg1.N = Stats.out5 (StatsData.state V c 15) := by
  have hN : cfg1.N = 16 := StatsData.N16
  have hz : ∀ t : Fin cfg1.N, win1_5.index t 0 = 0 ∧ win1_5.index t 1 = 0 := by decide +kernel
  refine (StatsData.dat V c).arrAt_eq_of_cover 5 _ (fun t hf => ?_) (fun i => ⟨StatsData.pt 15, (flush1_5 _).mpr rfl, ?_⟩)
  · have h15 : t.val = 15 := by have := (flush1_5 t).mp hf; have := t.isLt; omega
    obtain rfl : t = StatsData.pt 15 := Fin.ext h15
    have hz' : (fun a => win1_5.index (StatsData.pt 15) a * main_v10_0.ty.shape.size a) = fun _ => 0 := funext fun a => by
      match a with
      | ⟨0, _⟩ => show win1_5.index (StatsData.pt 15) 0 * _ = 0; rw [(hz _).1]; exact Nat.zero_mul _
      | ⟨1, _⟩ => show win1_5.index (StatsData.pt 15) 1 * _ = 0; rw [(hz _).2]; exact Nat.zero_mul _
    exact (Memref.read_access_unit_zero (Elt F) main_v10_0 hz' (fun a => by rw [congrFun hz' a]; simp) (Stats.out5 (StatsData.state V c 15))).symm
  · show i ∈ ((View.whole main_v10_0).slice (win1_5.rect (StatsData.pt 15))).set
    rw [View.set_slice_whole, Rect.mem_set_unit]
    intro a
    have h0 : (i 0 : Nat) < 1 := (i 0).isLt
    have h1 : (i 1 : Nat) < 1 := (i 1).isLt
    match a with
    | ⟨0, _⟩ => show win1_5.index (StatsData.pt 15) 0 * 1 ≤ (i 0 : Nat) ∧ (i 0 : Nat) < win1_5.index (StatsData.pt 15) 0 * 1 + 1
                rw [(hz _).1]; omega
    | ⟨1, _⟩ => show win1_5.index (StatsData.pt 15) 1 * 1 ≤ (i 1 : Nat) ∧ (i 1 : Nat) < win1_5.index (StatsData.pt 15) 1 * 1 + 1
                rw [(hz _).2]; omega

theorem final1_6 (c : Dev nD) : (StatsData.dat V c).arrAt 6 cfg1.N = Stats.out6 (StatsData.state V c 15) := by
  have hN : cfg1.N = 16 := StatsData.N16
  have hz : ∀ t : Fin cfg1.N, win1_6.index t 0 = 0 ∧ win1_6.index t 1 = 0 := by decide +kernel
  refine (StatsData.dat V c).arrAt_eq_of_cover 6 _ (fun t hf => ?_) (fun i => ⟨StatsData.pt 15, (flush1_6 _).mpr rfl, ?_⟩)
  · have h15 : t.val = 15 := by have := (flush1_6 t).mp hf; have := t.isLt; omega
    obtain rfl : t = StatsData.pt 15 := Fin.ext h15
    have hz' : (fun a => win1_6.index (StatsData.pt 15) a * main_v10_1.ty.shape.size a) = fun _ => 0 := funext fun a => by
      match a with
      | ⟨0, _⟩ => show win1_6.index (StatsData.pt 15) 0 * _ = 0; rw [(hz _).1]; exact Nat.zero_mul _
      | ⟨1, _⟩ => show win1_6.index (StatsData.pt 15) 1 * _ = 0; rw [(hz _).2]; exact Nat.zero_mul _
    exact (Memref.read_access_unit_zero (Elt F) main_v10_1 hz' (fun a => by rw [congrFun hz' a]; simp) (Stats.out6 (StatsData.state V c 15))).symm
  · show i ∈ ((View.whole main_v10_1).slice (win1_6.rect (StatsData.pt 15))).set
    rw [View.set_slice_whole, Rect.mem_set_unit]
    intro a
    have h0 : (i 0 : Nat) < 512 := (i 0).isLt
    have h1 : (i 1 : Nat) < 1 := (i 1).isLt
    match a with
    | ⟨0, _⟩ => show win1_6.index (StatsData.pt 15) 0 * 512 ≤ (i 0 : Nat) ∧ (i 0 : Nat) < win1_6.index (StatsData.pt 15) 0 * 512 + 512
                rw [(hz _).1]; omega
    | ⟨1, _⟩ => show win1_6.index (StatsData.pt 15) 1 * 1 ≤ (i 1 : Nat) ∧ (i 1 : Nat) < win1_6.index (StatsData.pt 15) 1 * 1 + 1
                rw [(hz _).2]; omega

theorem final1_7 (c : Dev nD) : (StatsData.dat V c).arrAt 7 cfg1.N = Stats.out7 (StatsData.state V c 15) := by
  have hN : cfg1.N = 16 := StatsData.N16
  have hz : ∀ t : Fin cfg1.N, win1_7.index t 0 = 0 ∧ win1_7.index t 1 = 0 := by decide +kernel
  refine (StatsData.dat V c).arrAt_eq_of_cover 7 _ (fun t hf => ?_) (fun i => ⟨StatsData.pt 15, (flush1_7 _).mpr rfl, ?_⟩)
  · have h15 : t.val = 15 := by have := (flush1_7 t).mp hf; have := t.isLt; omega
    obtain rfl : t = StatsData.pt 15 := Fin.ext h15
    have hz' : (fun a => win1_7.index (StatsData.pt 15) a * main_v10_2.ty.shape.size a) = fun _ => 0 := funext fun a => by
      match a with
      | ⟨0, _⟩ => show win1_7.index (StatsData.pt 15) 0 * _ = 0; rw [(hz _).1]; exact Nat.zero_mul _
      | ⟨1, _⟩ => show win1_7.index (StatsData.pt 15) 1 * _ = 0; rw [(hz _).2]; exact Nat.zero_mul _
    exact (Memref.read_access_unit_zero (Elt F) main_v10_2 hz' (fun a => by rw [congrFun hz' a]; simp) (Stats.out7 (StatsData.state V c 15))).symm
  · show i ∈ ((View.whole main_v10_2).slice (win1_7.rect (StatsData.pt 15))).set
    rw [View.set_slice_whole, Rect.mem_set_unit]
    intro a
    have h0 : (i 0 : Nat) < 512 := (i 0).isLt
    have h1 : (i 1 : Nat) < 1 := (i 1).isLt
    match a with
    | ⟨0, _⟩ => show win1_7.index (StatsData.pt 15) 0 * 512 ≤ (i 0 : Nat) ∧ (i 0 : Nat) < win1_7.index (StatsData.pt 15) 0 * 512 + 512
                rw [(hz _).1]; omega
    | ⟨1, _⟩ => show win1_7.index (StatsData.pt 15) 1 * 1 ≤ (i 1 : Nat) ∧ (i 1 : Nat) < win1_7.index (StatsData.pt 15) 1 * 1 + 1
                rw [(hz _).2]; omega

theorem final1_8 (c : Dev nD) : (StatsData.dat V c).arrAt 8 cfg1.N = Stats.out8 (StatsData.state V c 15) := by
  have hN : cfg1.N = 16 := StatsData.N16
  have hz : ∀ t : Fin cfg1.N, win1_8.index t 0 = 0 ∧ win1_8.index t 1 = 0 := by decide +kernel
  refine (StatsData.dat V c).arrAt_eq_of_cover 8 _ (fun t hf => ?_) (fun i => ⟨StatsData.pt 15, (flush1_8 _).mpr rfl, ?_⟩)
  · have h15 : t.val = 15 := by have := (flush1_8 t).mp hf; have := t.isLt; omega
    obtain rfl : t = StatsData.pt 15 := Fin.ext h15
    have hz' : (fun a => win1_8.index (StatsData.pt 15) a * main_v10_3.ty.shape.size a) = fun _ => 0 := funext fun a => by
      match a with
      | ⟨0, _⟩ => show win1_8.index (StatsData.pt 15) 0 * _ = 0; rw [(hz _).1]; exact Nat.zero_mul _
      | ⟨1, _⟩ => show win1_8.index (StatsData.pt 15) 1 * _ = 0; rw [(hz _).2]; exact Nat.zero_mul _
    exact (Memref.read_access_unit_zero (Elt F) main_v10_3 hz' (fun a => by rw [congrFun hz' a]; simp) (Stats.out8 (StatsData.state V c 15))).symm
  · show i ∈ ((View.whole main_v10_3).slice (win1_8.rect (StatsData.pt 15))).set
    rw [View.set_slice_whole, Rect.mem_set_unit]
    intro a
    have h0 : (i 0 : Nat) < 1 := (i 0).isLt
    have h1 : (i 1 : Nat) < 1 := (i 1).isLt
    match a with
    | ⟨0, _⟩ => show win1_8.index (StatsData.pt 15) 0 * 1 ≤ (i 0 : Nat) ∧ (i 0 : Nat) < win1_8.index (StatsData.pt 15) 0 * 1 + 1
                rw [(hz _).1]; omega
    | ⟨1, _⟩ => show win1_8.index (StatsData.pt 15) 1 * 1 ≤ (i 1 : Nat) ∧ (i 1 : Nat) < win1_8.index (StatsData.pt 15) 1 * 1 + 1
                rw [(hz _).2]; omega

/-- The arrays the second call leaves. -/
theorem final2_7 (c : Dev nD) : (LossesData.dat V c).arrAt 7 cfg2.N = Losses.outCe (LossesData.blk V c 6 (LossesData.pt 15)) (LossesData.state V c 15) := by
  have hN : cfg2.N = 16 := LossesData.N16
  have hz : ∀ t : Fin cfg2.N, win2_7.index t 0 = 0 ∧ win2_7.index t 1 = 0 := by decide +kernel
  refine (LossesData.dat V c).arrAt_eq_of_cover 7 _ (fun t hf => ?_) (fun i => ⟨LossesData.pt 15, (flush2_7 _).mpr rfl, ?_⟩)
  · have h15 : t.val = 15 := by have := (flush2_7 t).mp hf; have := t.isLt; omega
    obtain rfl : t = LossesData.pt 15 := Fin.ext h15
    have hz' : (fun a => win2_7.index (LossesData.pt 15) a * main_v11_0.ty.shape.size a) = fun _ => 0 := funext fun a => by
      match a with
      | ⟨0, _⟩ => show win2_7.index (LossesData.pt 15) 0 * _ = 0; rw [(hz _).1]; exact Nat.zero_mul _
      | ⟨1, _⟩ => show win2_7.index (LossesData.pt 15) 1 * _ = 0; rw [(hz _).2]; exact Nat.zero_mul _
    exact (Memref.read_access_unit_zero (Elt F) main_v11_0 hz' (fun a => by rw [congrFun hz' a]; simp) (Losses.outCe (LossesData.blk V c 6 (LossesData.pt 15)) (LossesData.state V c 15))).symm
  · show i ∈ ((View.whole main_v11_0).slice (win2_7.rect (LossesData.pt 15))).set
    rw [View.set_slice_whole, Rect.mem_set_unit]
    intro a
    have h0 : (i 0 : Nat) < 1 := (i 0).isLt
    have h1 : (i 1 : Nat) < 1 := (i 1).isLt
    match a with
    | ⟨0, _⟩ => show win2_7.index (LossesData.pt 15) 0 * 1 ≤ (i 0 : Nat) ∧ (i 0 : Nat) < win2_7.index (LossesData.pt 15) 0 * 1 + 1
                rw [(hz _).1]; omega
    | ⟨1, _⟩ => show win2_7.index (LossesData.pt 15) 1 * 1 ≤ (i 1 : Nat) ∧ (i 1 : Nat) < win2_7.index (LossesData.pt 15) 1 * 1 + 1
                rw [(hz _).2]; omega

theorem final2_8 (c : Dev nD) : (LossesData.dat V c).arrAt 8 cfg2.N = Losses.outKl (LossesData.state V c 15) := by
  have hN : cfg2.N = 16 := LossesData.N16
  have hz : ∀ t : Fin cfg2.N, win2_8.index t 0 = 0 ∧ win2_8.index t 1 = 0 := by decide +kernel
  refine (LossesData.dat V c).arrAt_eq_of_cover 8 _ (fun t hf => ?_) (fun i => ⟨LossesData.pt 15, (flush2_8 _).mpr rfl, ?_⟩)
  · have h15 : t.val = 15 := by have := (flush2_8 t).mp hf; have := t.isLt; omega
    obtain rfl : t = LossesData.pt 15 := Fin.ext h15
    have hz' : (fun a => win2_8.index (LossesData.pt 15) a * main_v11_1.ty.shape.size a) = fun _ => 0 := funext fun a => by
      match a with
      | ⟨0, _⟩ => show win2_8.index (LossesData.pt 15) 0 * _ = 0; rw [(hz _).1]; exact Nat.zero_mul _
      | ⟨1, _⟩ => show win2_8.index (LossesData.pt 15) 1 * _ = 0; rw [(hz _).2]; exact Nat.zero_mul _
    exact (Memref.read_access_unit_zero (Elt F) main_v11_1 hz' (fun a => by rw [congrFun hz' a]; simp) (Losses.outKl (LossesData.state V c 15))).symm
  · show i ∈ ((View.whole main_v11_1).slice (win2_8.rect (LossesData.pt 15))).set
    rw [View.set_slice_whole, Rect.mem_set_unit]
    intro a
    have h0 : (i 0 : Nat) < 1 := (i 0).isLt
    have h1 : (i 1 : Nat) < 1 := (i 1).isLt
    match a with
    | ⟨0, _⟩ => show win2_8.index (LossesData.pt 15) 0 * 1 ≤ (i 0 : Nat) ∧ (i 0 : Nat) < win2_8.index (LossesData.pt 15) 0 * 1 + 1
                rw [(hz _).1]; omega
    | ⟨1, _⟩ => show win2_8.index (LossesData.pt 15) 1 * 1 ≤ (i 1 : Nat) ∧ (i 1 : Nat) < win2_8.index (LossesData.pt 15) 1 * 1 + 1
                rw [(hz _).2]; omega

end Cert.Proof.Blocks

end
-- ==== Proof.Reals.lean ====
/-
  Real arithmetic behind the three losses: sums and maxima of extended reals that are real, and the running maximum and
  running sum of exponentials of a row read block by block.
-/
module

public import Idealize.ShloMosaic.PureOps.Ideal.Laws
public import Idealize.ShloMosaic.PureOps.IdealRules

@[expose] public section

set_option maxRecDepth 16384

noncomputable section

namespace Cert.Proof.Reals

open Idealize.ShloMosaic

/-- The real number of a sum is the sum of the real numbers. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of terms that are real. -/
theorem sum_real {ι : Type} [Fintype ι] {f : ι → EReal} {g : ι → ℝ} (h : ∀ i, f i = (g i : EReal)) :
    ∑ i, f i = ((∑ i, g i : ℝ) : EReal) := by
  rw [coe_sum]; exact Finset.sum_congr rfl fun i _ => h i

/-- A maximum of terms that are real is real. -/
theorem fold_max_real {ι : Type} (s : Finset ι) (hs : s.Nonempty) (f : ι → EReal) (g : ι → ℝ) (h : ∀ i, f i = (g i : EReal)) :
    ∃ M : ℝ, s.fold max ⊥ f = (M : EReal) := by
  classical
  induction hs using Finset.Nonempty.cons_induction with
  | singleton a => exact ⟨g a, by rw [Finset.fold_singleton, h a]; simp⟩
  | cons a s ha hs ih =>
    obtain ⟨M, hM⟩ := ih
    exact ⟨max (g a) M, by rw [Finset.fold_cons, hM, h a]; exact (Monotone.map_max EReal.coe_strictMono.monotone).symm⟩

/-- The same over a whole finite type. -/
theorem max_row {n : ℕ} (hn : 0 < n) (f : Fin n → EReal) (g : Fin n → ℝ) (h : ∀ i, f i = (g i : EReal)) :
    ∃ M : ℝ, (Finset.univ : Finset (Fin n)).fold max ⊥ f = (M : EReal) :=
  fold_max_real _ ⟨⟨0, hn⟩, Finset.mem_univ _⟩ f g h

/-- The word of −∞. -/
theorem ofBits_bot : Ideal.ofBits .f32 0xFF800000#32 = ⊥ := by simp [Ideal.ofBits, Ideal.ieee]

/-- The word of 1/512. -/
theorem ofBits_b : Ideal.ofBits .f32 0x3B000000#32 = ((1 / 512 : ℝ) : EReal) := by
  show Ideal.ofBits .f32 _ = _; simp [Ideal.ofBits, Ideal.ieee, -EReal.coe_mul]; norm_num
/-- The word of 512. -/
theorem ofBits_512 : Ideal.ofBits .f32 0x44000000#32 = ((512 : ℝ) : EReal) := by
  show Ideal.ofBits .f32 _ = _; simp [Ideal.ofBits, Ideal.ieee, -EReal.coe_mul]; norm_num
/-- The word of 20. -/
theorem ofBits_20 : Ideal.ofBits .f32 0x41A00000#32 = ((20 : ℝ) : EReal) := by
  show Ideal.ofBits .f32 _ = _; simp [Ideal.ofBits, Ideal.ieee, -EReal.coe_mul]; norm_num
/-- The word of 1/2. -/
theorem ofBits_half : Ideal.ofBits .f32 0x3F000000#32 = ((1 / 2 : ℝ) : EReal) := by
  show Ideal.ofBits .f32 _ = _; simp [Ideal.ofBits, Ideal.ieee, -EReal.coe_mul]; norm_num
/-- The word of 1. -/
theorem ofBits_one : Ideal.ofBits .f32 0x3F800000#32 = ((1 : ℝ) : EReal) := by
  show Ideal.ofBits .f32 _ = _; simp [Ideal.ofBits, Ideal.ieee, -EReal.coe_mul]; norm_num
/-- The word the temperature is divided by. -/
theorem ofBits_temp : Ideal.ofBits .f32 0x3D4CCCCD#32 = ((13421773 / 268435456 : ℝ) : EReal) := by
  show Ideal.ofBits .f32 _ = _; simp [Ideal.ofBits, Ideal.ieee, -EReal.coe_mul]; norm_num
/-- The word the running maxima start from is a real number. -/
theorem ofBits_low : ∃ M : ℝ, Ideal.ofBits .f32 0xF149F2CA#32 = (M : EReal) := by
  refine ⟨-(13234890 * 2 ^ 76), ?_⟩
  show Ideal.ofBits .f32 _ = _; simp [Ideal.ofBits, Ideal.ieee, -EReal.coe_mul, -EReal.coe_neg]
/-- The two weights of the refined targets are real numbers. -/
theorem ofBits_alpha : ∃ M : ℝ, Ideal.ofBits .f32 0x3F666666#32 = (M : EReal) := by
  refine ⟨15099494 / 16777216, ?_⟩
  show Ideal.ofBits .f32 _ = _; simp [Ideal.ofBits, Ideal.ieee, -EReal.coe_mul, -EReal.coe_neg]; norm_num
theorem ofBits_beta : ∃ M : ℝ, Ideal.ofBits .f32 0x3DCCCCCD#32 = (M : EReal) := by
  refine ⟨13421773 / 134217728, ?_⟩
  show Ideal.ofBits .f32 _ = _; simp [Ideal.ofBits, Ideal.ieee, -EReal.coe_mul, -EReal.coe_neg]; norm_num

/-- The logarithm of a positive real. -/
theorem log_real {r : ℝ} (h : 0 < r) : Ideal.log (r : EReal) = (Real.log r : EReal) := by
  rw [Ideal.log_coe, if_neg (not_le.mpr h)]

/-- A real quotient by a nonzero real. -/
theorem div_real (a : ℝ) {b : ℝ} (h : b ≠ 0) : Ideal.div (a : EReal) (b : EReal) = ((a / b : ℝ) : EReal) := by
  unfold Ideal.div
  rw [if_neg (by exact_mod_cast h), div_eq_mul_inv, EReal.coe_mul, EReal.coe_inv]

/-- One block of the running sum of exponentials: the sum over the columns before it rescaled to the new maximum, plus
    the block's own, is the sum over the columns up to its end. -/
theorem online (w : ℕ → ℝ) (n : ℕ) (M M' : ℝ) :
    (∑ j ∈ Finset.range (512 * n), Real.exp (w j - M)) * Real.exp (M - M') + ∑ j : Fin 512, Real.exp (w (512 * n + j.val) - M')
      = ∑ j ∈ Finset.range (512 * (n + 1)), Real.exp (w j - M') := by
  rw [Finset.sum_mul, mul_add, mul_one, Finset.sum_range_add, Finset.sum_range (fun j => Real.exp (w (512 * n + j) - M'))]
  congr 1
  refine Finset.sum_congr rfl fun j _ => ?_
  rw [← Real.exp_add]; congr 1; ring

/-- One block of a running sum. -/
theorem running (w : ℕ → ℝ) (n : ℕ) :
    ∑ j ∈ Finset.range (512 * n), w j + ∑ j : Fin 512, w (512 * n + j.val) = ∑ j ∈ Finset.range (512 * (n + 1)), w j := by
  rw [mul_add, mul_one, Finset.sum_range_add, Finset.sum_range (fun j => w (512 * n + j))]

/-- The logarithm of the sum of exponentials of a row of 8192 columns. -/
def lse (w : ℕ → ℝ) : ℝ := Real.log (∑ j ∈ Finset.range 8192, Real.exp (w j))

theorem sum_exp_pos (w : ℕ → ℝ) : 0 < ∑ j ∈ Finset.range 8192, Real.exp (w j) :=
  Finset.sum_pos (fun _ _ => Real.exp_pos _) ⟨0, by decide +kernel⟩

/-- It does not depend on the number taken off every column. -/
theorem lse_shift (w : ℕ → ℝ) (M : ℝ) : M + Real.log (∑ j ∈ Finset.range 8192, Real.exp (w j - M)) = lse w := by
  have e : ∑ j ∈ Finset.range 8192, Real.exp (w j) = Real.exp M * ∑ j ∈ Finset.range 8192, Real.exp (w j - M) := by
    rw [Finset.mul_sum]; refine Finset.sum_congr rfl fun j _ => ?_
    rw [← Real.exp_add]; congr 1; ring
  unfold lse
  rw [e, Real.log_mul (Real.exp_ne_zero _) (sum_exp_pos fun j => w j - M).ne', Real.log_exp]

/-- A softmax of a row in terms of it. -/
theorem soft (w : ℕ → ℝ) (M : ℝ) (j : ℕ) :
    Real.exp (w j - M) / ∑ j ∈ Finset.range 8192, Real.exp (w j - M) = Real.exp (w j - lse w) := by
  have h := sum_exp_pos fun j => w j - M
  rw [← lse_shift w M, ← sub_sub, Real.exp_sub (w j - M), Real.exp_log h]

/-- A sum over the columns of a row that keeps one of them. -/
theorem pick (w : ℕ → ℝ) (t : ℕ) (ht : t < 8192) : ∑ j ∈ Finset.range 8192, (if j = t then w j else 0) = w t := by
  rw [Finset.sum_ite_eq' (Finset.range 8192) t w, if_pos (Finset.mem_range.mpr ht)]

end Cert.Proof.Reals

end
-- ==== Proof.LossRows.lean ====
/-
  The second TensorCore call over the reals: what it has accumulated after each block of columns, and its results.
-/
module

public import Idealize.ShloMosaic.Lib.Pointwise
public import proofs.«01_k».proof.Proof.Losses
public import proofs.«01_k».proof.Proof.Reals

@[expose] public section

set_option maxRecDepth 16384

noncomputable section

namespace Cert.Proof.LossRows

open Cert.KernelIdeal Cert.KernelIdeal.Gen Cert.Proof.Losses Cert.Proof.Reals
open Idealize.ShloMosaic

/-- The two weights of the refined targets. -/
def alpha : ℝ := (Ideal.ofBits .f32 0x3F666666#32).toReal
def beta : ℝ := (Ideal.ofBits .f32 0x3DCCCCCD#32).toReal
theorem alpha_eq : Ideal.ofBits .f32 0x3F666666#32 = (alpha : EReal) := by
  obtain ⟨M, h⟩ := ofBits_alpha; unfold alpha; rw [h, EReal.toReal_coe]
theorem beta_eq : Ideal.ofBits .f32 0x3DCCCCCD#32 = (beta : EReal) := by
  obtain ⟨M, h⟩ := ofBits_beta; unfold beta; rw [h, EReal.toReal_coe]

theorem pay7_apply (L : Vec Ideal S512x512 .f32) (l : Vec Ideal S512x1 .f32) (i j : Fin 512) :
    k2_pay7 (F := Ideal) L l (ix2 i j) = L (ix2 i j) - l (ix2 i 0) := by
  pointwise [k2_pay7]
theorem pay10_apply (L0 L1 A : Vec Ideal S512x512 .f32) (l0 l1 : Vec Ideal S512x1 .f32) (i j : Fin 512) :
    k2_pay10 (F := Ideal) L0 l0 L1 l1 A (ix2 i j)
      = ∑ r, A (ix2 i r) * (Ideal.exp (L0 (ix2 r j) - l0 (ix2 r 0)) + Ideal.exp (L1 (ix2 r j) - l1 (ix2 r 0))) := by
  pointwise [k2_pay10, k2_pay8, k2_pay7, k2_pay9]
theorem pay2_apply (a b : Vec Ideal S512x512 .f32) (s : Vec Ideal S1x1 .f32) :
    k2_pay2 (F := Ideal) a b s (ix2 0 0) = s (ix2 0 0) + ∑ i, ∑ j, b (ix2 i j) * a (ix2 i j) := by
  pointwise [k2_pay2]
theorem pay1_apply (b : Vec Ideal S512x512 .f32) (s : Vec Ideal S1x1 .f32) :
    k2_pay1 (F := Ideal) b s (ix2 0 0) = s (ix2 0 0) + ∑ i, ∑ j, b (ix2 i j) := by
  pointwise [k2_pay1]
theorem pay11_apply (L0 L1 M : Vec Ideal S512x512 .f32) (l0 l1 : Vec Ideal S512x1 .f32) (i j : Fin 512) (t g : ℝ)
    (ht : ∑ r, M (ix2 i r) * Ideal.exp (L0 (ix2 r j) - l0 (ix2 r 0)) = (t : EReal)) (hg : L1 (ix2 i j) - l1 (ix2 i 0) = (g : EReal)) :
    k2_pay11 (F := Ideal) L0 l0 L1 l1 M (ix2 i j) = ((if 0 < t then t * (Real.log t - g) else 0 : ℝ) : EReal) := by
  have e : k2_pay11 (F := Ideal) L0 l0 L1 l1 M (ix2 i j) = (if 0 < (t : EReal) then (t : EReal) * (Ideal.log (if 0 < (t : EReal) then (t : EReal) else 1) - (g : EReal)) else 0) := by
    rw [← ht, ← hg]
    pointwise [k2_pay11, k2_pay8, k2_pay7, k2_pay9]
  rw [e]
  by_cases h : 0 < t
  · rw [if_pos (EReal.coe_pos.mpr h), if_pos (EReal.coe_pos.mpr h), if_pos h, log_real h, ← EReal.coe_sub, ← EReal.coe_mul]
  · rw [if_neg (fun h' => h (EReal.coe_pos.mp h')), if_neg h, EReal.coe_zero]

/-- The softmax weights of the neighbours' logits, and what one column of one query adds to the two sums. -/
def mixed (A : Fin 512 → Fin 512 → ℝ) (l0 l1 : Fin 512 → ℕ → ℝ) (i : Fin 512) (j : ℕ) : ℝ :=
  ∑ r, A i r * (Real.exp (l0 r j - lse (l0 r)) + Real.exp (l1 r j - lse (l1 r)))
def mean0 (M : Fin 512 → Fin 512 → ℝ) (l0 : Fin 512 → ℕ → ℝ) (i : Fin 512) (j : ℕ) : ℝ :=
  ∑ r, M i r * Real.exp (l0 r j - lse (l0 r))
def ceAt (A : Fin 512 → Fin 512 → ℝ) (l0 l1 : Fin 512 → ℕ → ℝ) (j : ℕ) : ℝ :=
  ∑ i, mixed A l0 l1 i j * (l0 i j - lse (l0 i))
def klAt (M : Fin 512 → Fin 512 → ℝ) (l0 l1 : Fin 512 → ℕ → ℝ) (j : ℕ) : ℝ :=
  ∑ i, if 0 < mean0 M l0 i j then mean0 M l0 i j * (Real.log (mean0 M l0 i j) - (l1 i j - lse (l1 i))) else 0

/-- What the two accumulators hold after `n` blocks of columns. -/
structure Holds (A M : Fin 512 → Fin 512 → ℝ) (l0 l1 : Fin 512 → ℕ → ℝ) (n : ℕ) (s : Acc Ideal) : Prop where
  ce : s.ce (ix2 0 0) = ((∑ j ∈ Finset.range (512 * n), ceAt A l0 l1 j : ℝ) : EReal)
  kl : s.kl (ix2 0 0) = ((∑ j ∈ Finset.range (512 * n), klAt M l0 l1 j : ℝ) : EReal)

theorem holds_zero (A M : Fin 512 → Fin 512 → ℝ) (l0 l1 : Fin 512 → ℕ → ℝ) : Holds A M l0 l1 0 (zero (F := Ideal)) where
  ce := by
    rw [Nat.mul_zero, Finset.range_zero, Finset.sum_empty, EReal.coe_zero]
    show k2_pay5 (F := Ideal) (ix2 0 0) = 0
    pointwise [k2_pay5]
  kl := by
    rw [Nat.mul_zero, Finset.range_zero, Finset.sum_empty, EReal.coe_zero]
    show k2_pay6 (F := Ideal) (ix2 0 0) = 0
    pointwise [k2_pay6]

/-- The next block of columns. -/
theorem holds_add {A M : Fin 512 → Fin 512 → ℝ} {l0 l1 : Fin 512 → ℕ → ℝ} {n : ℕ} {s : Acc Ideal} (h : Holds A M l0 l1 n s)
    (L0 L1 Ab Mb : Vec Ideal S512x512 .f32) (w0 w1 : Vec Ideal S512x1 .f32)
    (h0 : ∀ i j, L0 (ix2 i j) = ((l0 i (512 * n + j.val) : ℝ) : EReal)) (h1 : ∀ i j, L1 (ix2 i j) = ((l1 i (512 * n + j.val) : ℝ) : EReal))
    (hA : ∀ i r, Ab (ix2 i r) = ((A i r : ℝ) : EReal)) (hM : ∀ i r, Mb (ix2 i r) = ((M i r : ℝ) : EReal))
    (hw0 : ∀ i, w0 (ix2 i 0) = ((lse (l0 i) : ℝ) : EReal)) (hw1 : ∀ i, w1 (ix2 i 0) = ((lse (l1 i) : ℝ) : EReal)) :
    Holds A M l0 l1 (n + 1) (add L0 L1 Ab Mb w0 w1 s) where
  ce := by
    have e : ∀ i j, k2_pay10 (F := Ideal) L0 w0 L1 w1 Ab (ix2 i j) = ((mixed A l0 l1 i (512 * n + j.val) : ℝ) : EReal) := fun i j => by
      rw [pay10_apply]
      exact sum_real fun r => by
        rw [hA, h0, h1, hw0, hw1, ← EReal.coe_sub, ← EReal.coe_sub, Ideal.exp_coe, Ideal.exp_coe, ← EReal.coe_add, ← EReal.coe_mul]
    show k2_pay2 (F := Ideal) (k2_pay7 L0 w0) (k2_pay10 L0 w0 L1 w1 Ab) s.ce (ix2 0 0) = _
    rw [pay2_apply, h.ce, ← running, Finset.sum_comm,
      sum_real (g := fun j : Fin 512 => ceAt A l0 l1 (512 * n + j.val)) (fun j => sum_real fun i => by
        rw [e, pay7_apply, h0, hw0, ← EReal.coe_sub, ← EReal.coe_mul]), ← EReal.coe_add]
  kl := by
    show k2_pay1 (F := Ideal) (k2_pay11 L0 w0 L1 w1 Mb) s.kl (ix2 0 0) = _
    rw [pay1_apply, h.kl, ← running, Finset.sum_comm,
      sum_real (g := fun j : Fin 512 => klAt M l0 l1 (512 * n + j.val)) (fun j => sum_real fun i => by
        exact pay11_apply _ _ _ _ _ i j (mean0 M l0 i (512 * n + j.val)) (l1 i (512 * n + j.val) - lse (l1 i))
          (sum_real fun r => by rw [hM, h0, hw0, ← EReal.coe_sub, Ideal.exp_coe, ← EReal.coe_mul])
          (by rw [h1, hw1, ← EReal.coe_sub])), ← EReal.coe_add]

/-- The cross entropy and the divergence. -/
def ceOf (A : Fin 512 → Fin 512 → ℝ) (l0 l1 : Fin 512 → ℕ → ℝ) (t : Fin 512 → ℕ) : ℝ :=
  (0 - (alpha * (∑ i, (l0 i (t i) - lse (l0 i))) + beta * ∑ j ∈ Finset.range 8192, ceAt A l0 l1 j)) * (1 / 512)
def klOf (M : Fin 512 → Fin 512 → ℝ) (l0 l1 : Fin 512 → ℕ → ℝ) : ℝ := (∑ j ∈ Finset.range 8192, klAt M l0 l1 j) * (1 / 512)

theorem outCe_eq {A M : Fin 512 → Fin 512 → ℝ} {l0 l1 : Fin 512 → ℕ → ℝ} {s : Acc Ideal} (h : Holds A M l0 l1 16 s)
    (t : Fin 512 → ℕ) (ct : Vec Ideal S1x1 .f32) (hct : ct (ix2 0 0) = ((∑ i, (l0 i (t i) - lse (l0 i)) : ℝ) : EReal)) :
    outCe ct s (ix2 0 0) = ((ceOf A l0 l1 t : ℝ) : EReal) := by
  have e : k2_pay3 (F := Ideal) ct s.ce (ix2 0 0) = (0 - ((alpha : EReal) * ct (ix2 0 0) + (beta : EReal) * s.ce (ix2 0 0))) * ((1 / 512 : ℝ) : EReal) := by
    rw [← alpha_eq, ← beta_eq, ← ofBits_b]
    pointwise [k2_pay3]
  show k2_pay3 (F := Ideal) ct s.ce (ix2 0 0) = _
  rw [e, hct, h.ce, ← EReal.coe_mul, ← EReal.coe_mul, ← EReal.coe_add, ← EReal.coe_zero, ← EReal.coe_sub, ← EReal.coe_mul]
  rfl
theorem outKl_eq {A M : Fin 512 → Fin 512 → ℝ} {l0 l1 : Fin 512 → ℕ → ℝ} {s : Acc Ideal} (h : Holds A M l0 l1 16 s) :
    outKl s (ix2 0 0) = ((klOf M l0 l1 : ℝ) : EReal) := by
  have e : k2_pay4 (F := Ideal) s.kl (ix2 0 0) = s.kl (ix2 0 0) * ((1 / 512 : ℝ) : EReal) := by
    rw [← ofBits_b]
    pointwise [k2_pay4]
  show k2_pay4 (F := Ideal) s.kl (ix2 0 0) = _
  rw [e, h.kl, ← EReal.coe_mul]
  rfl

end Cert.Proof.LossRows

end
-- ==== Proof.Rows.lean ====
/-
  The first TensorCore call over the reals: what its scratch buffers hold after each block of columns, and its results.
-/
module

public import Idealize.ShloMosaic.Lib.Pointwise
public import proofs.«01_k».proof.Proof.Stats
public import proofs.«01_k».proof.Proof.Reals

@[expose] public section

set_option maxRecDepth 16384

noncomputable section

namespace Cert.Proof.Rows

open Cert.KernelIdeal Cert.KernelIdeal.Gen Cert.Proof.Stats Cert.Proof.Reals
open Idealize.ShloMosaic

/-- The inverse temperature. -/
def cc : ℝ := 268435456 / 13421773

theorem named_cc : Named.named (F := Ideal) (φ := .f32) κ "inv_temp" 0x41A00000#32 = (cc : EReal) :=
  IdealRules.named_const.ideal_named_scalar _ _ _ _ rfl

/-- A running maximum and a running sum of exponentials of the first `512 n` columns of a row. -/
def Online (w : ℕ → ℝ) (n : ℕ) (m s : EReal) : Prop :=
  ∃ M : ℝ, m = (M : EReal) ∧ s = ((∑ j ∈ Finset.range (512 * n), Real.exp (w j - M) : ℝ) : EReal)

theorem Online.start (w : ℕ → ℝ) (M : ℝ) : Online w 0 (M : EReal) 0 := ⟨M, rfl, by simp⟩

/-- The next block of columns. -/
theorem Online.next {w : ℕ → ℝ} {n : ℕ} {m s : EReal} (h : Online w n m s) {b : Fin 512 → EReal}
    (hb : ∀ j, b j = ((w (512 * n + j.val) : ℝ) : EReal)) :
    Online w (n + 1) (max m ((Finset.univ : Finset (Fin 512)).fold max ⊥ b))
      (s * Ideal.exp (m - max m ((Finset.univ : Finset (Fin 512)).fold max ⊥ b))
        + ∑ j, Ideal.exp (b j - max m ((Finset.univ : Finset (Fin 512)).fold max ⊥ b))) := by
  obtain ⟨M, rfl, rfl⟩ := h
  obtain ⟨R, hR⟩ := max_row (by decide) b _ hb
  rw [hR, show max (M : EReal) (R : EReal) = ((max M R : ℝ) : EReal) from (Monotone.map_max EReal.coe_strictMono.monotone).symm]
  generalize max M R = M'
  refine ⟨M', rfl, ?_⟩
  rw [sum_real (g := fun j : Fin 512 => Real.exp (w (512 * n + j.val) - M')) (fun j => by rw [hb, ← EReal.coe_sub, Ideal.exp_coe]),
    ← EReal.coe_sub, Ideal.exp_coe, ← EReal.coe_mul, ← EReal.coe_add, online]

/-- After the sixteenth block the maximum plus the logarithm of the sum is the logarithm of the row's sum of exponentials. -/
theorem Online.last {w : ℕ → ℝ} {m s : EReal} (h : Online w 16 m s) : m + Ideal.log s = ((lse w : ℝ) : EReal) := by
  obtain ⟨M, rfl, rfl⟩ := h
  have e : Finset.range (512 * 16) = Finset.range 8192 := rfl
  rw [e, log_real (sum_exp_pos fun j => w j - M), ← EReal.coe_add, lse_shift]

/-- The part of the picked column the first `512 n` columns hold. -/
def part (w : ℕ → ℝ) (t n : ℕ) : ℝ := ∑ j ∈ Finset.range (512 * n), if j = t then w j else 0

theorem part_last (w : ℕ → ℝ) (t : ℕ) (ht : t < 8192) : part w t 16 = w t := pick w t ht

/-- The next block of columns, where a mask tells the picked one. -/
theorem part_next (w : ℕ → ℝ) (t n : ℕ) (p : Fin 512 → BitVec 1) (hp : ∀ j : Fin 512, p j = if 512 * n + j.val = t then 1#1 else 0#1)
    {b : Fin 512 → EReal} (hb : ∀ j, b j = ((w (512 * n + j.val) : ℝ) : EReal)) {q : EReal} (hq : q = (part w t n : EReal)) :
    q + ∑ j, Scalar.select (p j) (b j) 0 = (part w t (n + 1) : EReal) := by
  rw [sum_real (g := fun j : Fin 512 => if 512 * n + j.val = t then w (512 * n + j.val) else 0) (fun j => by
      rw [hp j, hb j]; by_cases h : 512 * n + j.val = t
      · rw [if_pos h, if_pos h]; rfl
      · rw [if_neg h, if_neg h]; rfl), hq, ← EReal.coe_add]
  exact congrArg _ (running (fun j => if j = t then w j else 0) n)

theorem pay25_apply (L : Vec Ideal S512x512 .f32) (m : Vec Ideal S512x1 .f32) (i : Fin 512) :
    k1_pay25 (F := Ideal) L m (ix2 i 0) = max (m (ix2 i 0)) ((Finset.univ : Finset (Fin 512)).fold max ⊥ fun j => L (ix2 i j)) := by
  rw [← ofBits_bot]; pointwise [k1_pay25]
theorem pay27_apply (L : Vec Ideal S512x512 .f32) (m : Vec Ideal S512x1 .f32) (i : Fin 512) :
    k1_pay27 (F := Ideal) L m (ix2 i 0) = k1_pay25 L m (ix2 i 0) := by
  pointwise [k1_pay27]
theorem pay26_apply (L : Vec Ideal S512x512 .f32) (m s : Vec Ideal S512x1 .f32) (i : Fin 512) :
    k1_pay26 (F := Ideal) L m s (ix2 i 0) = s (ix2 i 0) * Ideal.exp (m (ix2 i 0) - k1_pay25 L m (ix2 i 0))
      + ∑ j, Ideal.exp (L (ix2 i j) - k1_pay25 L m (ix2 i 0)) := by
  pointwise [k1_pay26]
theorem pay2_apply (L : Vec Ideal S512x512 .f32) (m : Vec Ideal S512x1 .f32) (i : Fin 512) :
    k1_pay2 (F := Ideal) L m (ix2 i 0) = max (m (ix2 i 0)) ((Finset.univ : Finset (Fin 512)).fold max ⊥ fun j => L (ix2 i j)) := by
  rw [← ofBits_bot]; pointwise [k1_pay2]
theorem pay4_apply (L : Vec Ideal S512x512 .f32) (m : Vec Ideal S512x1 .f32) (i : Fin 512) :
    k1_pay4 (F := Ideal) L m (ix2 i 0) = k1_pay2 L m (ix2 i 0) := by
  pointwise [k1_pay4]
theorem pay3_apply (L : Vec Ideal S512x512 .f32) (m s : Vec Ideal S512x1 .f32) (i : Fin 512) :
    k1_pay3 (F := Ideal) L m s (ix2 i 0) = s (ix2 i 0) * Ideal.exp (m (ix2 i 0) - k1_pay2 L m (ix2 i 0))
      + ∑ j, Ideal.exp (L (ix2 i j) - k1_pay2 L m (ix2 i 0)) := by
  pointwise [k1_pay3]
theorem pay20_apply (xs : Vec Ideal S512x2048 .bf16) (Ft : Vec Ideal S512x2048 .f32) (i j : Fin 512) :
    k1_pay20 (F := Ideal) xs Ft (ix2 i j) = (∑ k, xs (ix2 i k) * Ft (ix2 j k)) * (cc : EReal) := by
  rw [← named_cc]; pointwise [k1_pay20]
theorem pay21_apply (xs : Vec Ideal S512x2048 .bf16) (Ft : Vec Ideal S512x2048 .f32) (m : Vec Ideal S512x1 .f32) (i : Fin 512) :
    k1_pay21 (F := Ideal) xs Ft m (ix2 i 0) = max (m (ix2 i 0)) ((Finset.univ : Finset (Fin 512)).fold max ⊥ fun j => k1_pay20 xs Ft (ix2 i j)) := by
  rw [← ofBits_bot]; pointwise [k1_pay21]
theorem pay23_apply (m : Vec Ideal S512x1 .f32) (i : Fin 512) : k1_pay23 (F := Ideal) m (ix2 i 0) = m (ix2 i 0) := by
  pointwise [k1_pay23]
theorem pay22_apply (xs : Vec Ideal S512x2048 .bf16) (Ft : Vec Ideal S512x2048 .f32) (m s : Vec Ideal S512x1 .f32) (i : Fin 512) :
    k1_pay22 (F := Ideal) xs Ft m s (ix2 i 0) = s (ix2 i 0) * Ideal.exp (m (ix2 i 0) - k1_pay21 xs Ft m (ix2 i 0))
      + ∑ j, Ideal.exp (k1_pay20 xs Ft (ix2 i j) - k1_pay21 xs Ft m (ix2 i 0)) := by
  pointwise [k1_pay22]
theorem pay24_apply (h : IVec S512x512 1) (L : Vec Ideal S512x512 .f32) (m : Vec Ideal S512x1 .f32) (i : Fin 512) :
    k1_pay24 (F := Ideal) h L m (ix2 i 0) = m (ix2 i 0) + ∑ j, Scalar.select (h (ix2 i j)) (L (ix2 i j)) 0 := by
  pointwise [k1_pay24]
theorem pay1_apply (h : IVec S512x512 1) (L : Vec Ideal S512x512 .f32) (m : Vec Ideal S512x1 .f32) (i : Fin 512) :
    k1_pay1 (F := Ideal) m (k1_pay28 h L) (ix2 i 0) = m (ix2 i 0) + ∑ j, Scalar.select (h (ix2 i j)) (L (ix2 i j)) 0 := by
  pointwise [k1_pay1, k1_pay28]
theorem pay5_apply (X : Vec Ideal S512x2048 .f32) (i : Fin 512) (k : Fin 2048) :
    k1_pay5 (F := Ideal) X (ix2 i k) = X (ix2 i k) * Ideal.rsqrt (∑ k, X (ix2 i k) * X (ix2 i k)) := by
  pointwise [k1_pay5]

/-- The mask of the picked column. -/
theorem pay19_apply (a : grid1.Coords) (Tg : Vec Ideal S512x1 .i32) (i j : Fin 512) (n t : ℕ) (hn : (a 0).val = n) (ht : (Tg (ix2 i 0) : BitVec 32).toNat = t) :
    k1_pay19 (F := Ideal) a Tg (ix2 i j) = if 512 * n + j.val = t then 1#1 else 0#1 := by
  have e : k1_pay19 (F := Ideal) a Tg (ix2 i j)
      = IntOp.cmpi CmpIPredicate.eq (IntOp.addi (Scalar.muli (BitVec.ofNat 32 (a 0).val) 512#32) (BitVec.ofNat 32 j.val)) (Tg (ix2 i 0)) := by
    pointwise [k1_pay19]
  have ha : (a 0).val < 16 := (a 0).isLt
  have hj := j.isLt
  rw [e]
  show BitVec.ofBool (((BitVec.ofNat 32 (a 0).val) * 512#32 + BitVec.ofNat 32 j.val) == (Tg (ix2 i 0) : BitVec 32)) = _
  have hv : ((BitVec.ofNat 32 (a 0).val) * 512#32 + BitVec.ofNat 32 j.val).toNat = 512 * n + j.val := by
    rw [BitVec.toNat_add, BitVec.toNat_mul, BitVec.toNat_ofNat, BitVec.toNat_ofNat, BitVec.toNat_ofNat]; omega
  by_cases h : 512 * n + j.val = t
  · rw [if_pos h, beq_iff_eq.mpr (BitVec.eq_of_toNat_eq (by rw [hv, ht, h]))]; rfl
  · rw [if_neg h, beq_eq_false_iff_ne.mpr (fun he => h (by rw [← hv, ← ht, he]))]; rfl

/-- What the scratch buffers hold after `n` blocks of columns: `z`, `l0`, `l1` the three logit arrays, `t` the targets. -/
structure Holds (u : Fin 512 → Fin 2048 → ℝ) (z l0 l1 : Fin 512 → ℕ → ℝ) (t : Fin 512 → ℕ) (n : ℕ) (s : St Ideal) : Prop where
  xs : ∀ i k, s.xs (ix2 i k) = ((u i k : ℝ) : EReal)
  o : ∀ i, Online (z i) n (s.mo (ix2 i 0)) (s.so (ix2 i 0))
  th : ∀ i, s.th (ix2 i 0) = (part (z i) (t i) n : EReal)
  r0 : ∀ i, Online (l0 i) n (s.m0 (ix2 i 0)) (s.s0 (ix2 i 0))
  r1 : ∀ i, Online (l1 i) n (s.m1 (ix2 i 0)) (s.s1 (ix2 i 0))
  tg : ∀ i, s.tg (ix2 i 0) = (part (l0 i) (t i) n : EReal)

/-- The contrastive logits. -/
def logit (u : Fin 512 → Fin 2048 → ℝ) (f : ℕ → Fin 2048 → ℝ) (i : Fin 512) (j : ℕ) : ℝ := (∑ k, u i k * f j k) * cc

theorem sum_sq_pos {x : Fin 2048 → ℝ} (h : ∃ k, x k ≠ 0) : 0 < ∑ k, x k * x k := by
  obtain ⟨k, hk⟩ := h
  exact Finset.sum_pos' (fun _ _ => mul_self_nonneg _) ⟨k, Finset.mem_univ _, mul_self_pos.mpr hk⟩

/-- A square is not negative, and that of an infinity is infinite. -/
theorem sq_nonneg (x : EReal) : 0 ≤ x * x := by
  induction x using EReal.rec with
  | bot => rw [EReal.bot_mul_bot]; exact le_top
  | top => rw [EReal.top_mul_top]; exact le_top
  | coe v => rw [← EReal.coe_mul]; exact EReal.coe_nonneg.mpr (mul_self_nonneg v)
theorem sq_top {x : EReal} (h : ¬∃ v : ℝ, x = (v : EReal)) : x * x = ⊤ := by
  induction x using EReal.rec with
  | bot => exact EReal.bot_mul_bot
  | top => exact EReal.top_mul_top
  | coe v => exact absurd ⟨v, rfl⟩ h

/-- A row that is not zero, scaled to length one: the same reals whether multiplied by the inverse root of its sum of squares
    or divided by the root. A row that holds an infinity becomes zero. -/
theorem direction (x : Fin 2048 → EReal) (hx : ∃ k, x k ≠ 0) :
    ∃ u : Fin 2048 → ℝ, ∀ k, x k * Ideal.rsqrt (∑ k, x k * x k) = ((u k : ℝ) : EReal)
      ∧ Ideal.div (x k) (Ideal.sqrt (∑ k, x k * x k)) = ((u k : ℝ) : EReal) := by
  by_cases h : ∀ k, ∃ v : ℝ, x k = (v : EReal)
  · choose v hv using h
    obtain ⟨k0, hk0⟩ := hx
    have hp : 0 < ∑ k, v k * v k := sum_sq_pos ⟨k0, fun h0 => hk0 (by rw [hv, h0, EReal.coe_zero])⟩
    have hS : ∑ k, x k * x k = ((∑ k, v k * v k : ℝ) : EReal) := sum_real fun k => by rw [hv, EReal.coe_mul]
    refine ⟨fun k => v k * (Real.sqrt (∑ k, v k * v k))⁻¹, fun k => ⟨?_, ?_⟩⟩
    · rw [hS, Ideal.rsqrt_coe, if_neg (not_lt.mpr hp.le), if_neg hp.ne', hv, ← EReal.coe_mul]
    · rw [hS, Ideal.sqrt_coe, if_neg (not_lt.mpr hp.le), hv, div_real _ (Real.sqrt_pos.mpr hp).ne']
      rfl
  · obtain ⟨k0, hk0⟩ := not_forall.mp h
    have hS : ∑ k, x k * x k = ⊤ := by
      rw [← Finset.add_sum_erase _ _ (Finset.mem_univ k0), sq_top hk0]
      exact EReal.top_add_of_ne_bot (ne_of_gt (lt_of_lt_of_le EReal.bot_lt_zero (Finset.sum_nonneg fun k _ => sq_nonneg _)))
    refine ⟨fun _ => 0, fun k => ⟨?_, ?_⟩⟩
    · rw [hS]
      exact (mul_zero (x k)).trans EReal.coe_zero.symm
    · rw [hS]
      refine (if_neg (show ¬(⊤ : EReal) = 0 from EReal.top_ne_zero)).trans ?_
      show x k * (⊤ : EReal)⁻¹ = ((0 : ℝ) : EReal)
      rw [EReal.inv_top, mul_zero, EReal.coe_zero]

/-- What the first point sets up. -/
theorem holds_init (u : Fin 512 → Fin 2048 → ℝ) (X : Vec Ideal S512x2048 .f32)
    (hu : ∀ i k, k1_pay5 (F := Ideal) X (ix2 i k) = ((u i k : ℝ) : EReal)) (z l0 l1 : Fin 512 → ℕ → ℝ) (t : Fin 512 → ℕ) :
    Holds u z l0 l1 t 0 (init X) := by
  obtain ⟨M, hM⟩ := ofBits_low
  have hp : ∀ w t, part w t 0 = 0 := fun w t => by simp [part]
  refine ⟨fun i k => ?_, fun i => ?_, fun i => ?_, fun i => ?_, fun i => ?_, fun i => ?_⟩
  · exact hu i k
  · have e1 : (init X).mo (ix2 i 0) = (M : EReal) := by rw [← hM]; show k1_pay6 (F := Ideal) (ix2 i 0) = _; pointwise [k1_pay6]
    have e2 : (init X).so (ix2 i 0) = 0 := by show k1_pay9 (F := Ideal) (ix2 i 0) = _; pointwise [k1_pay9]
    rw [e1, e2]; exact Online.start _ _
  · rw [hp]; show k1_pay17 (F := Ideal) (ix2 i 0) = _; pointwise [k1_pay17]; exact EReal.coe_zero.symm
  · have e1 : (init X).m0 (ix2 i 0) = (M : EReal) := by rw [← hM]; show k1_pay7 (F := Ideal) (ix2 i 0) = _; pointwise [k1_pay7]
    have e2 : (init X).s0 (ix2 i 0) = 0 := by show k1_pay10 (F := Ideal) (ix2 i 0) = _; pointwise [k1_pay10]
    rw [e1, e2]; exact Online.start _ _
  · have e1 : (init X).m1 (ix2 i 0) = (M : EReal) := by rw [← hM]; show k1_pay8 (F := Ideal) (ix2 i 0) = _; pointwise [k1_pay8]
    have e2 : (init X).s1 (ix2 i 0) = 0 := by show k1_pay16 (F := Ideal) k1_pay11 (ix2 i 0) = _; pointwise [k1_pay16, k1_pay11]
    rw [e1, e2]; exact Online.start _ _
  · rw [hp]; show k1_pay18 (F := Ideal) (ix2 i 0) = _; pointwise [k1_pay18]; exact EReal.coe_zero.symm

/-- What a point makes of them. -/
theorem holds_step {u : Fin 512 → Fin 2048 → ℝ} {f : ℕ → Fin 2048 → ℝ} {l0 l1 : Fin 512 → ℕ → ℝ} {t : Fin 512 → ℕ} {n : ℕ} {s : St Ideal}
    (h : Holds u (logit u f) l0 l1 t n s) (a : grid1.Coords) (ha : (a 0).val = n) (Tg : Vec Ideal S512x1 .i32)
    (hT : ∀ i, (Tg (ix2 i 0) : BitVec 32).toNat = t i) (Ft : Vec Ideal S512x2048 .f32)
    (hF : ∀ (j : Fin 512) k, Ft (ix2 j k) = ((f (512 * n + j.val) k : ℝ) : EReal)) (L0 L1 : Vec Ideal S512x512 .f32)
    (h0 : ∀ i (j : Fin 512), L0 (ix2 i j) = ((l0 i (512 * n + j.val) : ℝ) : EReal))
    (h1 : ∀ i (j : Fin 512), L1 (ix2 i j) = ((l1 i (512 * n + j.val) : ℝ) : EReal)) :
    Holds u (logit u f) l0 l1 t (n + 1) (step a Tg Ft L0 L1 s) := by
  have hz : ∀ i (j : Fin 512), k1_pay20 s.xs Ft (ix2 i j) = ((logit u f i (512 * n + j.val) : ℝ) : EReal) := fun i j => by
    rw [pay20_apply, sum_real (g := fun k => u i k * f (512 * n + j.val) k) (fun k => by rw [h.xs, hF, EReal.coe_mul]), ← EReal.coe_mul]
    rfl
  refine ⟨h.xs, fun i => ?_, fun i => ?_, fun i => ?_, fun i => ?_, fun i => ?_⟩
  · show Online _ _ (k1_pay23 (k1_pay21 s.xs Ft s.mo) _) (k1_pay22 s.xs Ft s.mo s.so _)
    rw [pay23_apply, pay22_apply, pay21_apply]
    exact (h.o i).next (hz i)
  · show k1_pay24 (k1_pay19 a Tg) (k1_pay20 s.xs Ft) s.th _ = _
    rw [pay24_apply]
    exact part_next _ _ n _ (fun j => pay19_apply a Tg i j n (t i) ha (hT i)) (hz i) (h.th i)
  · show Online _ _ (k1_pay27 L0 s.m0 _) (k1_pay26 L0 s.m0 s.s0 _)
    rw [pay27_apply, pay26_apply, pay25_apply]
    exact (h.r0 i).next (h0 i)
  · show Online _ _ (k1_pay4 L1 s.m1 _) (k1_pay3 L1 s.m1 s.s1 _)
    rw [pay4_apply, pay3_apply, pay2_apply]
    exact (h.r1 i).next (h1 i)
  · show k1_pay1 s.tg (k1_pay28 (k1_pay19 a Tg) L0) _ = _
    rw [pay1_apply]
    exact part_next _ _ n _ (fun j => pay19_apply a Tg i j n (t i) ha (hT i)) (h0 i) (h.tg i)

section Results

variable {u : Fin 512 → Fin 2048 → ℝ} {z l0 l1 : Fin 512 → ℕ → ℝ} {t : Fin 512 → ℕ} {s : St Ideal}

/-- The mean contrastive loss. -/
theorem out5_eq (h : Holds u z l0 l1 t 16 s) (ht : ∀ i, t i < 8192) :
    out5 s (ix2 0 0) = (((∑ i, (lse (z i) - z i (t i))) * (1 / 512) : ℝ) : EReal) := by
  have e : k1_pay14 (F := Ideal) s.mo s.so s.th (ix2 0 0)
      = (∑ x : Fin 512, ∑ _y : Fin 1, (s.mo (ix2 x 0) + Ideal.log (s.so (ix2 x 0)) - s.th (ix2 x 0))) * Ideal.ofBits .f32 0x3B000000#32 := by
    pointwise [k1_pay14]
  show k1_pay14 s.mo s.so s.th (ix2 0 0) = _
  rw [e, ofBits_b, sum_real (g := fun i => lse (z i) - z i (t i)) (fun i => by
    rw [Fin.sum_univ_one, (h.o i).last, h.th, part_last _ _ (ht i), EReal.coe_sub]), EReal.coe_mul]

/-- The logarithms of the rows' sums of exponentials. -/
theorem out6_eq (h : Holds u z l0 l1 t 16 s) (i : Fin 512) : out6 s (ix2 i 0) = ((lse (l0 i) : ℝ) : EReal) := by
  have e : k1_pay12 (F := Ideal) s.m0 s.s0 (ix2 i 0) = s.m0 (ix2 i 0) + Ideal.log (s.s0 (ix2 i 0)) := by pointwise [k1_pay12]
  show k1_pay12 s.m0 s.s0 (ix2 i 0) = _
  rw [e, (h.r0 i).last]
theorem out7_eq (h : Holds u z l0 l1 t 16 s) (i : Fin 512) : out7 s (ix2 i 0) = ((lse (l1 i) : ℝ) : EReal) := by
  have e : k1_pay13 (F := Ideal) s.m1 s.s1 (ix2 i 0) = s.m1 (ix2 i 0) + Ideal.log (s.s1 (ix2 i 0)) := by pointwise [k1_pay13]
  show k1_pay13 s.m1 s.s1 (ix2 i 0) = _
  rw [e, (h.r1 i).last]

/-- The sum of the targets' log-probabilities. -/
theorem out8_eq (h : Holds u z l0 l1 t 16 s) (ht : ∀ i, t i < 8192) :
    out8 s (ix2 0 0) = ((∑ i, (l0 i (t i) - lse (l0 i)) : ℝ) : EReal) := by
  have e : k1_pay15 (F := Ideal) s.m0 s.s0 s.tg (ix2 0 0)
      = ∑ x : Fin 512, ∑ _y : Fin 1, (s.tg (ix2 x 0) - k1_pay12 s.m0 s.s0 (ix2 x 0)) := by
    pointwise [k1_pay15]
  show k1_pay15 s.m0 s.s0 s.tg (ix2 0 0) = _
  rw [e, sum_real (g := fun i => l0 i (t i) - lse (l0 i)) (fun i => by
    rw [Fin.sum_univ_one, show k1_pay12 s.m0 s.s0 (ix2 i 0) = _ from out6_eq h i, h.tg, part_last _ _ (ht i), EReal.coe_sub])]

end Results

end Cert.Proof.Rows

end
-- ==== Proof.Matrices.lean ====
/-
  The two neighbour matrices the SparseCore call builds, over the reals.
-/
module

public import Idealize.ShloMosaic.Lib.Pointwise
public import proofs.«01_k».proof.Proof.Range
public import proofs.«01_k».proof.Proof.Rows

@[expose] public section

set_option maxRecDepth 16384

noncomputable section

namespace Cert.Proof.Matrices

open Cert.KernelIdeal Cert.KernelIdeal.Gen Cert.Proof.Setup Cert.Proof.BodyText Cert.Proof.TileSteps Cert.Proof.Tile Cert.Proof.Values
open Cert.Proof.Range Cert.Proof.Reals
open Cert.Proof.Rows (cc named_cc)
open Idealize.ShloMosaic
open Idealize.ShloMosaic.StableHlo (after)

/-- The word of row `l`, column `q` in a tile's accumulator. -/
def wd (l : Fin 16) (q : Fin 512) : S8192.Idx := ix1 (⟨512 * l.val + q.val, by have := l.isLt; have := q.isLt; omega⟩ : Fin 8192)

/-- Indexed stores with add, one lane after the other: a word one lane alone may name. -/
theorem fold_lane (idx : Fin 16 → S8192.Idx) (v : Fin 16 → EReal) (l : Fin 16) (y : S8192.Idx) (hl : ∀ k, idx k = y → k = l) :
    ∀ (L : List (Fin 16)), L.Nodup → ∀ f : S8192.Idx → EReal,
      (L.foldl (fun g k => fun j => if (∀ a, (j a).val = (idx k a).val) then g (idx k) + v k else g j) f) y
        = if l ∈ L ∧ idx l = y then f y + v l else f y
  | [], _, f => by simp
  | k :: L, hn, f => by
    rw [List.foldl_cons, fold_lane idx v l y hl L (List.nodup_cons.mp hn).2]
    have hk := (List.nodup_cons.mp hn).1
    have e : (∀ a, (y a).val = (idx k a).val) ↔ idx k = y := ⟨fun h => funext fun a => Fin.ext (h a).symm, fun h a => by rw [h]⟩
    by_cases hy : idx k = y
    · obtain rfl := hl k hy
      rw [if_neg (fun h => hk h.1), if_pos (e.mpr hy), if_pos ⟨List.mem_cons_self, hy⟩, hy]
    · simp only [if_neg (fun h => hy (e.mp h))]
      by_cases hc : l ∈ L ∧ idx l = y
      · rw [if_pos hc, if_pos ⟨List.mem_cons_of_mem _ hc.1, hc.2⟩]
      · rw [if_neg hc, if_neg]
        rintro ⟨hm, h'⟩
        rcases List.mem_cons.mp hm with rfl | hm
        · exact hy h'
        · exact hc ⟨hm, h'⟩

theorem lane1_eq (l : Fin 16) : lane1 (ix1 l) = ix2 0 l := by
  funext a; match a with | ⟨0, _⟩ => rfl | ⟨1, _⟩ => rfl

/-- One row scattered, at one word. -/
theorem scatRow_apply (nb : Vec Ideal S1x16 .i32) (hn : ∀ y, (nb y : BitVec 32).toNat < 512) (v : FVec Ideal S16 .f32) (f : Vec Ideal S8192 .f32)
    (l : Fin 16) (q : Fin 512) :
    scatRow nb v f (wd l q) = f (wd l q) + if (nb (ix2 0 l) : BitVec 32).toNat = q.val then v (ix1 l) else 0 := by
  have hf := flat_lt (F := Ideal) nb hn
  have hc : k0_chk1 (flat (F := Ideal) nb) := ⟨fun a x => match a with | ⟨0, _⟩ => hf x, fun a x => match a with | ⟨0, _⟩ => hf x⟩
  have hv : ∀ k : Fin 16, (flat (F := Ideal) nb (ix1 k) : BitVec 32).toNat = 512 * k.val + (nb (ix2 0 k) : BitVec 32).toNat := fun k => by
    rw [flat_apply, lane1_eq]
    have h1 := hn (ix2 0 k)
    have h2 := k.isLt
    show (BitVec.ofNat 32 k.val * 512#32 + nb (ix2 0 k)).toNat = _
    generalize (nb (ix2 0 k) : BitVec 32) = v at h1 ⊢
    rw [BitVec.toNat_add, BitVec.toNat_mul, BitVec.toNat_ofNat, BitVec.toNat_ofNat]
    omega
  let idx : Fin 16 → S8192.Idx := fun k => ix1 (⟨(flat (F := Ideal) nb (ix1 k) : BitVec 32).toNat, hf (ix1 k)⟩ : Fin 8192)
  have hi : ∀ k (l : Fin 16) (q : Fin 512), idx k = wd l q ↔ k = l ∧ (nb (ix2 0 k) : BitVec 32).toNat = q.val := fun k l q => by
    have h1 := hn (ix2 0 k)
    have h2 := q.isLt
    constructor
    · intro h
      have h' : (flat (F := Ideal) nb (ix1 k) : BitVec 32).toNat = 512 * l.val + q.val := congrArg Fin.val (congrFun h 0)
      rw [hv] at h'
      exact ⟨Fin.ext (by omega), by omega⟩
    · rintro ⟨rfl, h⟩
      have h' : (flat (F := Ideal) nb (ix1 k) : BitVec 32).toNat = 512 * k.val + q.val := by rw [hv, h]
      funext a
      match a with | ⟨0, _⟩ => exact Fin.ext h'
  rw [scatRow_of nb v hc]
  have e : storeIdx f ![flat (F := Ideal) nb] v (fun _ => 1#1) true (k0_idx1_inb (flat (F := Ideal) nb) hc)
      = (List.finRange 16).foldl (fun g k => fun j => if (∀ a, (j a).val = (idx k a).val) then g (idx k) + v (ix1 k) else g j) f := by
    unfold storeIdx
    refine congrArg (fun F => List.foldl F f (List.finRange 16)) (funext fun g => funext fun k => ?_)
    have ea : idxAt ![flat (F := Ideal) nb] (k0_idx1_inb (flat (F := Ideal) nb) hc) (Shape.ofLane (d := ![16]) k) = idx k := by
      funext a
      match a with | ⟨0, _⟩ => exact Fin.ext (congrArg (fun x => (flat (F := Ideal) nb x : BitVec 32).toNat) (funext fun b => match b with | ⟨0, _⟩ => rfl))
    have eb : (Shape.ofLane (d := ![16]) k : S16.Idx) = ix1 k := funext fun b => match b with | ⟨0, _⟩ => rfl
    refine (if_pos (show ((fun _ : S16.Idx => 1#1) (Shape.ofLane (d := ![16]) k) : BitVec 1) = 1 from rfl)).trans ?_
    rw [ea, eb]
    funext j
    by_cases h : ∀ a, (j a).val = (idx k a).val
    · exact (if_pos h).trans (if_pos h).symm
    · exact (if_neg h).trans (if_neg h).symm
  show storeIdx f ![flat (F := Ideal) nb] v (fun _ => 1#1) true (k0_idx1_inb (flat (F := Ideal) nb) hc) (wd l q) = _
  rw [e, fold_lane idx (fun k => v (ix1 k)) l (wd l q) (fun k h => ((hi k l q).mp h).1) _ (List.nodup_finRange 16)]
  by_cases h : (nb (ix2 0 l) : BitVec 32).toNat = q.val
  · rw [if_pos h, if_pos ⟨List.mem_finRange l, (hi l l q).mpr ⟨rfl, h⟩⟩]
  · rw [if_neg h, if_neg (fun h' => h ((hi l l q).mp h'.2).2), add_zero]

theorem rowOf_apply {e : EltTy} (k : ℕ) (h : k < 20) (f : Vec Ideal S20x16 e) (l : Fin 16) :
    rowOf k h f (ix2 0 l) = f (ix2 (⟨k, h⟩ : Fin 20) l) := by
  show f _ = f _
  congr 1
  funext a
  apply Fin.ext
  match a with
  | ⟨0, _⟩ => show k + 1 * 0 = k; omega
  | ⟨1, _⟩ => show 0 + 1 * l.val = l.val; omega

theorem expRow_apply (d : Vec Ideal S1x16 .f32) (l : Fin 16) (r : ℝ) (h : d (ix2 0 l) = (r : EReal)) :
    expRow d (ix1 l) = ((Real.exp (r * cc) : ℝ) : EReal) := by
  have e : expRow (F := Ideal) d (ix1 l) = Ideal.exp (d (ix2 0 l) * (cc : EReal)) := by
    rw [← named_cc]; pointwise [expRow]
  rw [e, h, ← EReal.coe_mul, Ideal.exp_coe]

variable {ds : Vec Ideal S20x16 .f32} {D : ℕ → Fin 16 → ℝ} (hD : ∀ k (h : k < 20) l, ds (ix2 (⟨k, h⟩ : Fin 20) l) = ((D k l : ℝ) : EReal))
include hD

theorem expRow_row (k : ℕ) (h : k < 20) (l : Fin 16) : expRow (rowOf k h ds) (ix1 l) = ((Real.exp (D k l * cc) : ℝ) : EReal) :=
  expRow_apply _ l _ (by rw [rowOf_apply, hD])

theorem sumOf_apply (l : Fin 16) : ∀ (n k : ℕ) (h : k + n ≤ 20) (acc : FVec Ideal S16 .f32) (a : ℝ), acc (ix1 l) = (a : EReal) →
    sumOf ds n k h acc (ix1 l) = ((a + ∑ j ∈ Finset.range n, Real.exp (D (k + j) l * cc) : ℝ) : EReal)
  | 0, k, h, acc, a, ha => by simpa [sumOf] using ha
  | n + 1, k, h, acc, a, ha => by
    have e := sumOf_apply l n (k + 1) (by omega) (addf acc (expRow (rowOf k (by omega) ds))) (a + Real.exp (D k l * cc)) (by
      show acc (ix1 l) + expRow (rowOf k (by omega) ds) (ix1 l) = _
      rw [ha, expRow_row hD, EReal.coe_add])
    rw [sumOf, e, Finset.sum_range_succ', add_assoc, add_comm (Real.exp _)]
    simp only [Nat.add_zero, Nat.add_assoc, Nat.add_comm 1]

variable {nb : Vec Ideal S20x16 .i32} {N : ℕ → Fin 16 → ℕ} (hN : ∀ k (h : k < 20) l, (nb (ix2 (⟨k, h⟩ : Fin 20) l) : BitVec 32).toNat = N k l)
  (hlt : ∀ y, (nb y : BitVec 32).toNat < 512)
include hN hlt

theorem scatA_apply (l : Fin 16) (q : Fin 512) (c : FVec Ideal S16 .f32) (r : ℝ) (hc : c (ix1 l) = (r : EReal)) :
    ∀ (n k : ℕ) (h : k + n ≤ 20) (f : Vec Ideal S8192 .f32) (a : ℝ), f (wd l q) = (a : EReal) →
      scatA nb ds c n k h f (wd l q) = ((a + ∑ j ∈ Finset.range n, if N (k + j) l = q.val then Real.exp (D (k + j) l * cc) * r else 0 : ℝ) : EReal)
  | 0, k, h, f, a, ha => by simpa [scatA] using ha
  | n + 1, k, h, f, a, ha => by
    have e := scatA_apply l q c r hc n (k + 1) (by omega) (scatRow (rowOf k (by omega) nb) (mulf (expRow (rowOf k (by omega) ds)) c) f)
      (a + if N k l = q.val then Real.exp (D k l * cc) * r else 0) (by
        rw [scatRow_apply (rowOf k (by omega) nb) (fun y => hlt _), rowOf_apply, hN, ha]
        show (a : EReal) + (if N k l = q.val then expRow (rowOf k (by omega) ds) (ix1 l) * c (ix1 l) else 0) = _
        rw [expRow_row hD, hc]
        by_cases hq : N k l = q.val
        · rw [if_pos hq, if_pos hq, EReal.coe_add, EReal.coe_mul]
        · rw [if_neg hq, if_neg hq, EReal.coe_add, EReal.coe_zero])
    rw [scatA, e, Finset.sum_range_succ', add_assoc, add_comm (ite _ _ _)]
    simp only [Nat.add_zero, Nat.add_assoc, Nat.add_comm 1]

theorem tileA_apply (l : Fin 16) (q : Fin 512) :
    tileA nb ds (wd l q) = ((∑ j ∈ Finset.range 20, if N j l = q.val then
      Real.exp (D j l * cc) * ((1 / 2) / ∑ j ∈ Finset.range 20, Real.exp (D j l * cc)) else 0 : ℝ) : EReal) := by
  have hs := sumOf_apply hD l 20 0 (by decide) k0_pay5 0 (by
    rw [EReal.coe_zero]; show Ideal.ofBits .f32 0x00000000#32 = 0; pointwise [])
  have hp : 0 < ∑ j ∈ Finset.range 20, Real.exp (D j l * cc) := Finset.sum_pos (fun _ _ => Real.exp_pos _) ⟨0, by decide⟩
  simp only [zero_add] at hs
  have hc : halfInv (sumOf ds 20 0 (by decide) k0_pay5) (ix1 l) = (((1 / 2) / ∑ j ∈ Finset.range 20, Real.exp (D j l * cc) : ℝ) : EReal) := by
    show Ideal.div (Ideal.ofBits .f32 0x3F000000#32) (sumOf ds 20 0 (by decide) k0_pay5 (ix1 l)) = _
    rw [hs, ofBits_half, div_real _ hp.ne']
  have e := scatA_apply hD hN hlt l q _ _ hc 20 0 (by decide) zeroAcc 0 (by
    rw [EReal.coe_zero]; show Ideal.ofBits .f32 0x00000000#32 = 0; pointwise [])
  simp only [zero_add] at e
  exact e

omit hD

theorem scatM_apply (l : Fin 16) (q : Fin 512) :
    ∀ (n k : ℕ) (h : k + n ≤ 20) (f : Vec Ideal S8192 .f32) (a : ℝ), f (wd l q) = (a : EReal) →
      scatM (F := Ideal) nb n k h f (wd l q) = ((a + ∑ j ∈ Finset.range n, if N (k + j) l = q.val then (1 / 20 : ℝ) else 0 : ℝ) : EReal)
  | 0, k, h, f, a, ha => by simpa [scatM] using ha
  | n + 1, k, h, f, a, ha => by
    have ht : twentieth (F := Ideal) (ix1 l) = ((1 / 20 : ℝ) : EReal) := by
      show Named.named (F := Ideal) (φ := .f32) κ "one_neighbor" 0x3D4CCCCD#32 = _
      exact IdealRules.named_const.ideal_named_scalar _ _ _ _ rfl
    have e := scatM_apply l q n (k + 1) (by omega) (scatRow (rowOf k (by omega) nb) twentieth f)
      (a + if N k l = q.val then (1 / 20 : ℝ) else 0) (by
        rw [scatRow_apply (rowOf k (by omega) nb) (fun y => hlt _), rowOf_apply, hN, ha, ht]
        by_cases hq : N k l = q.val
        · rw [if_pos hq, if_pos hq, EReal.coe_add]
        · rw [if_neg hq, if_neg hq, EReal.coe_add, EReal.coe_zero])
    rw [scatM, e, Finset.sum_range_succ', add_assoc, add_comm (ite _ _ _)]
    simp only [Nat.add_zero, Nat.add_assoc, Nat.add_comm 1]

theorem tileM_apply (l : Fin 16) (q : Fin 512) :
    tileM (F := Ideal) nb (wd l q) = ((∑ j ∈ Finset.range 20, if N j l = q.val then (1 / 20 : ℝ) else 0 : ℝ) : EReal) := by
  have e := scatM_apply hN hlt l q 20 0 (by decide) zeroAcc 0 (by
    rw [EReal.coe_zero]; show Ideal.ofBits .f32 0x00000000#32 = 0; pointwise [])
  simp only [zero_add] at e
  exact e

end Cert.Proof.Matrices

end
-- ==== Proof.Entries.lean ====
/-
  The two neighbour matrices as the second TensorCore call takes them, entry by entry, from the operands.
-/
module

public import proofs.«01_k».proof.Proof.Matrices

@[expose] public section

set_option maxRecDepth 16384

noncomputable section

namespace Cert.Proof.Entries

open Cert.KernelIdeal Cert.KernelIdeal.Gen Cert.Proof.Setup Cert.Proof.BodyText Cert.Proof.TileSteps Cert.Proof.Tile Cert.Proof.Values
open Cert.Proof.Range Cert.Proof.Reals Cert.Proof.Matrices
open Cert.Proof.Rows (cc named_cc)
open Idealize.ShloMosaic
open Idealize.ShloMosaic.StableHlo (after)

/-- The weight of neighbour row `q` for query `i`: half the softmax weight of every slot that names it. -/
def wA (N : Fin 512 → ℕ → ℕ) (D : Fin 512 → ℕ → ℝ) (i q : Fin 512) : ℝ :=
  ∑ k ∈ Finset.range 20, if N i k = q.val then Real.exp (D i k * cc) * ((1 / 2) / ∑ k ∈ Finset.range 20, Real.exp (D i k * cc)) else 0
/-- One twentieth for every slot that names it. -/
def wM (N : Fin 512 → ℕ → ℕ) (i q : Fin 512) : ℝ := ∑ k ∈ Finset.range 20, if N i k = q.val then (1 / 20 : ℝ) else 0

/-- The number of a tile's plane. -/
def plane (L : grid0.Coords) : Fin 32 := ⟨2 * (L 1).val + (L 0).val, by
  have h0 : (L 0).val < 2 := (L 0).isLt
  have h1 : (L 1).val < 16 := (L 1).isLt
  omega⟩

theorem planeN_apply (L : grid0.Coords) (f : Vec Ideal S32x20x16 .i32) (k : Fin 20) (l : Fin 16) :
    planeN L f (ix2 k l) = f (ix3 (plane L) k l) := by
  have hc : (inRect L).shape.ShapeCasts S20x16 := show S1x20x16.ShapeCasts S20x16 by decide
  refine (congrFun (Memref.read_squeeze_slice (Val := Elt Ideal) (Memref.whole main_v3_scv) (inRect L) (fun _ => rfl) squeezes_S1x20x16_S20x16 hc f) (ix2 k l)).trans ?_
  refine (shapeCast_apply _ hc (ix2 k l) (ix3 (0 : Fin 1) k l) (by
    rw [Shape.rowMajor_val_three, Shape.rowMajor_val_two]; show (0 * 20 + k.val) * 16 + l.val = k.val * 16 + l.val; omega)).trans ?_
  show f _ = f _
  congr 1
  funext a
  apply Fin.ext
  have e := k0_off1_eq L
  match a with
  | ⟨0, _⟩ => show k0_off1 L 0 + 1 * 0 = 2 * (L 1).val + (L 0).val; rw [e]; rfl
  | ⟨1, _⟩ => show k0_off1 L 1 + 1 * k.val = k.val; rw [e]; show 0 + 1 * k.val = k.val; omega
  | ⟨2, _⟩ => show k0_off1 L 2 + 1 * l.val = l.val; rw [e]; show 0 + 1 * l.val = l.val; omega

theorem planeD_apply (L : grid0.Coords) (f : Vec Ideal S32x20x16 .f32) (k : Fin 20) (l : Fin 16) :
    planeD L f (ix2 k l) = f (ix3 (plane L) k l) := by
  have hc : (inRect L).shape.ShapeCasts S20x16 := show S1x20x16.ShapeCasts S20x16 by decide
  refine (congrFun (Memref.read_squeeze_slice (Val := Elt Ideal) (Memref.whole main_v6_scv) (inRect L) (fun _ => rfl) squeezes_S1x20x16_S20x16 hc f) (ix2 k l)).trans ?_
  refine (shapeCast_apply _ hc (ix2 k l) (ix3 (0 : Fin 1) k l) (by
    rw [Shape.rowMajor_val_three, Shape.rowMajor_val_two]; show (0 * 20 + k.val) * 16 + l.val = k.val * 16 + l.val; omega)).trans ?_
  show f _ = f _
  congr 1
  funext a
  apply Fin.ext
  have e := k0_off1_eq L
  match a with
  | ⟨0, _⟩ => show k0_off1 L 0 + 1 * 0 = 2 * (L 1).val + (L 0).val; rw [e]; rfl
  | ⟨1, _⟩ => show k0_off1 L 1 + 1 * k.val = k.val; rw [e]; show 0 + 1 * k.val = k.val; omega
  | ⟨2, _⟩ => show k0_off1 L 2 + 1 * l.val = l.val; rw [e]; show 0 + 1 * l.val = l.val; omega

/-- The operand the planes are cut from: query row `16 w + l` is lane `l` of plane `w`. -/
theorem rearr {e : EltTy} (x : Vec Ideal S512x20 e) (h1 : S512x20.Transposes [1, 0] S20x512) (h2 : S20x512.ShapeCasts S20x32x16)
    (h3 : S20x32x16.Transposes [1, 0, 2] S32x20x16) (w : Fin 32) (k : Fin 20) (l : Fin 16) (i : Fin 512) (hi : i.val = 16 * w.val + l.val) :
    transpose S32x20x16 [1, 0, 2] (shapeCast S20x32x16 (transpose S20x512 [1, 0] x h1) h2) h3 (ix3 w k l) = x (ix2 i k) := by
  rw [transpose_apply _ _ _ (ix3 w k l) (ix3 k w l) (by intro b; match b with | ⟨0, _⟩ => rfl | ⟨1, _⟩ => rfl | ⟨2, _⟩ => rfl),
    shapeCast_apply _ _ (ix3 k w l) (ix2 k i) (by
      rw [Shape.rowMajor_val_three, Shape.rowMajor_val_two]; show k.val * 512 + i.val = (k.val * 32 + w.val) * 16 + l.val; omega),
    transpose_apply _ _ _ (ix2 k i) (ix2 i k) (by intro b; match b with | ⟨0, _⟩ => rfl | ⟨1, _⟩ => rfl)]

variable (m : (ℓ : Loc nD τ sig) → Buf (Elt Ideal) ℓ) (d : Dev nD)

theorem fN_apply (w : Fin 32) (k : Fin 20) (l : Fin 16) (i : Fin 512) (hi : i.val = 16 * w.val + l.val) :
    fN m d (ix3 w k l) = (m (d, r main_arg5) : Vec Ideal S512x20 .i32) (ix2 i k) := by
  unfold fN V1 ops1
  after_results_simp
  exact rearr _ _ _ _ w k l i hi

theorem fD_apply (w : Fin 32) (k : Fin 20) (l : Fin 16) (i : Fin 512) (hi : i.val = 16 * w.val + l.val) :
    fD m d (ix3 w k l) = (m (d, r main_arg6) : Vec Ideal S512x20 .f32) (ix2 i k) := by
  unfold fD V1 ops1
  after_results_simp
  exact rearr _ _ _ _ w k l i hi

/-- The word of entry `(i, q)` of a matrix laid out flat. -/
def wordOf (i q : Fin 512) : S262144.Idx := ix1 (⟨512 * i.val + q.val, by have := i.isLt; have := q.isLt; omega⟩ : Fin 262144)

theorem plane_word (i q : Fin 512) : (plane (tileOf (wordOf i q))).val = i.val / 16 := by
  show 2 * ((512 * i.val + q.val) / 16384) + (512 * i.val + q.val) / 8192 % 2 = i.val / 16
  have := i.isLt; have := q.isLt; omega
theorem inTile_word (i q : Fin 512) : inTile (wordOf i q) = wd ⟨i.val % 16, by omega⟩ q := by
  funext a
  apply Fin.ext
  match a with
  | ⟨0, _⟩ => show (512 * i.val + q.val) % 8192 = 512 * (i.val % 16) + q.val; have := q.isLt; omega

theorem flat_row {e : EltTy} (x : Vec Ideal S262144 e) (h : S262144.ShapeCasts S512x512) (i q : Fin 512) :
    shapeCast S512x512 x h (ix2 i q) = x (wordOf i q) :=
  shapeCast_apply _ _ (ix2 i q) (wordOf i q) (by
    rw [Shape.rowMajor_val_one, Shape.rowMajor_val_two]; show 512 * i.val + q.val = i.val * 512 + q.val; omega)

variable (N : Fin 512 → ℕ → ℕ) (D : Fin 512 → ℕ → ℝ)
  (hN : ∀ i k (h : k < 20), ((m (d, r main_arg5) : Vec Ideal S512x20 .i32) (ix2 i (⟨k, h⟩ : Fin 20)) : BitVec 32).toNat = N i k)
  (hlt : ∀ y, ((m (d, r main_arg5) : Vec Ideal S512x20 .i32) y : BitVec 32).toNat < 512)
include hN hlt

/-- The row of lane `l` of the plane that holds row `i`. -/
def mate (i : Fin 512) (l : Fin 16) : Fin 512 := ⟨16 * (i.val / 16) + l.val, by have := i.isLt; have := l.isLt; omega⟩
omit hN hlt in
theorem mate_self (i : Fin 512) : mate i ⟨i.val % 16, by omega⟩ = i := Fin.ext (by show 16 * (i.val / 16) + i.val % 16 = i.val; omega)

theorem planeN_lt (L : grid0.Coords) (y : S20x16.Idx) : (planeN L (fN m d) y : BitVec 32).toNat < 512 := by
  obtain ⟨z, hz⟩ := fN_mem m d ((nK L).view.emb y)
  have e : (planeN L (fN m d) y : BitVec 32) = (m (d, r main_arg5) : Vec Ideal S512x20 .i32) z := hz
  rw [e]; exact hlt z

theorem planeN_word (i q : Fin 512) (k : ℕ) (h : k < 20) (l : Fin 16) :
    (planeN (tileOf (wordOf i q)) (fN m d) (ix2 (⟨k, h⟩ : Fin 20) l) : BitVec 32).toNat = N (mate i l) k := by
  rw [planeN_apply, fN_apply m d _ _ _ (mate i l) (by rw [plane_word]; rfl), hN]

theorem entryM (i q : Fin 512) : (V3 m d (r main_v9) : Vec Ideal S512x512 .f32) (ix2 i q) = ((wM N i q : ℝ) : EReal) := by
  unfold V3 ops2
  after_results_simp
  refine (flat_row _ _ i q).trans ?_
  rw [V2_m]
  unfold arrM
  rw [inTile_word, tileM_apply (N := fun k l => N (mate i l) k) (planeN_word m d N hN hlt i q) (planeN_lt m d N hN hlt _) _ q]
  simp only [mate_self]
  rfl

variable (hD : ∀ i k (h : k < 20), (m (d, r main_arg6) : Vec Ideal S512x20 .f32) (ix2 i (⟨k, h⟩ : Fin 20)) = ((D i k : ℝ) : EReal))
include hD

theorem planeD_word (i q : Fin 512) (k : ℕ) (h : k < 20) (l : Fin 16) :
    planeD (tileOf (wordOf i q)) (fD m d) (ix2 (⟨k, h⟩ : Fin 20) l) = ((D (mate i l) k : ℝ) : EReal) := by
  rw [planeD_apply, fD_apply m d _ _ _ (mate i l) (by rw [plane_word]; rfl), hD]

theorem entryA (i q : Fin 512) : (V3 m d (r main_v8) : Vec Ideal S512x512 .f32) (ix2 i q) = ((wA N D i q : ℝ) : EReal) := by
  unfold V3 ops2
  after_results_simp
  refine (flat_row _ _ i q).trans ?_
  rw [V2_a]
  unfold arrA
  rw [inTile_word, tileA_apply (D := fun k l => D (mate i l) k) (planeD_word m d N D hN hlt hD i q) (N := fun k l => N (mate i l) k)
    (planeN_word m d N hN hlt i q) (planeN_lt m d N hN hlt _) _ q]
  simp only [mate_self]
  rfl

end Cert.Proof.Entries

end
-- ==== Proof.KernelValues.lean ====
/-
  The three results of the kernel over the reals, from its arguments.
-/
module

public import Idealize.ShloMosaic.Lib.Pointwise
public import proofs.«01_k».proof.Proof.Blocks
public import proofs.«01_k».proof.Proof.LossRows
public import proofs.«01_k».proof.Proof.Entries

@[expose] public section

set_option maxRecDepth 16384

noncomputable section

namespace Cert.Proof.KernelValues

open Cert.KernelIdeal Cert.KernelIdeal.Gen Cert.Proof.Setup Cert.Proof.Reals Cert.Proof.Values Cert.Proof.Blocks
open Cert.Proof.Rows (logit)
open Cert.Proof.LossRows (ceOf klOf)
open Cert.Proof.Entries (wA wM)
open Idealize.ShloMosaic
open Idealize.ShloMosaic.StableHlo (after)

variable (m : (ℓ : Loc nD τ sig) → Buf (Elt Ideal) ℓ) (d : Dev nD)

/-- An array the first two stretches leave alone holds what it held at the start. -/
theorem V3_arg (b : Ref sig .tc)
    (hb : b ∉ [main_v0, main_v1, main_v2, main_v3, main_v4, main_v5, main_v6, main_v7_0, main_v7_1, main_v8, main_v9]) :
    byRef (V3 m) d b = m (d, r b) := by
  simp only [List.mem_cons, not_or, List.not_mem_nil, not_false_eq_true, and_true] at hb
  obtain ⟨h0, h1, h2, h3, h4, h5, h6, h70, h71, h8, h9⟩ := hb
  have e3 : V3 m d (r b) = V2 m d (r b) :=
    StableHlo.after_unwritten [main_v8, main_v9] rfl
      (by simp only [List.mem_cons, not_or, List.not_mem_nil, not_false_eq_true, and_true]; exact ⟨h8, h9⟩) _
  have e1 : V1 m d (r b) = V0 m d (r b) :=
    StableHlo.after_unwritten [main_v0, main_v1, main_v2, main_v3, main_v4, main_v5, main_v6] rfl
      (by simp only [List.mem_cons, not_or, List.not_mem_nil, not_false_eq_true, and_true]; exact ⟨h0, h1, h2, h3, h4, h5, h6⟩) _
  show V3 m d (r b) = _
  rw [e3, V2_ne m d (r b) (r_ne h70) (r_ne h71), e1]
  rfl

/-- The targets as a column. -/
theorem V3_targets (i : Fin 512) :
    (byRef (V3 m) d main_v0 : Vec Ideal S512x1 .i32) (ix2 i 0) = (m (d, r main_arg3) : Vec Ideal S512 .i32) (ix1 i) := by
  have e3 : V3 m d (r main_v0) = V2 m d (r main_v0) :=
    StableHlo.after_unwritten [main_v8, main_v9] rfl (by decide) _
  have e1 : (V1 m d (r main_v0) : Vec Ideal S512x1 .i32) (ix2 i 0) = (m (d, r main_arg3) : Vec Ideal S512 .i32) (ix1 i) := by
    unfold V1 ops1
    after_results_simp
    exact shapeCast_apply _ shapeCasts_S512_S512x1 (ix2 i (0 : Fin 1)) (ix1 i) (by
      rw [Shape.rowMajor_val_one, Shape.rowMajor_val_two]; show i.val = i.val * 1 + 0; omega)
  show (V3 m d (r main_v0) : Vec Ideal S512x1 .i32) (ix2 i 0) = _
  rw [e3, V2_ne m d (r main_v0) (r_ne (by decide)) (r_ne (by decide)), e1]

/-- The one element of a one-element matrix, read as a scalar. -/
theorem scalar (v : Vec Ideal S1x1 .f32) (y : S_.Idx) : shapeCast S_ v shapeCasts_S1x1_S_ y = v (ix2 (0 : Fin 1) (0 : Fin 1)) :=
  shapeCast_apply _ shapeCasts_S1x1_S_ y (ix2 (0 : Fin 1) (0 : Fin 1)) (by
    have e : S_.numel = 1 := by decide
    have := (Shape.rowMajor S_ y).isLt
    rw [Shape.rowMajor_val_two]
    show 0 * 1 + 0 = _
    omega)

/-- The queries scale to reals, and the other arguments hold reals: features, two arrays of logits, targets and neighbours
    in range, distances. -/
structure Args (u : Fin 512 → Fin 2048 → ℝ) (f : ℕ → Fin 2048 → ℝ) (l0 l1 : Fin 512 → ℕ → ℝ) (t : Fin 512 → ℕ)
    (N : Fin 512 → ℕ → ℕ) (D : Fin 512 → ℕ → ℝ) : Prop where
  dir : ∀ i k, k1_pay5 (F := Ideal) (m (d, r main_arg0) : Vec Ideal S512x2048 .f32) (ix2 i k) = ((u i k : ℝ) : EReal)
  feat : ∀ (j : Fin 8192) k, (m (d, r main_arg8) : Vec Ideal S8192x2048 .f32) (ix2 j k) = ((f j.val k : ℝ) : EReal)
  lg0 : ∀ i (j : Fin 8192), (m (d, r main_arg1) : Vec Ideal S512x8192 .f32) (ix2 i j) = ((l0 i j.val : ℝ) : EReal)
  lg1 : ∀ i (j : Fin 8192), (m (d, r main_arg2) : Vec Ideal S512x8192 .f32) (ix2 i j) = ((l1 i j.val : ℝ) : EReal)
  tgt : ∀ i, ((m (d, r main_arg3) : Vec Ideal S512 .i32) (ix1 i) : BitVec 32).toNat = t i
  tlt : ∀ i, t i < 8192
  nbr : ∀ i k (h : k < 20), ((m (d, r main_arg5) : Vec Ideal S512x20 .i32) (ix2 i (⟨k, h⟩ : Fin 20)) : BitVec 32).toNat = N i k
  nlt : ∀ y, ((m (d, r main_arg5) : Vec Ideal S512x20 .i32) y : BitVec 32).toNat < 512
  dist : ∀ i k (h : k < 20), (m (d, r main_arg6) : Vec Ideal S512x20 .f32) (ix2 i (⟨k, h⟩ : Fin 20)) = ((D i k : ℝ) : EReal)

variable {m d} {u : Fin 512 → Fin 2048 → ℝ} {f : ℕ → Fin 2048 → ℝ} {l0 l1 : Fin 512 → ℕ → ℝ} {t : Fin 512 → ℕ}
  {N : Fin 512 → ℕ → ℕ} {D : Fin 512 → ℕ → ℝ} (h : Args m d u f l0 l1 t N D)
include h

/-- One point of the first TensorCore call takes in one block of columns. -/
theorem stats_step (n : ℕ) (hn : n < 16) (s : Stats.St Ideal) (hs : Rows.Holds u (logit u f) l0 l1 t n s) :
    Rows.Holds u (logit u f) l0 l1 t (n + 1) (StatsData.stepAt (byRef (V3 m)) d (StatsData.pt n) s) := by
  have hp : (StatsData.pt n).val = n := Nat.mod_eq_of_lt hn
  have hb : ∀ j : Fin 512, 512 * (StatsData.pt n).val + j.val < 8192 := fun j => by rw [hp]; omega
  have hj : ∀ j : Fin 512, 512 * (StatsData.pt n).val + j.val = 512 * n + j.val := fun j => by rw [hp]
  refine Rows.holds_step hs _ ((coord1 _).trans hp) _ (fun i => ?_) _ (fun j k => ?_) _ _ (fun i j => ?_) (fun i j => ?_)
  · refine (congrArg BitVec.toNat ((blk1_1 (byRef (V3 m)) d _ i 0).trans (V3_targets m d i))).trans (h.tgt i)
  · refine (blk1_2 (byRef (V3 m)) d _ j k (hb j)).trans ((congrFun (V3_arg m d main_arg8 (by decide)) _).trans ((h.feat _ k).trans ?_))
    show ((f (512 * (StatsData.pt n).val + j.val) k : ℝ) : EReal) = _
    rw [hj]
  · refine (blk1_3 (byRef (V3 m)) d _ i j (hb j)).trans ((congrFun (V3_arg m d main_arg1 (by decide)) _).trans ((h.lg0 i _).trans ?_))
    show ((l0 i (512 * (StatsData.pt n).val + j.val) : ℝ) : EReal) = _
    rw [hj]
  · refine (blk1_4 (byRef (V3 m)) d _ i j (hb j)).trans ((congrFun (V3_arg m d main_arg2 (by decide)) _).trans ((h.lg1 i _).trans ?_))
    show ((l1 i (512 * (StatsData.pt n).val + j.val) : ℝ) : EReal) = _
    rw [hj]

omit h in
/-- The first TensorCore call's first block is the queries. -/
theorem block0 (p : Fin cfg1.N) : StatsData.blk (byRef (V3 m)) d 0 p = (m (d, r main_arg0) : Vec Ideal S512x2048 .f32) := by
  funext y
  obtain ⟨i, k, rfl⟩ : ∃ (i : Fin 512) (k : Fin 2048), y = ix2 i k :=
    ⟨y 0, y 1, funext fun a => match a with | ⟨0, _⟩ => rfl | ⟨1, _⟩ => rfl⟩
  exact (blk1_0 (byRef (V3 m)) d _ i k).trans (congrFun (V3_arg m d main_arg0 (by decide)) _)

/-- The first TensorCore call after its points. -/
theorem stats_holds : ∀ n < 16, Rows.Holds u (logit u f) l0 l1 t (n + 1) (StatsData.state (byRef (V3 m)) d n)
  | 0, h0 => stats_step h 0 h0 _ (Rows.holds_init u _ (fun i k => by rw [block0]; exact h.dir i k) _ _ _ _)
  | n + 1, hn => stats_step h (n + 1) hn _ (stats_holds n (by omega))

/-- What the first TensorCore call leaves: the mean contrastive loss, the two columns of logarithms of sums and the sum of
    the targets' log-probabilities. -/
theorem stats_out :
    (byRef (V4 m) d main_v10_0 : Vec Ideal S1x1 .f32) (ix2 0 0)
        = (((∑ i, (lse (logit u f i) - logit u f i (t i))) * (1 / 512) : ℝ) : EReal)
    ∧ (∀ i : Fin 512, (byRef (V4 m) d main_v10_1 : Vec Ideal S512x1 .f32) (ix2 i 0) = ((lse (l0 i) : ℝ) : EReal))
    ∧ (∀ i : Fin 512, (byRef (V4 m) d main_v10_2 : Vec Ideal S512x1 .f32) (ix2 i 0) = ((lse (l1 i) : ℝ) : EReal))
    ∧ (byRef (V4 m) d main_v10_3 : Vec Ideal S1x1 .f32) (ix2 0 0) = ((∑ i, (l0 i (t i) - lse (l0 i)) : ℝ) : EReal) := by
  have hs := stats_holds h 15 (by norm_num)
  obtain ⟨e0, e1, e2, e3⟩ := V4_out m d
  exact ⟨(congrFun (e0.trans (final1_5 (byRef (V3 m)) d)) _).trans (Rows.out5_eq hs h.tlt),
    fun i => (congrFun (e1.trans (final1_6 (byRef (V3 m)) d)) _).trans (Rows.out6_eq hs i),
    fun i => (congrFun (e2.trans (final1_7 (byRef (V3 m)) d)) _).trans (Rows.out7_eq hs i),
    (congrFun (e3.trans (final1_8 (byRef (V3 m)) d)) _).trans (Rows.out8_eq hs h.tlt)⟩

/-- One point of the second TensorCore call takes in one block of columns. -/
theorem losses_step (n : ℕ) (hn : n < 16) (s : Losses.Acc Ideal) (hs : LossRows.Holds (wA N D) (wM N) l0 l1 n s) :
    LossRows.Holds (wA N D) (wM N) l0 l1 (n + 1) (LossesData.stepAt (byRef (V4 m)) d (LossesData.pt n) s) := by
  have hp : (LossesData.pt n).val = n := Nat.mod_eq_of_lt hn
  have hb : ∀ j : Fin 512, 512 * (LossesData.pt n).val + j.val < 8192 := fun j => by rw [hp]; omega
  have hj : ∀ j : Fin 512, 512 * (LossesData.pt n).val + j.val = 512 * n + j.val := fun j => by rw [hp]
  have h4 := fun (b : Ref sig .tc) h0 h1 h2 h3 => V4_ne m d b h0 h1 h2 h3
  refine LossRows.holds_add hs _ _ _ _ _ _ (fun i j => ?_) (fun i j => ?_) (fun i q => ?_) (fun i q => ?_) (fun i => ?_) (fun i => ?_)
  · refine (blk2_0 (byRef (V4 m)) d _ i j (hb j)).trans ((congrFun ((h4 main_arg1 (by decide) (by decide) (by decide) (by decide)).trans
      (V3_arg m d main_arg1 (by decide))) _).trans ((h.lg0 i _).trans ?_))
    show ((l0 i (512 * (LossesData.pt n).val + j.val) : ℝ) : EReal) = _
    rw [hj]
  · refine (blk2_1 (byRef (V4 m)) d _ i j (hb j)).trans ((congrFun ((h4 main_arg2 (by decide) (by decide) (by decide) (by decide)).trans
      (V3_arg m d main_arg2 (by decide))) _).trans ((h.lg1 i _).trans ?_))
    show ((l1 i (512 * (LossesData.pt n).val + j.val) : ℝ) : EReal) = _
    rw [hj]
  · exact (blk2_2 (byRef (V4 m)) d _ i q).trans ((congrFun (h4 main_v8 (by decide) (by decide) (by decide) (by decide)) _).trans
      (Entries.entryA m d N D h.nbr h.nlt h.dist i q))
  · exact (blk2_3 (byRef (V4 m)) d _ i q).trans ((congrFun (h4 main_v9 (by decide) (by decide) (by decide) (by decide)) _).trans
      (Entries.entryM m d N h.nbr h.nlt i q))
  · exact (blk2_4 (byRef (V4 m)) d _ i 0).trans ((stats_out h).2.1 i)
  · exact (blk2_5 (byRef (V4 m)) d _ i 0).trans ((stats_out h).2.2.1 i)

/-- The second TensorCore call after its points. -/
theorem losses_holds : ∀ n < 16, LossRows.Holds (wA N D) (wM N) l0 l1 (n + 1) (LossesData.state (byRef (V4 m)) d n)
  | 0, h0 => losses_step h 0 h0 _ (LossRows.holds_zero _ _ _ _)
  | n + 1, hn => losses_step h (n + 1) hn _ (losses_holds n (by omega))

/-- What the second TensorCore call leaves: the cross entropy and the divergence. -/
theorem losses_out :
    (byRef (V5 m) d main_v11_0 : Vec Ideal S1x1 .f32) (ix2 0 0) = ((ceOf (wA N D) l0 l1 t : ℝ) : EReal)
    ∧ (byRef (V5 m) d main_v11_1 : Vec Ideal S1x1 .f32) (ix2 0 0) = ((klOf (wM N) l0 l1 : ℝ) : EReal) := by
  have hs := losses_holds h 15 (by norm_num)
  obtain ⟨e0, e1⟩ := V5_out m d
  exact ⟨(congrFun (e0.trans (final2_7 (byRef (V4 m)) d)) _).trans (LossRows.outCe_eq hs t _
      ((blk2_6 (byRef (V4 m)) d _ 0 0).trans (stats_out h).2.2.2)),
    (congrFun (e1.trans (final2_8 (byRef (V4 m)) d)) _).trans (LossRows.outKl_eq hs)⟩

/-- The first result: the mean contrastive loss. -/
theorem v12_real (y : S_.Idx) : (V6 m d (r main_v12) : Vec Ideal S_ .f32) y
    = (((∑ i, (lse (logit u f i) - logit u f i (t i))) * (1 / 512) : ℝ) : EReal) := by
  unfold V6 ops3
  after_results_simp
  refine (scalar _ y).trans ?_
  exact (congrFun (V5_ne m d main_v10_0 (by decide) (by decide)) _).trans (stats_out h).1

/-- The second result: the cross entropy. -/
theorem v13_real (y : S_.Idx) : (V6 m d (r main_v13) : Vec Ideal S_ .f32) y = ((ceOf (wA N D) l0 l1 t : ℝ) : EReal) := by
  unfold V6 ops3
  after_results_simp
  refine (scalar _ y).trans ?_
  exact (losses_out h).1

/-- The third result: the divergence, scaled. -/
theorem v15_real (x7 : Vec Ideal S_ .f32) (h7 : m (d, r main_arg7) = x7) (y : S_.Idx) :
    (V6 m d (r main_v15) : Vec Ideal S_ .f32) y = x7 y * ((klOf (wM N) l0 l1 : ℝ) : EReal) := by
  unfold V6 ops3
  after_results_simp
  refine congrArg₂ (fun a b : EReal => a * b) (congrFun ((V5_ne m d main_arg7 (by decide) (by decide)).trans
    ((V4_ne m d main_arg7 (by decide) (by decide) (by decide) (by decide)).trans ((V3_arg m d main_arg7 (by decide)).trans h7))) y) ?_
  refine (scalar _ y).trans ?_
  exact (losses_out h).2

end Cert.Proof.KernelValues

end
-- ==== Proof.RefRows.lean ====
/-
  The reference's row operations over the reals: the logarithm of a softmax, the logits, and the gathered rows.
-/
module

public import Idealize.ShloMosaic.Lib.Pointwise
public import Idealize.ShloMosaic.Lib.KernelVsHost
public import Idealize.ShloMosaic.Lib.ReduceAll
public import proofs.«01_k».proof.Proof.Gen.ReferenceIdeal.Read
public import proofs.«01_k».proof.Proof.Rows

@[expose] public section

set_option maxRecDepth 16384

noncomputable section

namespace Cert.Proof.RefRows

open Cert.ReferenceIdeal Cert.ReferenceIdeal.Gen Cert.ReferenceIdeal.Read Cert.Proof.Reals
open Cert.Proof.Rows (cc logit)
open Idealize.ShloMosaic

/-- A row less its maximum and less the logarithm of its sum of exponentials. -/
theorem log_softmax_row (f : Fin 8192 → EReal) (w : ℕ → ℝ) (h : ∀ j : Fin 8192, f j = ((w j.val : ℝ) : EReal)) (j : Fin 8192) :
    f j - (Finset.univ : Finset (Fin 8192)).fold max ⊥ f - Ideal.log (∑ k, Ideal.exp (f k - (Finset.univ : Finset (Fin 8192)).fold max ⊥ f))
      = ((w j.val - lse w : ℝ) : EReal) := by
  obtain ⟨M, hM⟩ := max_row (by decide) f _ h
  rw [hM, sum_real (g := fun k : Fin 8192 => Real.exp (w k.val - M)) (fun k => by rw [h, ← EReal.coe_sub, Ideal.exp_coe]),
    ← Finset.sum_range (fun k => Real.exp (w k - M)), log_real (sum_exp_pos fun j => w j - M), h, ← EReal.coe_sub, ← EReal.coe_sub, sub_sub, lse_shift]

/-- The exponentials of a row less its maximum over their sum. -/
theorem softmax_row (f : Fin 8192 → EReal) (w : ℕ → ℝ) (h : ∀ j : Fin 8192, f j = ((w j.val : ℝ) : EReal)) (j : Fin 8192) :
    Ideal.div (Ideal.exp (f j - (Finset.univ : Finset (Fin 8192)).fold max ⊥ f)) (∑ k, Ideal.exp (f k - (Finset.univ : Finset (Fin 8192)).fold max ⊥ f))
      = ((Real.exp (w j.val - lse w) : ℝ) : EReal) := by
  obtain ⟨M, hM⟩ := max_row (by decide) f _ h
  rw [hM, sum_real (g := fun k : Fin 8192 => Real.exp (w k.val - M)) (fun k => by rw [h, ← EReal.coe_sub, Ideal.exp_coe]),
    ← Finset.sum_range (fun k => Real.exp (w k - M)), h, ← EReal.coe_sub, Ideal.exp_coe, div_real _ (sum_exp_pos fun j => w j - M).ne', soft]

/-- The word of zero. -/
theorem ofBits_zero : Ideal.ofBits .f32 0x00000000#32 = 0 := by pointwise []

/-- The maximum of a row. -/
theorem max2 {a b : ℕ} (x : FVec Ideal (⟨2, ![a, b]⟩ : Shape) .f32) (h : (⟨2, ![a, b]⟩ : Shape).ReducesTo [1] (⟨1, ![a]⟩ : Shape))
    (h' : (⟨2, ![a, b]⟩ : Shape).Reduces [1] (⟨1, ![a]⟩ : Shape)) (hu : 0 < S_.numel) (i : Fin a) :
    Host.reduce FloatOps.maximumf x (constant S_ .f32 0xFF800000#32) h hu (ix1 i)
      = (Finset.univ : Finset (Fin b)).fold max ⊥ fun j => x (ix2 i j) := by
  rw [hostReduce_maximumf_eq_multiReduction x _ h hu h' (by decide) (by decide), Ideal.multiReduction_maximumf_single]
  show (Finset.univ : Finset (Fin b)).fold max (Ideal.ofBits .f32 0xFF800000#32) _ = _
  rw [ofBits_bot]
  congr 1
  funext j
  exact congrArg x (funext fun c => Fin.ext (by match c with | ⟨0, _⟩ => rfl | ⟨1, _⟩ => rfl))

theorem max3 {a b c : ℕ} (x : FVec Ideal (⟨3, ![a, b, c]⟩ : Shape) .f32) (h : (⟨3, ![a, b, c]⟩ : Shape).ReducesTo [2] (⟨2, ![a, b]⟩ : Shape))
    (h' : (⟨3, ![a, b, c]⟩ : Shape).Reduces [2] (⟨2, ![a, b]⟩ : Shape)) (hu : 0 < S_.numel) (i : Fin a) (k : Fin b) :
    Host.reduce FloatOps.maximumf x (constant S_ .f32 0xFF800000#32) h hu (ix2 i k)
      = (Finset.univ : Finset (Fin c)).fold max ⊥ fun j => x (ix3 i k j) := by
  rw [hostReduce_maximumf_eq_multiReduction x _ h hu h' (by decide) (by decide), Ideal.multiReduction_maximumf_single]
  show (Finset.univ : Finset (Fin c)).fold max (Ideal.ofBits .f32 0xFF800000#32) _ = _
  rw [ofBits_bot]
  congr 1
  funext j
  exact congrArg x (funext fun c => Fin.ext (by match c with | ⟨0, _⟩ => rfl | ⟨1, _⟩ => rfl | ⟨2, _⟩ => rfl))

/-- The larger of −∞ and a value. -/
theorem max_word (x : EReal) : FloatOps.maximumf (F := Ideal) (φ := .f32) (Ideal.ofBits .f32 0xFF800000#32) x = x := by
  show max (Ideal.ofBits .f32 0xFF800000#32) x = x
  rw [ofBits_bot, max_eq_right bot_le]

/-- The logarithm of a softmax. -/
theorem v86_real (x : Vec Ideal S512x8192 .f32) (w : Fin 512 → ℕ → ℝ) (h : ∀ i (j : Fin 8192), x (ix2 i j) = ((w i j.val : ℝ) : EReal))
    (i : Fin 512) (j : Fin 8192) : val_main_v86 (F := Ideal) x (ix2 i j) = ((w i j.val - lse (w i) : ℝ) : EReal) := by
  obtain ⟨M, hM⟩ : ∃ M : ℝ, val_main_call5_v2 (F := Ideal) x (ix1 i) = (M : EReal) := by
    obtain ⟨M, hM⟩ := max_row (by decide) (fun j : Fin 8192 => x (ix2 i j)) _ (h i)
    refine ⟨M, ?_⟩
    rw [val_main_call5_v2_apply, val_main_call5_v1_apply, val_main_call5_cst_0_apply, ← hM]
    refine (max_word _).trans ?_
    unfold val_main_call5_v0 val_main_call5_cst
    exact max2 x _ (by decide) _ i
  have h5 : ∀ k : Fin 8192, val_main_call5_v5 (F := Ideal) x (ix2 i k) = ((w i k.val - M : ℝ) : EReal) := fun k => by
    rw [val_main_call5_v5_apply, val_main_call5_v4_apply, val_main_call5_v3_apply,
      show idx_main_call5_v3 (idx_main_call5_v4 (ix2 i k)) = ix1 i from funext fun a => match a with | ⟨0, _⟩ => rfl, hM, h, EReal.coe_sub]
    rfl
  have h7 : val_main_call5_v7 (F := Ideal) x (ix1 i) = ((∑ k ∈ Finset.range 8192, Real.exp (w i k - M) : ℝ) : EReal) := by
    rw [val_main_call5_v7_apply, val_main_call5_cst_1_apply, Finset.sum_range,
      ← sum_real (f := fun k : Fin 8192 => val_main_call5_v6 (F := Ideal) x (idx_main_call5_v7 (ix1 i) k)) (fun k => by
        rw [val_main_call5_v6_apply, show idx_main_call5_v7 (ix1 i) k = ix2 i k from funext fun a => match a with | ⟨0, _⟩ => rfl | ⟨1, _⟩ => rfl, h5]
        exact Ideal.exp_coe _)]
    exact (congrArg (· + _) ofBits_zero).trans (zero_add _)
  rw [val_main_v86_apply, h5, val_main_call5_v10_apply, val_main_call5_v9_apply, val_main_call5_v8_apply,
    show idx_main_call5_v8 (idx_main_call5_v10 (ix2 i j)) = ix1 i from funext fun a => match a with | ⟨0, _⟩ => rfl, h7]
  show ((w i j.val - M : ℝ) : EReal) - Ideal.log ((∑ k ∈ Finset.range 8192, Real.exp (w i k - M) : ℝ) : EReal) = _
  rw [log_real (sum_exp_pos fun j => w i j - M), ← EReal.coe_sub, sub_sub, lse_shift]

theorem v91_eq (x : Vec Ideal S512x8192 .f32) : val_main_v91 (F := Ideal) x = val_main_v86 (F := Ideal) x := rfl
theorem v7_eq (x0 : Vec Ideal S512x2048 .f32) (x8 : Vec Ideal S8192x2048 .f32) : val_main_v7 (F := Ideal) x0 x8 = val_main_v86 (F := Ideal) (val_main_v6 (F := Ideal) x0 x8) := rfl

end Cert.Proof.RefRows

end
-- ==== Proof.RefGather.lean ====
/-
  The reference's index operations: the entry taken along a row, the rows taken, and the one-hot array.
-/
module

public import Idealize.ShloMosaic.Lib.WordCmp
public import Idealize.ShloMosaic.Lib.Routing.OpsSet
public import Idealize.ShloMosaic.Lib.Routing.OpsPair
public import proofs.«01_k».proof.Proof.RefRows

@[expose] public section

set_option maxRecDepth 16384

noncomputable section

namespace Cert.Proof.RefGather

open Cert.ReferenceIdeal Cert.ReferenceIdeal.Gen Cert.ReferenceIdeal.Read
open Idealize.ShloMosaic

/-! ### Two gathers -/

/-- A word below a bound below 2³¹ is a start index the clamp leaves. -/
theorem clamp {N : ℕ} {x : BitVec 32} (h : x.toNat < N) (hN : N ≤ 2 ^ 31) : min x.toInt.toNat (N - 1) = x.toNat := by
  rw [WordCmp.toInt_eq_toNat_of_lt_half (show x.toNat < 2 ^ (32 - 1) by omega), Int.toNat_natCast]
  omega

/-- The start-index position of a result entry of a one-column gather. -/
theorem start_along {R N : ℕ} (d : GatherDims (⟨2, ![R, N]⟩ : Shape) (⟨3, ![R, 1, 1]⟩ : Shape) (⟨2, ![R, 1]⟩ : Shape))
    (hoff : d.offsetDims = []) (hcoll : d.collapsedSliceDims = [1]) (hob : d.operandBatchingDims = [0])
    (hsb : d.startIndicesBatchingDims = [0]) (hsim : d.startIndexMap = [1]) (hivd : d.indexVectorDim = 2) (hN : N ≤ 2 ^ 31)
    {α : Type} (x : (⟨2, ![R, N]⟩ : Shape).Idx → α) (idx : IVec (⟨3, ![R, 1, 1]⟩ : Shape) 32) (i : Fin R)
    (h : (idx (ix3 i 0 0)).toNat < N) :
    Host.gather d x idx (ix2 i 0) = x (ix2 i ⟨(idx (ix3 i 0 0)).toNat, h⟩) := by
  obtain ⟨offsetDims, collapsed, ob, sb, sim, ivd, ss, wf⟩ := d
  dsimp only at hoff hcoll hob hsb hsim hivd
  subst hoff hcoll hob hsb hsim hivd
  have hss : ss 1 = 1 := GatherDims.slice_collapsed ⟨[], [1], [0], [0], [1], 2, ss, wf⟩ 1 (List.mem_singleton.mpr rfl)
  unfold Host.gather
  congr 1
  funext a
  refine Fin.ext ?_
  match a with
  | ⟨0, _⟩ =>
    show GatherDims.start _ (ix2 i 0) idx 0 + GatherDims.batchCoord _ (ix2 i 0) 0 + GatherDims.offCoord _ (ix2 i 0) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    show GatherDims.start _ (ix2 i 0) idx 1 + GatherDims.batchCoord _ (ix2 i 0) 1 + GatherDims.offCoord _ (ix2 i 0) 1 = (idx (ix3 i 0 0)).toNat
    rw [GatherDims.batchCoord_eq_zero _ _ _ (fun h => absurd (List.mem_singleton.mp h) (show ¬(1 : Fin 2) = 0 by decide)),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ q, GatherDims.siIdx ⟨[], [1], [0], [0], [1], 2, ss, wf⟩ (ix2 i (0 : Fin 1)) q = ix3 i (0 : Fin 1) (0 : Fin 1) := fun q => by
      funext b
      refine Fin.ext ?_
      match b with
      | ⟨0, _⟩ => rfl
      | ⟨1, _⟩ => rfl
      | ⟨2, _⟩ => have := q.isLt; exact Nat.lt_one_iff.mp q.isLt
    rw [hsi]
    show min (idx (ix3 i 0 0)).toInt.toNat (N - ss 1) = _
    rw [hss, clamp h hN]

/-- Rows taken by an array of row numbers. -/
theorem take_rows {N C R K : ℕ} (d : GatherDims (⟨2, ![N, C]⟩ : Shape) (⟨3, ![R, K, 1]⟩ : Shape) (⟨3, ![R, K, C]⟩ : Shape))
    (hoff : d.offsetDims = [2]) (hcoll : d.collapsedSliceDims = [0]) (hob : d.operandBatchingDims = [])
    (hsb : d.startIndicesBatchingDims = []) (hsim : d.startIndexMap = [0]) (hivd : d.indexVectorDim = 2) (hN : N ≤ 2 ^ 31)
    {α : Type} (x : (⟨2, ![N, C]⟩ : Shape).Idx → α) (idx : IVec (⟨3, ![R, K, 1]⟩ : Shape) 32) (i : Fin R) (k : Fin K) (j : Fin C)
    (h : (idx (ix3 i k 0)).toNat < N) :
    Host.gather d x idx (ix3 i k j) = x (ix2 ⟨(idx (ix3 i k 0)).toNat, h⟩ j) := by
  obtain ⟨offsetDims, collapsed, ob, sb, sim, ivd, ss, wf⟩ := d
  dsimp only at hoff hcoll hob hsb hsim hivd
  subst hoff hcoll hob hsb hsim hivd
  have hss : ss 0 = 1 := GatherDims.slice_collapsed ⟨[2], [0], [], [], [0], 2, ss, wf⟩ 0 (List.mem_singleton.mpr rfl)
  unfold Host.gather
  congr 1
  funext a
  refine Fin.ext ?_
  match a with
  | ⟨0, _⟩ =>
    show GatherDims.start _ (ix3 i k j) idx 0 + GatherDims.batchCoord _ (ix3 i k j) 0 + GatherDims.offCoord _ (ix3 i k j) 0 = (idx (ix3 i k 0)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ q, GatherDims.siIdx ⟨[2], [0], [], [], [0], 2, ss, wf⟩ (ix3 i k j) q = ix3 i k (0 : Fin 1) := fun q => by
      funext b
      refine Fin.ext ?_
      match b with
      | ⟨0, _⟩ => rfl
      | ⟨1, _⟩ => rfl
      | ⟨2, _⟩ => exact Nat.lt_one_iff.mp q.isLt
    rw [hsi]
    show min (idx (ix3 i k 0)).toInt.toNat (N - ss 0) = _
    rw [hss, clamp h hN]
  | ⟨1, _⟩ =>
    show GatherDims.start _ (ix3 i k j) idx 1 + GatherDims.batchCoord _ (ix3 i k j) 1 + GatherDims.offCoord _ (ix3 i k j) 1 = j.val
    rw [GatherDims.batchCoord_eq_zero _ _ _ List.not_mem_nil]
    unfold GatherDims.start
    rw [dif_neg (fun h => absurd (List.mem_singleton.mp h) (show ¬(1 : Fin 2) = 0 by decide))]
    simp only [Nat.zero_add, Nat.add_zero]
    unfold GatherDims.offCoord
    rw [dif_pos ((GatherDims.mem_sKept _ _).mpr ⟨fun h => absurd (List.mem_singleton.mp h) (show ¬(1 : Fin 2) = 0 by decide), List.not_mem_nil⟩)]
    rfl

/-- Where update `k` of a scatter of scalars into a matrix lands. -/
theorem lands {R C A w : ℕ} (d : ScatterDims (⟨2, ![R, C]⟩ : Shape) (⟨2, ![A, 2]⟩ : Shape) (⟨1, ![A]⟩ : Shape)) (hiw : d.insertedWindowDims = [0, 1])
    (hsd : d.scatterDimsToOperandDims = [0, 1]) (hivd : d.indexVectorDim = 1) (idx : IVec (⟨2, ![A, 2]⟩ : Shape) w)
    (k : Fin A) (r : Fin R) (c : Fin C) :
    d.resultIdx? (ix1 k) idx = some (ix2 r c) ↔ (idx (ix2 k 0)).toInt = r.val ∧ (idx (ix2 k 1)).toInt = c.val := by
  have hm : ∀ q : Fin 2, q ∈ d.scatterDimsToOperandDims := fun q => by
    rw [hsd]
    match q with
    | ⟨0, _⟩ => exact List.mem_cons_self ..
    | ⟨1, _⟩ => exact List.mem_cons_of_mem _ (List.mem_cons_self ..)
  have hwin : ∀ q : Fin 2, d.window (ix1 k) q = 0 := fun q => by
    unfold ScatterDims.window
    refine dif_neg fun h => (of_decide_eq_true (List.mem_filter.1 h).2) ?_
    rw [hiw]
    match q with
    | ⟨0, _⟩ => exact List.mem_cons_self ..
    | ⟨1, _⟩ => exact List.mem_cons_of_mem _ (List.mem_cons_self ..)
  have hsi : ∀ q : Fin 2, d.siIdx (ix1 k) ⟨d.scatterDimsToOperandDims.idxOf q, List.idxOf_lt_length_iff.2 (hm q)⟩ = ix2 k q := fun q => by
    funext b
    refine Fin.ext ?_
    match b with
    | ⟨0, _⟩ =>
      unfold ScatterDims.siIdx
      rw [dif_neg (by rw [hivd]; exact Nat.zero_ne_one)]
      unfold ScatterDims.siCoord
      simp only [Fin.val_cast]
      have e : ∀ X : Fin 1, (ix1 k X).val = k.val := fun X => by obtain rfl : X = 0 := Subsingleton.elim _ _; rfl
      exact e _
    | ⟨1, _⟩ =>
      unfold ScatterDims.siIdx
      rw [dif_pos (by rw [hivd])]
      show List.idxOf q d.scatterDimsToOperandDims = q.val
      rw [hsd]
      match q with
      | ⟨0, _⟩ => rfl
      | ⟨1, _⟩ => rfl
  have hstart : ∀ q : Fin 2, d.start (ix1 k) idx q = (idx (ix2 k q)).toInt := fun q => by
    unfold ScatterDims.start
    rw [dif_pos (hm q), hsi]
  refine (Routing.resultIdx?_ix2 d (ix1 k) idx r c).trans ?_
  rw [hstart, hstart, hwin, hwin]
  omega

/-! ### Indices that need no wrapping -/

/-- A word below the half range is not negative. -/
theorem wrap (x a : BitVec 32) (h : x.toNat < 2 ^ 31) : Scalar.select (IntOp.cmpi .slt x 0#32) a x = x :=
  Routing.wrap_of_lt x a h

/-- Within its bounds. -/
theorem in_bounds (x b : BitVec 32) (hb : b.toNat < 2 ^ 31) (h : x.toNat ≤ b.toNat) :
    IntOp.andi (IntOp.cmpi .sge x 0#32) (IntOp.cmpi .sle x b) = 1#1 := by
  rw [WordCmp.cmpi_sge_zero, WordCmp.cmpi_sle_of_lt (show x.toNat < 2 ^ (32 - 1) by omega) hb, decide_eq_true (show x.toNat < 2 ^ (32 - 1) by omega),
    decide_eq_true h]
  rfl

/-! ### The rows of the neighbours -/

section
variable (x1 : Vec Ideal S512x8192 .f32) (x5 : Vec Ideal S512x20 .i32) (h5 : ∀ y, (x5 y : BitVec 32).toNat < 512)
include h5

theorem call3_v4 (y : S512x20.Idx) : val_main_call3_v4 (F := Ideal) x5 y = x5 y := by
  rw [val_main_call3_v4_apply, val_main_call3_v1_apply, val_main_call3_v0_apply, val_main_call3_c_apply]
  exact wrap _ _ (by have := h5 y; omega)

theorem call3_v12 (y : S512x20.Idx) : val_main_call3_v12 (F := Ideal) x5 y = 1#1 := by
  unfold val_main_call3_v12
  refine Host.reduce_andi_one _ _ _ _ _ (val_main_call3_c_3_apply _) fun q => ?_
  rw [val_main_call3_v11_apply, val_main_call3_v7_apply, val_main_call3_v10_apply, val_main_call3_v5_apply, call3_v4 x5 h5,
    val_main_call3_v6_apply, val_main_call3_c_2_apply, val_main_call3_v9_apply, val_main_call3_v8_apply, val_main_call3_c_1_apply]
  exact in_bounds _ _ (by decide) (by have := h5 (idx_main_call3_v5 q); show _ ≤ 511; omega)

/-- The rows of the first logits at the neighbours. -/
theorem v30_apply (i : Fin 512) (k : Fin 20) (j : Fin 8192) :
    val_main_v30 (F := Ideal) x1 x5 (ix3 i k j) = x1 (ix2 ⟨(x5 (ix2 i k) : BitVec 32).toNat, h5 _⟩ j) := by
  have e : val_main_call3_v5 (F := Ideal) x5 (ix3 i k 0) = x5 (ix2 i k) := by
    rw [val_main_call3_v5_apply, call3_v4 x5 h5]
    exact congrArg x5 (funext fun a => match a with | ⟨0, _⟩ => rfl | ⟨1, _⟩ => rfl)
  rw [val_main_v30_apply, val_main_call3_v14_apply, call3_v12 x5 h5, WordCmp.select_one]
  unfold val_main_call3_v13
  rw [take_rows _ rfl rfl rfl rfl rfl rfl (by decide) x1 _ i k j (by rw [e]; exact h5 _)]
  exact congrArg x1 (congrArg (ix2 · j) (Fin.ext (congrArg BitVec.toNat e)))

end

/-- The rows of the second logits are taken the same way. -/
theorem v31_eq (x2 : Vec Ideal S512x8192 .f32) (x5 : Vec Ideal S512x20 .i32) :
    val_main_v31 (F := Ideal) x2 x5 = val_main_v30 (F := Ideal) x2 x5 := rfl

/-! ### The entry at the target -/

section
variable (x0 : Vec Ideal S512x2048 .f32) (x8 : Vec Ideal S8192x2048 .f32) (x3 : Vec Ideal S512 .i32) (h3 : ∀ y, (x3 y : BitVec 32).toNat < 8192)
include h3

theorem v8_at (y : S512x1.Idx) : val_main_v8 (F := Ideal) x3 y = x3 (ix1 (y 0)) := by
  rw [val_main_v8_apply]
  exact congrArg x3 (funext fun a => match a with | ⟨0, _⟩ => rfl)

theorem call2_v4 (y : S512x1.Idx) : val_main_call2_v4 (F := Ideal) x3 y = x3 (ix1 (y 0)) := by
  rw [val_main_call2_v4_apply, val_main_call2_v1_apply, val_main_call2_v0_apply, val_main_call2_c_apply, v8_at x3 h3]
  exact wrap _ _ (by have := h3 (ix1 (y 0)); omega)

theorem call2_v5 (y : S512x1x1.Idx) : val_main_call2_v5 (F := Ideal) x3 y = x3 (ix1 (y 0)) := by
  rw [val_main_call2_v5_apply, call2_v4 x3 h3]
  refine congrArg x3 (congrArg ix1 (Fin.ext ?_))
  have h1 : (y 1).val < 1 := (y 1).isLt
  have h2 : (y 2).val < 1 := (y 2).isLt
  show (((y 0).val * 1 + (y 1).val) * 1 + (y 2).val) / 1 = (y 0).val
  omega

theorem call2_v12 (y : S512x1.Idx) : val_main_call2_v12 (F := Ideal) x3 y = 1#1 := by
  unfold val_main_call2_v12
  refine Host.reduce_andi_one _ _ _ _ _ (val_main_call2_c_3_apply _) fun q => ?_
  rw [val_main_call2_v11_apply, val_main_call2_v7_apply, val_main_call2_v10_apply, call2_v5 x3 h3,
    val_main_call2_v6_apply, val_main_call2_c_2_apply, val_main_call2_v9_apply, val_main_call2_v8_apply, val_main_call2_c_1_apply]
  exact in_bounds _ _ (by decide) (by have := h3 (ix1 (q 0)); show _ ≤ 8191; omega)

/-- The entry at the target. -/
theorem v9_at (i : Fin 512) :
    val_main_v9 (F := Ideal) x0 x3 x8 (ix2 i 0) = val_main_v7 (F := Ideal) x0 x8 (ix2 i ⟨(x3 (ix1 i) : BitVec 32).toNat, h3 _⟩) := by
  have e : val_main_call2_v5 (F := Ideal) x3 (ix3 i 0 0) = x3 (ix1 i) := call2_v5 x3 h3 _
  rw [val_main_v9_apply, call2_v12 x3 h3, WordCmp.select_one]
  unfold val_main_call2_v13
  rw [start_along _ rfl rfl rfl rfl rfl rfl (by decide) _ _ i (by rw [e]; exact h3 _)]
  exact congrArg _ (congrArg (ix2 i ·) (Fin.ext (congrArg BitVec.toNat e)))

/-! ### The one-hot array -/

theorem v27_row (i : Fin 512) : val_main_v27 (F := Ideal) x3 (ix2 i 0) = BitVec.ofNat 32 i.val := by
  unfold val_main_v27
  refine (concatenate_pair_apply_left (t := S512x2) (s₁ := S512x1) (s₂ := S512x1) 1 _ _ _ (ix2 i 0) rfl (ix2 i (0 : Fin 1) : S512x1.Idx) (fun b => match b with | ⟨0, _⟩ => rfl | ⟨1, _⟩ => rfl)).trans ?_
  rw [val_main_v25_apply, val_main_v19_apply, val_main_v16_apply, val_main_v15_apply, val_main_c_apply, val_main_v14_apply]
  refine (wrap _ _ ?_).trans rfl
  have := i.isLt
  show (BitVec.ofNat 32 i.val).toNat < _
  rw [BitVec.toNat_ofNat]
  omega

theorem v27_col (i : Fin 512) : val_main_v27 (F := Ideal) x3 (ix2 i 1) = x3 (ix1 i) := by
  unfold val_main_v27
  refine (concatenate_pair_apply_right (t := S512x2) (s₁ := S512x1) (s₂ := S512x1) 1 _ _ _ (ix2 i 1) rfl rfl (ix2 i (0 : Fin 1) : S512x1.Idx) (fun b => match b with | ⟨0, _⟩ => fun _ => rfl | ⟨1, _⟩ => fun h => (h rfl).elim) rfl).trans ?_
  rw [val_main_v26_apply, val_main_v24_apply, val_main_v21_apply, val_main_v20_apply, val_main_c_4_apply]
  refine (wrap _ _ (by have := h3 (idx_main_v26 (ix2 i 0)); omega)).trans ?_
  exact congrArg x3 (funext fun a => match a with | ⟨0, _⟩ => rfl)

/-- The one-hot array of the targets. -/
theorem v29_apply (i : Fin 512) (j : Fin 8192) :
    val_main_v29 (F := Ideal) x3 (ix2 i j) = (((if j.val = (x3 (ix1 i) : BitVec 32).toNat then 1 else 0 : ℝ) : ℝ) : EReal) := by
  have hone : Ideal.ofBits .f32 0x3F800000#32 = ((1 : ℝ) : EReal) := by rw [EReal.coe_one]; pointwise []
  have key : ∀ k : Fin 512, scatter_S512x8192_S512x2_S512_n_01_01_1.resultIdx? (ix1 k) (val_main_v27 (F := Ideal) x3) = some (ix2 i j)
      ↔ k.val = i.val ∧ (x3 (ix1 k) : BitVec 32).toNat = j.val := fun k => by
    have hi : (BitVec.ofNat 32 k.val).toInt = (k.val : ℤ) := by
      have := k.isLt
      rw [WordCmp.toInt_eq_toNat_of_lt_half (by rw [BitVec.toNat_ofNat]; show _ < 2 ^ 31; omega), BitVec.toNat_ofNat,
        Nat.mod_eq_of_lt (by omega)]
    have hj : (x3 (ix1 k) : BitVec 32).toInt = ((x3 (ix1 k) : BitVec 32).toNat : ℤ) :=
      WordCmp.toInt_eq_toNat_of_lt_half (by have := h3 (ix1 k); show _ < 2 ^ 31; omega)
    refine (lands _ rfl rfl rfl _ k i j).trans ?_
    rw [v27_row x3 h3, v27_col x3 h3, hi, hj]
    omega
  have hk : ∀ k : S512.Idx, k = ix1 (k 0) := fun k => funext fun a => match a with | ⟨0, _⟩ => rfl
  unfold val_main_v29
  by_cases e : j.val = (x3 (ix1 i) : BitVec 32).toNat
  · rw [if_pos e]
    refine Routing.scatter_set_hit _ _ _ _ _ _ (fun k _ => ?_) (ix1 i) ((key i).2 ⟨rfl, e.symm⟩)
    rw [val_main_v28_apply, val_main_cst_6_apply]
    exact hone
  · rw [if_neg e]
    refine (Routing.scatter_set_miss _ _ _ _ _ fun k h => ?_).trans ?_
    · rw [hk k] at h
      obtain ⟨h1, h2⟩ := (key (k 0)).1 h
      have h1 : k 0 = i := Fin.ext h1
      rw [h1] at h2
      exact e h2.symm
    · rw [val_main_v13_apply, val_main_cst_2_apply]
      exact RefRows.ofBits_zero.trans EReal.coe_zero.symm

end

end Cert.Proof.RefGather

end
-- ==== Proof.Sums.lean ====
/-
  The reference's sums over the slots of a query, over the reals: the repeated distances' softmax, the weighted mean of
  the neighbours' softmaxes, and the three losses as the kernel writes them.
-/
module

public import proofs.«01_k».proof.Proof.Entries
public import proofs.«01_k».proof.Proof.LossRows

@[expose] public section

set_option maxRecDepth 16384

noncomputable section

namespace Cert.Proof.Sums

open Cert.Proof.Reals Cert.Proof.Entries Cert.Proof.LossRows
open Cert.Proof.Rows (cc)

/-- A sum over pairs. -/
theorem pairs (h : ℕ → ℝ) (n : ℕ) : ∑ j ∈ Finset.range (2 * n), h j = ∑ k ∈ Finset.range n, (h (2 * k) + h (2 * k + 1)) := by
  induction n with
  | zero => simp
  | succ n ih => rw [Nat.mul_add, Nat.mul_one, Finset.sum_range_succ, Finset.sum_range_succ, ih, Finset.sum_range_succ]; ring

/-- Half the softmax weight of a slot. -/
def wk (D : ℕ → ℝ) (k : ℕ) : ℝ := Real.exp (D k * cc) * ((1 / 2) / ∑ k ∈ Finset.range 20, Real.exp (D k * cc))

/-- The softmax of every distance taken twice. -/
theorem softmax40 (D : ℕ → ℝ) (M : ℝ) (k : ℕ) :
    Real.exp (D (k / 2) * cc - M) / ∑ k ∈ Finset.range 40, Real.exp (D (k / 2) * cc - M) = wk D (k / 2) := by
  have e : ∑ k ∈ Finset.range 40, Real.exp (D (k / 2) * cc - M) = 2 * (∑ k ∈ Finset.range 20, Real.exp (D k * cc)) / Real.exp M := by
    rw [show (40 : ℕ) = 2 * 20 from rfl, pairs, mul_div_assoc, Finset.sum_div, Finset.mul_sum]
    refine Finset.sum_congr rfl fun k _ => ?_
    rw [show 2 * k / 2 = k by omega, show (2 * k + 1) / 2 = k by omega, Real.exp_sub]; ring
  have hp : 0 < ∑ k ∈ Finset.range 20, Real.exp (D k * cc) := Finset.sum_pos (fun _ _ => Real.exp_pos _) ⟨0, by decide⟩
  rw [e, Real.exp_sub]
  unfold wk
  have := Real.exp_pos M
  field_simp

/-- A row of the matrices against a column: the sum over the slots. -/
theorem rows_slots (nbr : ℕ → Fin 512) (w : ℕ → ℝ) (Q : Fin 512 → ℝ) :
    ∑ r : Fin 512, (∑ k ∈ Finset.range 20, if (nbr k).val = r.val then w k else 0) * Q r = ∑ k ∈ Finset.range 20, w k * Q (nbr k) := by
  simp only [Finset.sum_mul]
  rw [Finset.sum_comm]
  refine Finset.sum_congr rfl fun k _ => ?_
  simp only [ite_mul, zero_mul, ← Fin.ext_iff]
  rw [Finset.sum_ite_eq Finset.univ (nbr k) (fun r => w k * Q r), if_pos (Finset.mem_univ _)]

variable (nbr : Fin 512 → ℕ → Fin 512) (D : Fin 512 → ℕ → ℝ) (l0 l1 : Fin 512 → ℕ → ℝ)

/-- The slots' neighbour numbers. -/
abbrev num (i : Fin 512) (k : ℕ) : ℕ := (nbr i k).val

/-- The stacked logits: the two logit rows of a neighbour one after the other. -/
def stacked (i : Fin 512) (k : ℕ) : ℕ → ℝ := if k % 2 = 0 then l0 (nbr i (k / 2)) else l1 (nbr i (k / 2))

theorem mixed_eq (i : Fin 512) (j : ℕ) :
    ∑ k ∈ Finset.range 40, Real.exp (stacked nbr l0 l1 i k j - lse (stacked nbr l0 l1 i k)) * wk (D i) (k / 2)
      = mixed (wA (num nbr) D) l0 l1 i j := by
  refine Eq.trans ?_ (rows_slots (nbr i) (wk (D i)) (fun r => Real.exp (l0 r j - lse (l0 r)) + Real.exp (l1 r j - lse (l1 r)))).symm
  rw [show (40 : ℕ) = 2 * 20 from rfl, pairs]
  refine Finset.sum_congr rfl fun k _ => ?_
  unfold stacked
  rw [if_pos (by omega), if_neg (by omega), show 2 * k / 2 = k by omega, show (2 * k + 1) / 2 = k by omega]
  ring

theorem mean0_eq (i : Fin 512) (j : ℕ) :
    (∑ k ∈ Finset.range 20, Real.exp (l0 (nbr i k) j - lse (l0 (nbr i k)))) / 20 = mean0 (wM (num nbr)) l0 i j := by
  refine Eq.trans ?_ (rows_slots (nbr i) (fun _ => 1 / 20) (fun r => Real.exp (l0 r j - lse (l0 r)))).symm
  rw [← Finset.mul_sum]; ring

theorem mean0_nonneg (i : Fin 512) (j : ℕ) : 0 ≤ mean0 (wM (num nbr)) l0 i j := by
  rw [← mean0_eq]; exact div_nonneg (Finset.sum_nonneg fun _ _ => (Real.exp_pos _).le) (by norm_num)

/-- The cross entropy as the reference sums it. -/
theorem ce_eq (A : Fin 512 → Fin 512 → ℝ) (t : Fin 512 → ℕ) (ht : ∀ i, t i < 8192) :
    (∑ i, ∑ j ∈ Finset.range 8192, -(alpha * (if j = t i then 1 else 0) + beta * mixed A l0 l1 i j) * (l0 i j - lse (l0 i))) / 512
      = ceOf A l0 l1 t := by
  have e : ∀ i, ∑ j ∈ Finset.range 8192, -(alpha * (if j = t i then 1 else 0) + beta * mixed A l0 l1 i j) * (l0 i j - lse (l0 i))
      = -(alpha * (l0 i (t i) - lse (l0 i)) + beta * ∑ j ∈ Finset.range 8192, mixed A l0 l1 i j * (l0 i j - lse (l0 i))) := fun i => by
    rw [← pick (fun j => l0 i j - lse (l0 i)) (t i) (ht i), Finset.mul_sum, Finset.mul_sum, ← Finset.sum_add_distrib, ← Finset.sum_neg_distrib]
    refine Finset.sum_congr rfl fun j _ => ?_
    by_cases h : j = t i
    · rw [if_pos h, if_pos h]; ring
    · rw [if_neg h, if_neg h]; ring
  have e2 : ∑ j ∈ Finset.range 8192, ceAt A l0 l1 j = ∑ i, ∑ j ∈ Finset.range 8192, mixed A l0 l1 i j * (l0 i j - lse (l0 i)) := by
    unfold ceAt; exact Finset.sum_comm
  unfold ceOf
  rw [Finset.sum_congr rfl fun i _ => e i, e2, Finset.sum_neg_distrib, Finset.sum_add_distrib, ← Finset.mul_sum, ← Finset.mul_sum]
  ring

/-- The divergence as the reference sums it. -/
theorem kl_eq : (∑ i, ∑ j ∈ Finset.range 8192, ((if 0 < mean0 (wM (num nbr)) l0 i j then mean0 (wM (num nbr)) l0 i j * Real.log (mean0 (wM (num nbr)) l0 i j) else 0)
      - mean0 (wM (num nbr)) l0 i j * (l1 i j - lse (l1 i)))) / 512 = klOf (wM (num nbr)) l0 l1 := by
  unfold klOf klAt
  rw [Finset.sum_comm (s := Finset.range 8192), div_eq_mul_one_div]
  congr 1
  refine Finset.sum_congr rfl fun i _ => Finset.sum_congr rfl fun j _ => ?_
  by_cases h : 0 < mean0 (wM (num nbr)) l0 i j
  · rw [if_pos h, if_pos h]; ring
  · rw [if_neg h, if_neg h, le_antisymm (not_lt.mp h) (mean0_nonneg nbr l0 i j)]; ring

/-- The contrastive loss as the reference sums it. -/
theorem nce_eq (z : Fin 512 → ℕ → ℝ) (t : Fin 512 → ℕ) :
    -((∑ i, (z i (t i) - lse (z i))) / 512) = (∑ i, (lse (z i) - z i (t i))) * (1 / 512) := by
  rw [Finset.sum_sub_distrib, Finset.sum_sub_distrib]; ring

end Cert.Proof.Sums

end
-- ==== Proof.RefMix.lean ====
/-
  The reference's refined targets over the reals: the neighbours' weights, their softmaxes and the weighted sums.
-/
module

public import proofs.«01_k».proof.Proof.RefGather
public import proofs.«01_k».proof.Proof.Sums

@[expose] public section

set_option maxRecDepth 16384

noncomputable section

namespace Cert.Proof.RefMix

open Cert.ReferenceIdeal Cert.ReferenceIdeal.Gen Cert.ReferenceIdeal.Read Cert.Proof.Reals Cert.Proof.RefRows
open Cert.Proof.Rows (cc)
open Cert.Proof.Sums (wk softmax40 stacked num mixed_eq mean0_eq)
open Cert.Proof.Entries (wA wM)
open Cert.Proof.LossRows (mixed mean0)
open Idealize.ShloMosaic

/-! ### The neighbours' logits, the two sources stacked -/

/-- A position of the stacked logits before their two middle axes are joined. -/
abbrev at4 {b : ℕ} (i : Fin 512) (k : Fin 20) (s : Fin b) (j : Fin 8192) : (⟨4, ![512, 20, b, 8192]⟩ : Shape).Idx := fun a => match a with
  | ⟨0, _⟩ => i
  | ⟨1, _⟩ => k
  | ⟨2, _⟩ => s
  | ⟨3, _⟩ => j

theorem v34_left (x1 x2 : Vec Ideal S512x8192 .f32) (x5 : Vec Ideal S512x20 .i32) (i : Fin 512) (k : Fin 20) (j : Fin 8192) :
    val_main_v34 (F := Ideal) x1 x2 x5 (at4 i k 0 j) = val_main_v30 (F := Ideal) x1 x5 (ix3 i k j) := by
  unfold val_main_v34
  refine (concatenate_pair_apply_left (t := S512x20x2x8192) (s₁ := S512x20x1x8192) (s₂ := S512x20x1x8192) 2 _ _ _ (at4 i k 0 j) rfl (at4 i k 0 j)
    (fun b => match b with | ⟨0, _⟩ => rfl | ⟨1, _⟩ => rfl | ⟨2, _⟩ => rfl | ⟨3, _⟩ => rfl)).trans ?_
  rw [val_main_v32_apply]
  exact congrArg _ (funext fun a => match a with | ⟨0, _⟩ => rfl | ⟨1, _⟩ => rfl | ⟨2, _⟩ => rfl)

theorem v34_right (x1 x2 : Vec Ideal S512x8192 .f32) (x5 : Vec Ideal S512x20 .i32) (i : Fin 512) (k : Fin 20) (j : Fin 8192) :
    val_main_v34 (F := Ideal) x1 x2 x5 (at4 i k 1 j) = val_main_v31 (F := Ideal) x2 x5 (ix3 i k j) := by
  unfold val_main_v34
  refine (concatenate_pair_apply_right (t := S512x20x2x8192) (s₁ := S512x20x1x8192) (s₂ := S512x20x1x8192) 2 _ _ _ (at4 i k 1 j) rfl rfl (at4 i k 0 j)
    (fun b => match b with | ⟨0, _⟩ => fun _ => rfl | ⟨1, _⟩ => fun _ => rfl | ⟨2, _⟩ => fun h => (h rfl).elim | ⟨3, _⟩ => fun _ => rfl) rfl).trans ?_
  rw [val_main_v33_apply]
  exact congrArg _ (funext fun a => match a with | ⟨0, _⟩ => rfl | ⟨1, _⟩ => rfl | ⟨2, _⟩ => rfl)

theorem idx35 (i : Fin 512) (k : Fin 40) (j : Fin 8192) :
    idx_main_v35 (ix3 i k j) = at4 i ⟨k.val / 2, by have := k.isLt; omega⟩ (⟨k.val % 2, Nat.mod_lt _ (by decide)⟩ : Fin 2) j := by
  have hi := i.isLt
  have hk := k.isLt
  have hj := j.isLt
  refine funext fun a => Fin.ext ?_
  match a with
  | ⟨0, _⟩ => show ((i.val * 40 + k.val) * 8192 + j.val) / 327680 = i.val; omega
  | ⟨1, _⟩ => show ((i.val * 40 + k.val) * 8192 + j.val) / 16384 % 20 = k.val / 2; omega
  | ⟨2, _⟩ => show ((i.val * 40 + k.val) * 8192 + j.val) / 8192 % 2 = k.val % 2; omega
  | ⟨3, _⟩ => show ((i.val * 40 + k.val) * 8192 + j.val) % 8192 = j.val; omega

section
variable (x1 x2 : Vec Ideal S512x8192 .f32) (x5 : Vec Ideal S512x20 .i32) (h5 : ∀ y, (x5 y : BitVec 32).toNat < 512)
  (l0 l1 : Fin 512 → ℕ → ℝ) (h1 : ∀ i (j : Fin 8192), x1 (ix2 i j) = ((l0 i j.val : ℝ) : EReal))
  (h2 : ∀ i (j : Fin 8192), x2 (ix2 i j) = ((l1 i j.val : ℝ) : EReal))
  (nbr : Fin 512 → ℕ → Fin 512) (hn : ∀ i (k : Fin 20), nbr i k.val = ⟨(x5 (ix2 i k) : BitVec 32).toNat, h5 _⟩)
include hn

theorem v30_real (h1 : ∀ i (j : Fin 8192), x1 (ix2 i j) = ((l0 i j.val : ℝ) : EReal)) (i : Fin 512) (k : Fin 20) (j : Fin 8192) :
    val_main_v30 (F := Ideal) x1 x5 (ix3 i k j) = ((l0 (nbr i k.val) j.val : ℝ) : EReal) := by
  rw [RefGather.v30_apply x1 x5 h5, h1, hn]

include h1 h2

theorem v35_real (i : Fin 512) (k : Fin 40) (j : Fin 8192) :
    val_main_v35 (F := Ideal) x1 x2 x5 (ix3 i k j) = ((stacked nbr l0 l1 i k.val j.val : ℝ) : EReal) := by
  rw [val_main_v35_apply, idx35]
  unfold stacked
  by_cases e : k.val % 2 = 0
  · rw [show (⟨k.val % 2, Nat.mod_lt _ (by decide)⟩ : Fin 2) = 0 from Fin.ext e, v34_left, v30_real x1 x5 h5 l0 nbr hn h1, if_pos e]
  · rw [show (⟨k.val % 2, Nat.mod_lt _ (by decide)⟩ : Fin 2) = 1 from Fin.ext (by show k.val % 2 = 1; omega), v34_right, RefGather.v31_eq,
      v30_real x2 x5 h5 l1 nbr hn h2, if_neg e]

end

/-! ### The softmaxes -/

/-- The softmax of every stacked row. -/
theorem v61_real (x1 x2 : Vec Ideal S512x8192 .f32) (x5 : Vec Ideal S512x20 .i32) (w : Fin 512 → Fin 40 → ℕ → ℝ)
    (h : ∀ i k (j : Fin 8192), val_main_v35 (F := Ideal) x1 x2 x5 (ix3 i k j) = ((w i k j.val : ℝ) : EReal)) (i : Fin 512) (k : Fin 40) (j : Fin 8192) :
    val_main_v61 (F := Ideal) x1 x2 x5 (ix3 i k j) = ((Real.exp (w i k j.val - lse (w i k)) : ℝ) : EReal) := by
  obtain ⟨M, hM⟩ : ∃ M : ℝ, val_main_v53 (F := Ideal) x1 x2 x5 (ix2 i k) = (M : EReal) := by
    obtain ⟨M, hM⟩ := max_row (by decide) (fun j : Fin 8192 => val_main_v35 (F := Ideal) x1 x2 x5 (ix3 i k j)) _ (h i k)
    refine ⟨M, ?_⟩
    rw [val_main_v53_apply, val_main_v52_apply, val_main_cst_12_apply, ← hM]
    refine (max_word _).trans ?_
    unfold val_main_v51 val_main_cst_11
    exact max3 _ _ (by decide) _ i k
  have h5 : ∀ q : Fin 8192, val_main_v56 (F := Ideal) x1 x2 x5 (ix3 i k q) = ((w i k q.val - M : ℝ) : EReal) := fun q => by
    rw [val_main_v56_apply, val_main_v55_apply, val_main_v54_apply,
      show idx_main_v54 (idx_main_v55 (ix3 i k q)) = ix2 i k from funext fun a => match a with | ⟨0, _⟩ => rfl | ⟨1, _⟩ => rfl, hM, h, EReal.coe_sub]
    rfl
  have h6 : ∀ q : Fin 8192, val_main_v57 (F := Ideal) x1 x2 x5 (ix3 i k q) = ((Real.exp (w i k q.val - M) : ℝ) : EReal) := fun q => by
    rw [val_main_v57_apply, h5]
    exact Ideal.exp_coe _
  have h7 : val_main_v58 (F := Ideal) x1 x2 x5 (ix2 i k) = ((∑ q ∈ Finset.range 8192, Real.exp (w i k q - M) : ℝ) : EReal) := by
    rw [val_main_v58_apply, val_main_cst_13_apply, Finset.sum_range,
      ← sum_real (f := fun q : Fin 8192 => val_main_v57 (F := Ideal) x1 x2 x5 (idx_main_v58 (ix2 i k) q)) (fun q => by
        rw [show idx_main_v58 (ix2 i k) q = ix3 i k q from funext fun a => match a with | ⟨0, _⟩ => rfl | ⟨1, _⟩ => rfl | ⟨2, _⟩ => rfl, h6])]
    exact (congrArg (· + _) ofBits_zero).trans (zero_add _)
  rw [val_main_v61_apply, h6, val_main_v60_apply, val_main_v59_apply,
    show idx_main_v59 (idx_main_v60 (ix3 i k j)) = ix2 i k from funext fun a => match a with | ⟨0, _⟩ => rfl | ⟨1, _⟩ => rfl, h7]
  show Ideal.div _ _ = _
  rw [div_real _ (sum_exp_pos fun q => w i k q - M).ne', soft]

/-- The softmax of every neighbour's row. -/
theorem v76_real (x1 : Vec Ideal S512x8192 .f32) (x5 : Vec Ideal S512x20 .i32) (w : Fin 512 → Fin 20 → ℕ → ℝ)
    (h : ∀ i k (j : Fin 8192), val_main_v30 (F := Ideal) x1 x5 (ix3 i k j) = ((w i k j.val : ℝ) : EReal)) (i : Fin 512) (k : Fin 20) (j : Fin 8192) :
    val_main_v76 (F := Ideal) x1 x5 (ix3 i k j) = ((Real.exp (w i k j.val - lse (w i k)) : ℝ) : EReal) := by
  obtain ⟨M, hM⟩ : ∃ M : ℝ, val_main_v68 (F := Ideal) x1 x5 (ix2 i k) = (M : EReal) := by
    obtain ⟨M, hM⟩ := max_row (by decide) (fun j : Fin 8192 => val_main_v30 (F := Ideal) x1 x5 (ix3 i k j)) _ (h i k)
    refine ⟨M, ?_⟩
    rw [val_main_v68_apply, val_main_v67_apply, val_main_cst_16_apply, ← hM]
    refine (max_word _).trans ?_
    unfold val_main_v66 val_main_cst_15
    exact max3 _ _ (by decide) _ i k
  have h5 : ∀ q : Fin 8192, val_main_v71 (F := Ideal) x1 x5 (ix3 i k q) = ((w i k q.val - M : ℝ) : EReal) := fun q => by
    rw [val_main_v71_apply, val_main_v70_apply, val_main_v69_apply,
      show idx_main_v69 (idx_main_v70 (ix3 i k q)) = ix2 i k from funext fun a => match a with | ⟨0, _⟩ => rfl | ⟨1, _⟩ => rfl, hM, h, EReal.coe_sub]
    rfl
  have h6 : ∀ q : Fin 8192, val_main_v72 (F := Ideal) x1 x5 (ix3 i k q) = ((Real.exp (w i k q.val - M) : ℝ) : EReal) := fun q => by
    rw [val_main_v72_apply, h5]
    exact Ideal.exp_coe _
  have h7 : val_main_v73 (F := Ideal) x1 x5 (ix2 i k) = ((∑ q ∈ Finset.range 8192, Real.exp (w i k q - M) : ℝ) : EReal) := by
    rw [val_main_v73_apply, val_main_cst_17_apply, Finset.sum_range,
      ← sum_real (f := fun q : Fin 8192 => val_main_v72 (F := Ideal) x1 x5 (idx_main_v73 (ix2 i k) q)) (fun q => by
        rw [show idx_main_v73 (ix2 i k) q = ix3 i k q from funext fun a => match a with | ⟨0, _⟩ => rfl | ⟨1, _⟩ => rfl | ⟨2, _⟩ => rfl, h6])]
    exact (congrArg (· + _) ofBits_zero).trans (zero_add _)
  rw [val_main_v76_apply, h6, val_main_v75_apply, val_main_v74_apply,
    show idx_main_v74 (idx_main_v75 (ix3 i k j)) = ix2 i k from funext fun a => match a with | ⟨0, _⟩ => rfl | ⟨1, _⟩ => rfl, h7]
  show Ideal.div _ _ = _
  rw [div_real _ (sum_exp_pos fun q => w i k q - M).ne', soft]

/-! ### The weights -/

theorem idx37 (i : Fin 512) (k : Fin 40) : idx_main_v36 (idx_main_v37 (ix2 i k)) = ix2 i (⟨k.val / 2, by have := k.isLt; omega⟩ : Fin 20) := by
  have hi := i.isLt
  have hk := k.isLt
  refine funext fun a => Fin.ext ?_
  match a with
  | ⟨0, _⟩ => show (i.val * 40 + k.val) / 40 = i.val; omega
  | ⟨1, _⟩ => show (i.val * 40 + k.val) / 2 % 20 = k.val / 2; omega

section
variable (x6 : Vec Ideal S512x20 .f32) (D : Fin 512 → ℕ → ℝ) (hD : ∀ i (k : Fin 20), x6 (ix2 i k) = ((D i k.val : ℝ) : EReal))
include hD

theorem v39_real (i : Fin 512) (k : Fin 40) : val_main_v39 (F := Ideal) x6 (ix2 i k) = ((D i (k.val / 2) * cc : ℝ) : EReal) := by
  rw [val_main_v39_apply, val_main_v37_apply, val_main_v36_apply, idx37, hD, val_main_v38_apply, val_main_cst_7_apply]
  show Ideal.div _ (Ideal.ofBits .f32 0x3D4CCCCD#32) = _
  rw [ofBits_temp, div_real _ (by norm_num)]
  congr 1
  unfold cc
  ring

/-- The weights of the stacked rows. -/
theorem v50_real (i : Fin 512) (k : Fin 40) : val_main_v50 (F := Ideal) x6 (ix2 i k) = ((wk (D i) (k.val / 2) : ℝ) : EReal) := by
  obtain ⟨M, hM⟩ : ∃ M : ℝ, val_main_v42 (F := Ideal) x6 (ix1 i) = (M : EReal) := by
    obtain ⟨M, hM⟩ := max_row (by decide) (fun k : Fin 40 => val_main_v39 (F := Ideal) x6 (ix2 i k)) _ (v39_real x6 D hD i)
    refine ⟨M, ?_⟩
    rw [val_main_v42_apply, val_main_v41_apply, val_main_cst_9_apply, ← hM]
    refine (max_word _).trans ?_
    unfold val_main_v40 val_main_cst_8
    exact max2 _ _ (by decide) _ i
  have h6 : ∀ q : Fin 40, val_main_v46 (F := Ideal) x6 (ix2 i q) = ((Real.exp (D i (q.val / 2) * cc - M) : ℝ) : EReal) := fun q => by
    rw [val_main_v46_apply, val_main_v45_apply, val_main_v44_apply, val_main_v43_apply,
      show idx_main_v43 (idx_main_v44 (ix2 i q)) = ix1 i from funext fun a => match a with | ⟨0, _⟩ => rfl, hM, v39_real x6 D hD]
    show Ideal.exp (((D i (q.val / 2) * cc : ℝ) : EReal) - (M : EReal)) = _
    rw [← EReal.coe_sub, Ideal.exp_coe]
  have h7 : val_main_v47 (F := Ideal) x6 (ix1 i) = ((∑ q ∈ Finset.range 40, Real.exp (D i (q / 2) * cc - M) : ℝ) : EReal) := by
    rw [val_main_v47_apply, val_main_cst_10_apply, Finset.sum_range,
      ← sum_real (f := fun q : Fin 40 => val_main_v46 (F := Ideal) x6 (idx_main_v47 (ix1 i) q)) (fun q => by
        rw [show idx_main_v47 (ix1 i) q = ix2 i q from funext fun a => match a with | ⟨0, _⟩ => rfl | ⟨1, _⟩ => rfl, h6])]
    exact (congrArg (· + _) ofBits_zero).trans (zero_add _)
  rw [val_main_v50_apply, h6, val_main_v49_apply, val_main_v48_apply,
    show idx_main_v48 (idx_main_v49 (ix2 i k)) = ix1 i from funext fun a => match a with | ⟨0, _⟩ => rfl, h7]
  show Ideal.div _ _ = _
  rw [div_real _ (Finset.sum_pos (fun _ _ => Real.exp_pos _) ⟨0, by decide⟩).ne', softmax40]

end

/-! ### The weighted sums -/

section
variable (x1 x2 : Vec Ideal S512x8192 .f32) (x5 : Vec Ideal S512x20 .i32) (x6 : Vec Ideal S512x20 .f32) (h5 : ∀ y, (x5 y : BitVec 32).toNat < 512)
  (l0 l1 : Fin 512 → ℕ → ℝ) (h1 : ∀ i (j : Fin 8192), x1 (ix2 i j) = ((l0 i j.val : ℝ) : EReal))
  (h2 : ∀ i (j : Fin 8192), x2 (ix2 i j) = ((l1 i j.val : ℝ) : EReal))
  (nbr : Fin 512 → ℕ → Fin 512) (hn : ∀ i (k : Fin 20), nbr i k.val = ⟨(x5 (ix2 i k) : BitVec 32).toNat, h5 _⟩)
  (D : Fin 512 → ℕ → ℝ) (hD : ∀ i (k : Fin 20), x6 (ix2 i k) = ((D i k.val : ℝ) : EReal))
include h1 hn

/-- The mean of the neighbours' softmaxes. -/
theorem v79_real (i : Fin 512) (j : Fin 8192) :
    val_main_v79 (F := Ideal) x1 x5 (ix2 i j) = ((mean0 (wM (num nbr)) l0 i j.val : ℝ) : EReal) := by
  rw [val_main_v79_apply, val_main_v77_apply, val_main_cst_18_apply, val_main_v78_apply, val_main_cst_19_apply,
    sum_real (f := fun k : Fin 20 => val_main_v76 (F := Ideal) x1 x5 (idx_main_v77 (ix2 i j) k))
      (g := fun k => Real.exp (l0 (nbr i k.val) j.val - lse (l0 (nbr i k.val)))) (fun k => by
        rw [show idx_main_v77 (ix2 i j) k = ix3 i k j from funext fun a => match a with | ⟨0, _⟩ => rfl | ⟨1, _⟩ => rfl | ⟨2, _⟩ => rfl,
          v76_real x1 x5 (fun i k => l0 (nbr i k.val)) (v30_real x1 x5 h5 l0 nbr hn h1)]),
    ← Finset.sum_range (fun k => Real.exp (l0 (nbr i k) j.val - lse (l0 (nbr i k))))]
  show Ideal.div (Ideal.ofBits .f32 0x00000000#32 + _) (Ideal.ofBits .f32 0x41A00000#32) = _
  rw [ofBits_zero, zero_add, ofBits_20, div_real _ (by norm_num), mean0_eq]

include h2 hD

/-- The weighted sum of the stacked softmaxes. -/
theorem v65_real (i : Fin 512) (j : Fin 8192) :
    val_main_v65 (F := Ideal) x1 x2 x5 x6 (ix2 i j) = ((mixed (wA (num nbr) D) l0 l1 i j.val : ℝ) : EReal) := by
  rw [val_main_v65_apply, val_main_cst_14_apply,
    sum_real (f := fun k : Fin 40 => val_main_v64 (F := Ideal) x1 x2 x5 x6 (idx_main_v65 (ix2 i j) k))
      (g := fun k => Real.exp (stacked nbr l0 l1 i k.val j.val - lse (stacked nbr l0 l1 i k.val)) * wk (D i) (k.val / 2)) (fun k => by
        rw [show idx_main_v65 (ix2 i j) k = ix3 i k j from funext fun a => match a with | ⟨0, _⟩ => rfl | ⟨1, _⟩ => rfl | ⟨2, _⟩ => rfl,
          val_main_v64_apply, v61_real x1 x2 x5 (fun i k => stacked nbr l0 l1 i k.val) (v35_real x1 x2 x5 h5 l0 l1 h1 h2 nbr hn),
          val_main_v63_apply, val_main_v62_apply,
          show idx_main_v62 (idx_main_v63 (ix3 i k j)) = ix2 i k from funext fun a => match a with | ⟨0, _⟩ => rfl | ⟨1, _⟩ => rfl,
          v50_real x6 D hD, EReal.coe_mul]
        rfl),
    ← Finset.sum_range (fun k => Real.exp (stacked nbr l0 l1 i k j.val - lse (stacked nbr l0 l1 i k)) * wk (D i) (k / 2)), mixed_eq]
  exact (congrArg (· + _) ofBits_zero).trans (zero_add _)

end

end Cert.Proof.RefMix

end
-- ==== Proof.RefValues.lean ====
/-
  The reference's three results over the reals.
-/
module

public import proofs.«01_k».proof.Proof.RefMix

@[expose] public section

set_option maxRecDepth 16384

noncomputable section

namespace Cert.Proof.RefValues

open Cert.ReferenceIdeal Cert.ReferenceIdeal.Gen Cert.ReferenceIdeal.Read Cert.Proof.Reals Cert.Proof.RefRows Cert.Proof.RefMix
open Cert.Proof.Rows (cc logit)
open Cert.Proof.Sums (num ce_eq kl_eq nce_eq)
open Cert.Proof.Entries (wA wM)
open Cert.Proof.LossRows (mixed mean0 alpha beta alpha_eq beta_eq ceOf klOf)
open Idealize.ShloMosaic

/-- Two real sums, one inside the other. -/
theorem sum2_real {f : Fin 512 → Fin 8192 → EReal} {g : Fin 512 → ℕ → ℝ} (h : ∀ i j, f i j = ((g i j.val : ℝ) : EReal)) :
    ∑ i, ∑ j, f i j = ((∑ i, ∑ j ∈ Finset.range 8192, g i j : ℝ) : EReal) :=
  sum_real fun i => by rw [Finset.sum_range]; exact sum_real fun j => h i j

/-! ### The logits -/

section
variable (x0 : Vec Ideal S512x2048 .f32) (x8 : Vec Ideal S8192x2048 .f32) (u : Fin 512 → Fin 2048 → ℝ) (f : ℕ → Fin 2048 → ℝ)
  (hu : ∀ i (k : Fin 2048), Ideal.div (x0 (ix2 i k)) (Ideal.sqrt (∑ k : Fin 2048, x0 (ix2 i k) * x0 (ix2 i k))) = ((u i k : ℝ) : EReal))
  (hf : ∀ (j : Fin 8192) k, x8 (ix2 j k) = ((f j.val k : ℝ) : EReal))
include hu

theorem v2_real (i : Fin 512) (k : Fin 2048) : val_main_v2 (F := Ideal) x0 (ix2 i k) = ((u i k : ℝ) : EReal) := by
  have h1 : val_main_call0_v1 (F := Ideal) x0 (ix1 i) = ∑ k : Fin 2048, x0 (ix2 i k) * x0 (ix2 i k) := by
    rw [val_main_call0_v1_apply, val_main_call0_cst_apply]
    refine (congrArg (· + _) ofBits_zero).trans ((zero_add _).trans (Finset.sum_congr rfl fun k _ => ?_))
    rw [show idx_main_call0_v1 (ix1 i) k = ix2 i k from funext fun a => match a with | ⟨0, _⟩ => rfl | ⟨1, _⟩ => rfl, val_main_call0_v0_apply]
    rfl
  rw [val_main_v2_apply, val_main_v1_apply, val_main_v0_apply, val_main_call0_v2_apply,
    show idx_main_call0_v2 (idx_main_v1 (ix2 i k)) = ix1 i from funext fun a => match a with | ⟨0, _⟩ => rfl, h1]
  exact hu i k

include hf

/-- The logits of the reference. -/
theorem v6_real (i : Fin 512) (j : Fin 8192) : val_main_v6 (F := Ideal) x0 x8 (ix2 i j) = ((logit u f i j.val : ℝ) : EReal) := by
  rw [val_main_v6_apply, val_main_v5_apply, val_main_cst_apply, val_main_v4_apply,
    sum_real (f := fun k : Fin 2048 => val_main_v2 (F := Ideal) x0 (lidx_main_v4 (ix2 i j) k) * val_main_v3 (F := Ideal) x8 (ridx_main_v4 (ix2 i j) k))
      (g := fun k => u i k * f j.val k) (fun k => by
        rw [show lidx_main_v4 (ix2 i j) k = ix2 i k from funext fun a => match a with | ⟨0, _⟩ => rfl | ⟨1, _⟩ => rfl, v2_real x0 u hu, val_main_v3_apply,
          show idx_main_v3 (ridx_main_v4 (ix2 i j) k) = ix2 j k from funext fun a => match a with | ⟨0, _⟩ => rfl | ⟨1, _⟩ => rfl, hf, EReal.coe_mul])]
  show Ideal.div _ (Ideal.ofBits .f32 0x3D4CCCCD#32) = _
  rw [ofBits_temp, div_real _ (by norm_num)]
  congr 1
  unfold logit cc
  ring

/-- The first result. -/
theorem v12_real (x3 : Vec Ideal S512 .i32) (h3 : ∀ y, (x3 y : BitVec 32).toNat < 8192) (y : S_.Idx) :
    val_main_v12 (F := Ideal) x0 x3 x8 y
      = (((∑ i, (lse (logit u f i) - logit u f i (x3 (ix1 i) : BitVec 32).toNat)) * (1 / 512) : ℝ) : EReal) := by
  have h10 : val_main_v10 (F := Ideal) x0 x3 x8 y
      = ((∑ i : Fin 512, (logit u f i (x3 (ix1 i) : BitVec 32).toNat - lse (logit u f i)) : ℝ) : EReal) := by
    rw [val_main_v10_apply, val_main_cst_0_apply, sum_idx2]
    refine (congrArg (· + _) ofBits_zero).trans ((zero_add _).trans (sum_real fun i => ?_))
    rw [Fin.sum_univ_one, RefGather.v9_at x0 x8 x3 h3, v7_eq, v86_real _ _ (v6_real x0 x8 u f hu hf)]
  rw [val_main_v12_apply, val_main_v11_apply, val_main_cst_1_apply, h10]
  show -(Ideal.div _ (Ideal.ofBits .f32 0x44000000#32)) = _
  rw [ofBits_512, div_real _ (by norm_num), ← EReal.coe_neg, nce_eq]

end

/-! ### The two losses -/

section
variable (x1 x2 : Vec Ideal S512x8192 .f32) (x3 : Vec Ideal S512 .i32) (x5 : Vec Ideal S512x20 .i32) (x6 : Vec Ideal S512x20 .f32)
  (h3 : ∀ y, (x3 y : BitVec 32).toNat < 8192) (h5 : ∀ y, (x5 y : BitVec 32).toNat < 512)
  (l0 l1 : Fin 512 → ℕ → ℝ) (h1 : ∀ i (j : Fin 8192), x1 (ix2 i j) = ((l0 i j.val : ℝ) : EReal))
  (h2 : ∀ i (j : Fin 8192), x2 (ix2 i j) = ((l1 i j.val : ℝ) : EReal))
  (nbr : Fin 512 → ℕ → Fin 512) (hn : ∀ i (k : Fin 20), nbr i k.val = ⟨(x5 (ix2 i k) : BitVec 32).toNat, h5 _⟩)
  (D : Fin 512 → ℕ → ℝ) (hD : ∀ i (k : Fin 20), x6 (ix2 i k) = ((D i k.val : ℝ) : EReal))
include h1 h2 hn

section
include h3 hD

theorem v87_real (i : Fin 512) (j : Fin 8192) : val_main_v87 (F := Ideal) x1 x2 x3 x5 x6 (ix2 i j)
    = ((-(alpha * (if j.val = (x3 (ix1 i) : BitVec 32).toNat then 1 else 0) + beta * mixed (wA (num nbr) D) l0 l1 i j.val) * (l0 i j.val - lse (l0 i)) : ℝ) : EReal) := by
  rw [val_main_v87_apply, val_main_v85_apply, val_main_v84_apply, val_main_v81_apply, val_main_v80_apply, val_main_cst_20_apply,
    val_main_v83_apply, val_main_v82_apply, val_main_cst_21_apply, RefGather.v29_apply x3 h3, v65_real x1 x2 x5 x6 h5 l0 l1 h1 h2 nbr hn D hD,
    v86_real x1 l0 h1]
  show -(Ideal.ofBits .f32 0x3F666666#32 * _ + Ideal.ofBits .f32 0x3DCCCCCD#32 * _) * _ = _
  rw [alpha_eq, beta_eq, ← EReal.coe_mul, ← EReal.coe_mul, ← EReal.coe_add, ← EReal.coe_neg, ← EReal.coe_mul]

/-- The second result. -/
theorem v104_real (y : S_.Idx) : val_main_v104 (F := Ideal) x1 x2 x3 x5 x6 y
    = ((ceOf (wA (num nbr) D) l0 l1 (fun i => (x3 (ix1 i) : BitVec 32).toNat) : ℝ) : EReal) := by
  have h88 : ∀ i : Fin 512, val_main_v88 (F := Ideal) x1 x2 x3 x5 x6 (ix1 i)
      = ∑ j : Fin 8192, val_main_v87 (F := Ideal) x1 x2 x3 x5 x6 (ix2 i j) := fun i => by
    rw [val_main_v88_apply, val_main_cst_22_apply]
    refine (congrArg (· + _) ofBits_zero).trans ((zero_add _).trans (Finset.sum_congr rfl fun k _ => ?_))
    exact congrArg _ (funext fun a => match a with | ⟨0, _⟩ => rfl | ⟨1, _⟩ => rfl)
  have h89 : val_main_v89 (F := Ideal) x1 x2 x3 x5 x6 y
      = ∑ i : Fin 512, ∑ j : Fin 8192, val_main_v87 (F := Ideal) x1 x2 x3 x5 x6 (ix2 i j) := by
    rw [val_main_v89_apply, val_main_cst_23_apply, sum_idx1]
    exact (congrArg (· + _) ofBits_zero).trans ((zero_add _).trans (Finset.sum_congr rfl fun i _ => h88 i))
  rw [val_main_v104_apply, val_main_v90_apply, val_main_cst_24_apply, val_main_cst_31_apply, h89,
    sum2_real (g := fun i n => -(alpha * (if n = (x3 (ix1 i) : BitVec 32).toNat then 1 else 0) + beta * mixed (wA (num nbr) D) l0 l1 i n) * (l0 i n - lse (l0 i)))
      (v87_real x1 x2 x3 x5 x6 h3 h5 l0 l1 h1 h2 nbr hn D hD)]
  show Ideal.ofBits .f32 0x3F800000#32 * Ideal.div _ (Ideal.ofBits .f32 0x44000000#32) = _
  rw [ofBits_one, ofBits_512, div_real _ (by norm_num), ce_eq _ _ _ _ (fun i => h3 _), EReal.coe_one, one_mul]

end

theorem v101_real (i : Fin 512) (j : Fin 8192) : val_main_v101 (F := Ideal) x1 x2 x5 (ix2 i j)
    = (((if 0 < mean0 (wM (num nbr)) l0 i j.val then mean0 (wM (num nbr)) l0 i j.val * Real.log (mean0 (wM (num nbr)) l0 i j.val) else 0)
      - mean0 (wM (num nbr)) l0 i j.val * (l1 i j.val - lse (l1 i)) : ℝ) : EReal) := by
  have hc : FloatOps.cmpf (F := Ideal) .ogt (((mean0 (wM (num nbr)) l0 i j.val : ℝ) : EReal)) (Ideal.ofBits .f32 0x00000000#32)
      = BitVec.ofBool (decide (0 < mean0 (wM (num nbr)) l0 i j.val)) := by
    rw [ofBits_zero]
    show BitVec.ofBool (decide _) = _
    congr 1
    exact decide_eq_decide.2 EReal.coe_pos
  rw [val_main_v101_apply, val_main_v99_apply, val_main_v93_apply, val_main_v92_apply, val_main_cst_25_apply, val_main_v98_apply, val_main_v97_apply,
    val_main_v96_apply, val_main_v95_apply, val_main_v94_apply, val_main_cst_26_apply, val_main_call8_v1_apply, val_main_v100_apply, v91_eq,
    v86_real x2 l1 h2, v79_real x1 x5 h5 l0 h1 nbr hn]
  by_cases h : 0 < mean0 (wM (num nbr)) l0 i j.val
  · have hc' := hc.trans (congrArg BitVec.ofBool (decide_eq_true h))
    refine (congrArg₂ (fun c d => FloatOps.subf (F := Ideal) (φ := .f32) (Scalar.select c (FloatOps.mulf (F := Ideal) (φ := .f32) _ (FloatOps.hostUnary (F := Ideal) (φ := .f32) .log (Scalar.select d _ _))) _) _) hc' hc').trans ?_
    have hl : FloatOps.hostUnary (F := Ideal) (φ := .f32) .log ((mean0 (wM (num nbr)) l0 i j.val : ℝ) : EReal)
        = ((Real.log (mean0 (wM (num nbr)) l0 i j.val) : ℝ) : EReal) := (show _ = Ideal.log _ from rfl).trans (log_real h)
    show (_ : EReal) * FloatOps.hostUnary (F := Ideal) (φ := .f32) .log ((mean0 (wM (num nbr)) l0 i j.val : ℝ) : EReal) - _ * _ = _
    rw [hl, if_pos h, ← EReal.coe_mul, ← EReal.coe_mul, ← EReal.coe_sub]
  · have hc' := hc.trans (congrArg BitVec.ofBool (decide_eq_false h))
    refine (congrArg (fun c => FloatOps.subf (F := Ideal) (φ := .f32) (Scalar.select c _ _) _) hc').trans ?_
    show Ideal.ofBits .f32 0x00000000#32 - (_ : EReal) * _ = _
    rw [ofBits_zero, if_neg h, ← EReal.coe_mul, ← EReal.coe_zero, ← EReal.coe_sub]

/-- The divergence. -/
theorem v103_real (y : S_.Idx) : val_main_v103 (F := Ideal) x1 x2 x5 y = ((klOf (wM (num nbr)) l0 l1 : ℝ) : EReal) := by
  have h102 : val_main_v102 (F := Ideal) x1 x2 x5 y = ∑ i : Fin 512, ∑ j : Fin 8192, val_main_v101 (F := Ideal) x1 x2 x5 (ix2 i j) := by
    rw [val_main_v102_apply, val_main_cst_29_apply, sum_idx2]
    exact (congrArg (· + _) ofBits_zero).trans (zero_add _)
  rw [val_main_v103_apply, val_main_cst_30_apply, h102,
    sum2_real (g := fun i n => (if 0 < mean0 (wM (num nbr)) l0 i n then mean0 (wM (num nbr)) l0 i n * Real.log (mean0 (wM (num nbr)) l0 i n) else 0)
      - mean0 (wM (num nbr)) l0 i n * (l1 i n - lse (l1 i))) (v101_real x1 x2 x5 h5 l0 l1 h1 h2 nbr hn)]
  show Ideal.div _ (Ideal.ofBits .f32 0x44000000#32) = _
  rw [ofBits_512, div_real _ (by norm_num), kl_eq]

/-- The third result. -/
theorem v106_real (x7 : Vec Ideal S_ .f32) (y : S_.Idx) :
    val_main_v106 (F := Ideal) x1 x2 x5 x7 y = x7 y * ((klOf (wM (num nbr)) l0 l1 : ℝ) : EReal) := by
  rw [val_main_v106_apply, val_main_v105_apply, val_main_cst_32_apply, v103_real x1 x2 x5 h5 l0 l1 h1 h2 nbr hn]
  show Ideal.ofBits .f32 0x3F800000#32 * _ * _ = _
  rw [ofBits_one, EReal.coe_one, one_mul]

end

end Cert.Proof.RefValues

end
-- ==== Proof.Value.lean ====
/-
  The value claim: over the reals the kernel and the reference end with equal results.
-/
module

public import proofs.«01_k».proof.Defs
public import proofs.«01_k».proof.Proof.Frames
public import proofs.«01_k».proof.Proof.Regular
public import proofs.«01_k».proof.Proof.KernelValues
public import proofs.«01_k».proof.Proof.RefValues

@[expose] public section

set_option maxRecDepth 16384

noncomputable section

namespace Cert.Proof.Value

open Idealize.ShloMosaic Idealize.SL.Sem
open Cert.KernelIdeal Cert.Proof.Values Cert.Proof.KernelValues Cert.Proof.Regular Cert.Proof.Reals
open Cert.Proof.Sums (num)
open Cert.ReferenceIdeal.Read (val_main_v12 val_main_v104 val_main_v106)

/-- An extended real that is a real is its real part. -/
theorem coe_toReal {x : EReal} (h : ∃ v : ℝ, x = (v : EReal)) : x = ((x.toReal : ℝ) : EReal) := by
  obtain ⟨v, rfl⟩ := h
  rw [EReal.toReal_coe]

/-- A matrix's real part, its columns numbered by naturals. -/
def mat {a b : ℕ} (x : Fin a → Fin b → EReal) (i : Fin a) (n : ℕ) : ℝ := if h : n < b then (x i ⟨n, h⟩).toReal else 0
/-- A matrix's real part, its rows numbered by naturals. -/
def matRow {a b : ℕ} (x : Fin a → Fin b → EReal) (n : ℕ) (k : Fin b) : ℝ := if h : n < a then (x ⟨n, h⟩ k).toReal else 0

theorem mat_apply {a b : ℕ} (x : Fin a → Fin b → EReal) (i : Fin a) (j : Fin b) : mat x i j.val = (x i j).toReal := dif_pos j.isLt
theorem matRow_apply {a b : ℕ} (x : Fin a → Fin b → EReal) (j : Fin a) (k : Fin b) : matRow x j.val k = (x j k).toReal := dif_pos j.isLt

/-- The neighbours as row numbers. -/
def near (a5 : Vec Ideal S512x20 .i32) (h : ∀ y, (a5 y : BitVec 32).toNat < 512) (i : Fin 512) (n : ℕ) : Fin 512 :=
  if hn : n < 20 then ⟨(a5 (ix2 i (⟨n, hn⟩ : Fin 20)) : BitVec 32).toNat, h _⟩ else 0
theorem near_apply (a5 : Vec Ideal S512x20 .i32) (h : ∀ y, (a5 y : BitVec 32).toNat < 512) (i : Fin 512) (k : Fin 20) :
    near a5 h i k.val = ⟨(a5 (ix2 i k) : BitVec 32).toNat, h _⟩ := dif_pos k.isLt

/-- The reference's three results, of the kernel's arguments, are the kernel's. -/
theorem same (m : (ℓ : Loc nD τ sig) → Buf (Elt Ideal) ℓ) (d : Dev nD)
    (x0 : Vec Ideal S512x2048 .f32) (x1 x2 : Vec Ideal S512x8192 .f32) (x3 : Vec Ideal S512 .i32) (x5 : Vec Ideal S512x20 .i32)
    (x6 : Vec Ideal S512x20 .f32) (x7 : Vec Ideal S_ .f32) (x8 : Vec Ideal S8192x2048 .f32)
    (e0 : m (d, r main_arg0) = x0) (e1 : m (d, r main_arg1) = x1) (e2 : m (d, r main_arg2) = x2) (e3 : m (d, r main_arg3) = x3)
    (e5 : m (d, r main_arg5) = x5) (e6 : m (d, r main_arg6) = x6) (e7 : m (d, r main_arg7) = x7) (e8 : m (d, r main_arg8) = x8)
    (hs : Says x0 x1 x2 x3 x5 x6 x8) :
    val_main_v12 (F := Ideal) x0 x3 x8 = V6 m d (r main_v12)
    ∧ val_main_v104 (F := Ideal) x1 x2 x3 x5 x6 = V6 m d (r main_v13)
    ∧ val_main_v106 (F := Ideal) x1 x2 x5 x7 = V6 m d (r main_v15) := by
  have hr : ∀ i : Fin 512, ∃ k : Fin 2048, x0 (ix2 i k) ≠ (0 : EReal) := fun i => by
    obtain ⟨y, hy, hne⟩ := hs.row i
    have ey : y = ix2 i (y 1 : Fin 2048) := by
      funext a
      match a with
      | ⟨0, _⟩ => exact hy
      | ⟨1, _⟩ => rfl
    exact ⟨y 1, fun hz => hne ((congrArg x0 ey).trans hz)⟩
  choose u hu using fun i => Rows.direction (fun k => x0 (ix2 i k)) (hr i)
  have hf : ∀ (j : Fin 8192) (k : Fin 2048), x8 (ix2 j k) = ((matRow (fun (j : Fin 8192) (k : Fin 2048) => x8 (ix2 j k)) j.val k : ℝ) : EReal) :=
    fun j k => by rw [matRow_apply]; exact coe_toReal (hs.features _)
  have h1 : ∀ (i : Fin 512) (j : Fin 8192), x1 (ix2 i j) = ((mat (fun (i : Fin 512) (j : Fin 8192) => x1 (ix2 i j)) i j.val : ℝ) : EReal) :=
    fun i j => by rw [mat_apply]; exact coe_toReal (hs.logits0 _)
  have h2 : ∀ (i : Fin 512) (j : Fin 8192), x2 (ix2 i j) = ((mat (fun (i : Fin 512) (j : Fin 8192) => x2 (ix2 i j)) i j.val : ℝ) : EReal) :=
    fun i j => by rw [mat_apply]; exact coe_toReal (hs.logits1 _)
  have hD : ∀ (i : Fin 512) (k : Fin 20), x6 (ix2 i k) = ((mat (fun (i : Fin 512) (k : Fin 20) => x6 (ix2 i k)) i k.val : ℝ) : EReal) :=
    fun i k => by rw [mat_apply]; exact coe_toReal (hs.dists _)
  have hn := near_apply x5 hs.neighbors
  have ha : Args m d u (matRow fun (j : Fin 8192) (k : Fin 2048) => x8 (ix2 j k))
      (mat fun (i : Fin 512) (j : Fin 8192) => x1 (ix2 i j)) (mat fun (i : Fin 512) (j : Fin 8192) => x2 (ix2 i j))
      (fun i => (x3 (ix1 i) : BitVec 32).toNat) (num (near x5 hs.neighbors)) (mat fun (i : Fin 512) (k : Fin 20) => x6 (ix2 i k)) :=
    { dir := fun i k => by rw [e0]; exact (Rows.pay5_apply x0 i k).trans (hu i k).1
      feat := fun j k => by rw [e8]; exact hf j k
      lg0 := fun i j => by rw [e1]; exact h1 i j
      lg1 := fun i j => by rw [e2]; exact h2 i j
      tgt := fun i => by rw [e3]
      tlt := fun i => hs.targets _
      nbr := fun i k h => by rw [e5]; exact (congrArg Fin.val (hn i ⟨k, h⟩)).symm
      nlt := fun y => by rw [e5]; exact hs.neighbors y
      dist := fun i k h => by rw [e6]; exact hD i ⟨k, h⟩ }
  refine ⟨funext fun y => ?_, funext fun y => ?_, funext fun y => ?_⟩
  · exact (RefValues.v12_real x0 x8 _ _ (fun i k => (hu i k).2) hf x3 hs.targets y).trans (KernelValues.v12_real ha y).symm
  · exact (RefValues.v104_real x1 x2 x3 x5 x6 hs.targets hs.neighbors _ _ h1 h2 _ hn _ hD y).trans (KernelValues.v13_real ha y).symm
  · exact (RefValues.v106_real x1 x2 x5 hs.neighbors _ _ h1 h2 _ hn x7 y).trans (KernelValues.v15_real ha x7 e7 y).symm

end Cert.Proof.Value

namespace Cert.Proof

open Idealize.ShloMosaic Idealize.SL.Sem
open Cert.Proof.Frames Cert.Proof.Regular Cert.Proof.Values

/-- The two frames the value claim needs, under its precondition. -/
theorem quiescent_kernelIdeal_regular :
    Cert.quiescent_KernelIdeal_pre_regular_inputs (hKernelIdeal := Cert.KernelIdeal.Gen.facts) (hPre_regular_inputs := factsR) := by
  intro m g hm
  exact frame (F := Ideal) m g fun d y => (regular (hR := factsR) _ _ _ _ _ _ _ _ _ (hm d)).neighbors y

theorem quiescent_referenceIdeal_regular :
    Cert.quiescent_ReferenceIdeal_pre_regular_inputs (hReferenceIdeal := Cert.ReferenceIdeal.Gen.facts) (hPre_regular_inputs := factsR) := by
  intro m g _
  exact (θ_run Cert.ReferenceIdeal.defs _ _).mono (fun r h => ⟨fun c => (h c).2.2.2, sem_eq_zero_of_no_sems (by decide) r.2⟩)
    (Cert.ReferenceIdeal.Value.run m g)

/-- From memories agreeing on the arguments, under the condition on them, the kernel and the reference end with equal results. -/
theorem algebraic : Cert.algebraic_KernelIdeal_ReferenceIdeal_pre_regular_inputs (hKernelIdeal := Cert.KernelIdeal.Gen.facts)
    (hReferenceIdeal := Cert.ReferenceIdeal.Gen.facts) (hPre_regular_inputs := factsR) := by
  intro m g m' g' hm hag
  have hs := fun c => regular (hR := factsR) _ _ _ _ _ _ _ _ _ (hm c)
  refine ⟨fun c => V6 m c (r Cert.KernelIdeal.main_v12), fun c => V6 m c (r Cert.KernelIdeal.main_v13),
    fun c => V6 m c (r Cert.KernelIdeal.main_v15), ?_, ?_⟩
  · exact (θ_run _ _ _).mono (fun x hx c => ⟨hx.1 c _ rfl, hx.1 c _ rfl, hx.1 c _ rfl, kept m x.2.mem c (hx.1 c)⟩)
      (Cert.Proof.Launch.run_main (F := Ideal) m g fun d L => Range.inRange m d (fun y => (hs d).neighbors y) L)
  · refine (θ_run Cert.ReferenceIdeal.defs _ _).mono (fun x hx c => ?_) (Cert.ReferenceIdeal.Value.run m' g')
    obtain ⟨k0, k1, k2, k3⟩ := hx c
    obtain ⟨a0, a1, a2, a3, a4, a5, a6, a7, a8⟩ := hag c
    obtain ⟨s0, s1, s2⟩ := Value.same m c _ _ _ _ _ _ _ _ a0.symm a1.symm a2.symm a3.symm a5.symm a6.symm a7.symm a8.symm
      (by rw [a0, a1, a2, a3, a5, a6, a8]; exact hs c)
    exact ⟨k0.trans ((Cert.ReferenceIdeal.Read.val_main_v12_eq (StableHlo.launchContents m' c)).trans s0),
      k1.trans ((Cert.ReferenceIdeal.Read.val_main_v104_eq (StableHlo.launchContents m' c)).trans s1),
      k2.trans ((Cert.ReferenceIdeal.Read.val_main_v106_eq (StableHlo.launchContents m' c)).trans s2), k3⟩

end Cert.Proof

end
-- ==== Proof.lean ====
module

public import proofs.«01_k».proof.Defs
public import proofs.«01_k».proof.Proof.Gen.ReferenceIdeal.Read
public import proofs.«01_k».proof.Proof.Frames
public import proofs.«01_k».proof.Proof.Value

@[expose] public section

noncomputable section

namespace Cert.Proof

open Idealize.ShloMosaic Idealize.SL.Sem Cert.Proof.Regular

/-- Everything claimed. -/
theorem claim : Cert.Claim :=
  ⟨Cert.Kernel.Gen.facts, Cert.KernelIdeal.Gen.facts, Cert.ReferenceIdeal.Gen.facts, factsN, factsR,
    quiescent_kernel, quiescent_kernelIdeal, quiescent_kernelIdeal_regular, quiescent_referenceIdeal, quiescent_referenceIdeal_regular,
    preserves, algebraic⟩

end Cert.Proof

end
